-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S416x1024 : Shape := ⟨2, ![416, 1024]⟩
abbrev S16 : Shape := ⟨1, ![16]⟩
abbrev S8 : Shape := ⟨1, ![8]⟩
abbrev S_ : Shape := ⟨0, ![]⟩
abbrev S1 : Shape := ⟨1, ![1]⟩
abbrev S24x1024 : Shape := ⟨2, ![24, 1024]⟩
abbrev S32x1024 : Shape := ⟨2, ![32, 1024]⟩
abbrev S24 : Shape := ⟨1, ![24]⟩
abbrev S24x1 : Shape := ⟨2, ![24, 1]⟩
abbrev S1x1024 : Shape := ⟨2, ![1, 1024]⟩
abbrev S32 : Shape := ⟨1, ![32]⟩
abbrev S32x1 : Shape := ⟨2, ![32, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024, .f32⟩
  | .local _ .vmem, ⟨3, _⟩ => ⟨S1024x1024, .f32⟩
  | .local _ .vmem, ⟨4, _⟩ => ⟨S416x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  (ofTc nBuf bufTy 1 116 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v11 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_4 : BitVec 32 := 0#32
  let v12 : BitVec 1 := Scalar.cmpi .eq v8 c0_i32_4
  let v13 : BitVec 1 := Scalar.andi v11 v12
  let v14 : BitVec 32 := Scalar.extui v13
  let c0_i32_6 : BitVec 32 := 0#32
  let v15 : BitVec 1 := Scalar.cmpi .ne v14 c0_i32_6
  v15

def k0_dev1 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev2 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev3 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c1_i32_45 : BitVec 32 := 1#32
  let c1_i32_49 : BitVec 32 := 1#32
  let v68 : BitVec 32 := Scalar.muli c1_i32_45 c1_i32_49
  let v69 : BitVec 32 := Scalar.addi v67 v68
  v69.toNat
def k0_dev4 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v70 : BitVec 32 := Scalar.muli v2 c8_i32_53
  let v71 : BitVec 32 := Scalar.addi c0_i32_54 v70
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_55 : BitVec 32 := 4#32
  let v72 : BitVec 32 := Scalar.muli v9 c4_i32_55
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v74 : BitVec 32 := Scalar.muli v8 c1_i32_56
  let v75 : BitVec 32 := Scalar.addi v73 v74
  v75.toNat
def k0_dev5 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v84 : BitVec 32 := Scalar.muli v2 c8_i32_65
  let v85 : BitVec 32 := Scalar.addi c0_i32_66 v84
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_67 : BitVec 32 := 4#32
  let v86 : BitVec 32 := Scalar.muli v9 c4_i32_67
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v88 : BitVec 32 := Scalar.muli v8 c1_i32_68
  let v89 : BitVec 32 := Scalar.addi v87 v88
  v89.toNat
def k0_dev6 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v98 : BitVec 32 := Scalar.muli v2 c8_i32_76
  let v99 : BitVec 32 := Scalar.addi c0_i32_77 v98
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_78 : BitVec 32 := 4#32
  let v100 : BitVec 32 := Scalar.muli v9 c4_i32_78
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v102 : BitVec 32 := Scalar.muli v8 c1_i32_79
  let v103 : BitVec 32 := Scalar.addi v101 v102
  v103.toNat
def k0_dev7 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v112 : BitVec 32 := Scalar.muli v2 c8_i32_87
  let v113 : BitVec 32 := Scalar.addi c0_i32_88 v112
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_89 : BitVec 32 := 4#32
  let v114 : BitVec 32 := Scalar.muli v9 c4_i32_89
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v116 : BitVec 32 := Scalar.muli v8 c1_i32_90
  let v117 : BitVec 32 := Scalar.addi v115 v116
  v117.toNat
def k0_dev8 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v126 : BitVec 32 := Scalar.muli v2 c8_i32_98
  let v127 : BitVec 32 := Scalar.addi c0_i32_99 v126
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_100 : BitVec 32 := 4#32
  let v128 : BitVec 32 := Scalar.muli v9 c4_i32_100
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v130 : BitVec 32 := Scalar.muli v8 c1_i32_101
  let v131 : BitVec 32 := Scalar.addi v129 v130
  v131.toNat
def k0_dev9 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v140 : BitVec 32 := Scalar.muli v2 c8_i32_108
  let v141 : BitVec 32 := Scalar.addi c0_i32_109 v140
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_110 : BitVec 32 := 4#32
  let v142 : BitVec 32 := Scalar.muli v9 c4_i32_110
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v144 : BitVec 32 := Scalar.muli v8 c1_i32_111
  let v145 : BitVec 32 := Scalar.addi v143 v144
  v145.toNat
def k0_dev10 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v154 : BitVec 32 := Scalar.muli v2 c8_i32_118
  let v155 : BitVec 32 := Scalar.addi c0_i32_119 v154
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_120 : BitVec 32 := 4#32
  let v156 : BitVec 32 := Scalar.muli v9 c4_i32_120
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v158 : BitVec 32 := Scalar.muli v8 c1_i32_121
  let v159 : BitVec 32 := Scalar.addi v157 v158
  v159.toNat
def k0_dev11 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v168 : BitVec 32 := Scalar.muli v2 c8_i32_128
  let v169 : BitVec 32 := Scalar.addi c0_i32_129 v168
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_130 : BitVec 32 := 4#32
  let v170 : BitVec 32 := Scalar.muli v9 c4_i32_130
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v172 : BitVec 32 := Scalar.muli v8 c1_i32_131
  let v173 : BitVec 32 := Scalar.addi v171 v172
  v173.toNat
def k0_dev12 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v182 : BitVec 32 := Scalar.muli v2 c8_i32_139
  let v183 : BitVec 32 := Scalar.addi c0_i32_140 v182
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_141 : BitVec 32 := 4#32
  let v184 : BitVec 32 := Scalar.muli v9 c4_i32_141
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v186 : BitVec 32 := Scalar.muli v8 c1_i32_142
  let v187 : BitVec 32 := Scalar.addi v185 v186
  v187.toNat
def k0_dev13 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v196 : BitVec 32 := Scalar.muli v2 c8_i32_149
  let v197 : BitVec 32 := Scalar.addi c0_i32_150 v196
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_151 : BitVec 32 := 4#32
  let v198 : BitVec 32 := Scalar.muli v9 c4_i32_151
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v200 : BitVec 32 := Scalar.muli v8 c1_i32_152
  let v201 : BitVec 32 := Scalar.addi v199 v200
  v201.toNat
def k0_dev14 (d0 : Dev nD) : Nat :=
  let c0_i32_160 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_159 : BitVec 32 := 8#32
  let v210 : BitVec 32 := Scalar.muli v2 c8_i32_159
  let v211 : BitVec 32 := Scalar.addi c0_i32_160 v210
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_161 : BitVec 32 := 4#32
  let v212 : BitVec 32 := Scalar.muli v9 c4_i32_161
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v214 : BitVec 32 := Scalar.muli v8 c1_i32_162
  let v215 : BitVec 32 := Scalar.addi v213 v214
  v215.toNat
def k0_dev15 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v224 : BitVec 32 := Scalar.muli v2 c8_i32_169
  let v225 : BitVec 32 := Scalar.addi c0_i32_170 v224
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_171 : BitVec 32 := 4#32
  let v226 : BitVec 32 := Scalar.muli v9 c4_i32_171
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v228 : BitVec 32 := Scalar.muli v8 c1_i32_172
  let v229 : BitVec 32 := Scalar.addi v227 v228
  v229.toNat
def k0_dev16 (d0 : Dev nD) : Nat :=
  let c0_i32_180 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_179 : BitVec 32 := 8#32
  let v238 : BitVec 32 := Scalar.muli v2 c8_i32_179
  let v239 : BitVec 32 := Scalar.addi c0_i32_180 v238
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_181 : BitVec 32 := 4#32
  let v240 : BitVec 32 := Scalar.muli v9 c4_i32_181
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v242 : BitVec 32 := Scalar.muli v8 c1_i32_182
  let v243 : BitVec 32 := Scalar.addi v241 v242
  v243.toNat
def k0_dev17 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v252 : BitVec 32 := Scalar.muli v2 c8_i32_189
  let v253 : BitVec 32 := Scalar.addi c0_i32_190 v252
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_191 : BitVec 32 := 4#32
  let v254 : BitVec 32 := Scalar.muli v9 c4_i32_191
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v256 : BitVec 32 := Scalar.muli v8 c1_i32_192
  let v257 : BitVec 32 := Scalar.addi v255 v256
  v257.toNat
def k0_dev18 (d0 : Dev nD) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199 : BitVec 32 := 8#32
  let v266 : BitVec 32 := Scalar.muli v2 c8_i32_199
  let v267 : BitVec 32 := Scalar.addi c0_i32_200 v266
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_201 : BitVec 32 := 4#32
  let v268 : BitVec 32 := Scalar.muli v9 c4_i32_201
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v270 : BitVec 32 := Scalar.muli v8 c1_i32_202
  let v271 : BitVec 32 := Scalar.addi v269 v270
  v271.toNat
def k0_dev19 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v280 : BitVec 32 := Scalar.muli v2 c8_i32_209
  let v281 : BitVec 32 := Scalar.addi c0_i32_210 v280
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_211 : BitVec 32 := 4#32
  let v282 : BitVec 32 := Scalar.muli v9 c4_i32_211
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v284 : BitVec 32 := Scalar.muli v8 c1_i32_212
  let v285 : BitVec 32 := Scalar.addi v283 v284
  v285.toNat
def k0_dev20 (d0 : Dev nD) : Nat :=
  let c0_i32_445 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_444 : BitVec 32 := 8#32
  let v627 : BitVec 32 := Scalar.muli v10 c8_i32_444
  let v628 : BitVec 32 := Scalar.addi c0_i32_445 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_446 : BitVec 32 := 4#32
  let v629 : BitVec 32 := Scalar.muli v5 c4_i32_446
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_447 : BitVec 32 := 1#32
  let v631 : BitVec 32 := Scalar.muli v8 c1_i32_447
  let v632 : BitVec 32 := Scalar.addi v630 v631
  v632.toNat
def k0_dev21 (d0 : Dev nD) : Nat :=
  let c0_i32_456 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_455 : BitVec 32 := 8#32
  let v639 : BitVec 32 := Scalar.muli v2 c8_i32_455
  let v640 : BitVec 32 := Scalar.addi c0_i32_456 v639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_457 : BitVec 32 := 4#32
  let v641 : BitVec 32 := Scalar.muli v5 c4_i32_457
  let v642 : BitVec 32 := Scalar.addi v640 v641
  let c1_i32_454 : BitVec 32 := 1#32
  let c1_i32_458 : BitVec 32 := 1#32
  let v643 : BitVec 32 := Scalar.muli c1_i32_454 c1_i32_458
  let v644 : BitVec 32 := Scalar.addi v642 v643
  v644.toNat
def k0_dev22 (d0 : Dev nD) : Nat :=
  let c0_i32_491 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_490 : BitVec 32 := 8#32
  let v688 : BitVec 32 := Scalar.muli v10 c8_i32_490
  let v689 : BitVec 32 := Scalar.addi c0_i32_491 v688
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_492 : BitVec 32 := 4#32
  let v690 : BitVec 32 := Scalar.muli v5 c4_i32_492
  let v691 : BitVec 32 := Scalar.addi v689 v690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v692 : BitVec 32 := Scalar.muli v8 c1_i32_493
  let v693 : BitVec 32 := Scalar.addi v691 v692
  v693.toNat
def k0_dev23 (d0 : Dev nD) : Nat :=
  let c0_i32_502 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_501 : BitVec 32 := 8#32
  let v700 : BitVec 32 := Scalar.muli v2 c8_i32_501
  let v701 : BitVec 32 := Scalar.addi c0_i32_502 v700
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_503 : BitVec 32 := 4#32
  let v702 : BitVec 32 := Scalar.muli v5 c4_i32_503
  let v703 : BitVec 32 := Scalar.addi v701 v702
  let c1_i32_500 : BitVec 32 := 1#32
  let c1_i32_504 : BitVec 32 := 1#32
  let v704 : BitVec 32 := Scalar.muli c1_i32_500 c1_i32_504
  let v705 : BitVec 32 := Scalar.addi v703 v704
  v705.toNat
def k0_dev24 (d0 : Dev nD) : Nat :=
  let c0_i32_537 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_536 : BitVec 32 := 8#32
  let v749 : BitVec 32 := Scalar.muli v10 c8_i32_536
  let v750 : BitVec 32 := Scalar.addi c0_i32_537 v749
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_538 : BitVec 32 := 4#32
  let v751 : BitVec 32 := Scalar.muli v5 c4_i32_538
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_539 : BitVec 32 := 1#32
  let v753 : BitVec 32 := Scalar.muli v8 c1_i32_539
  let v754 : BitVec 32 := Scalar.addi v752 v753
  v754.toNat
def k0_dev25 (d0 : Dev nD) : Nat :=
  let c0_i32_548 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_547 : BitVec 32 := 8#32
  let v761 : BitVec 32 := Scalar.muli v2 c8_i32_547
  let v762 : BitVec 32 := Scalar.addi c0_i32_548 v761
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_549 : BitVec 32 := 4#32
  let v763 : BitVec 32 := Scalar.muli v5 c4_i32_549
  let v764 : BitVec 32 := Scalar.addi v762 v763
  let c1_i32_546 : BitVec 32 := 1#32
  let c1_i32_550 : BitVec 32 := 1#32
  let v765 : BitVec 32 := Scalar.muli c1_i32_546 c1_i32_550
  let v766 : BitVec 32 := Scalar.addi v764 v765
  v766.toNat
def k0_dev26 (d0 : Dev nD) : Nat :=
  let c0_i32_583 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_582 : BitVec 32 := 8#32
  let v810 : BitVec 32 := Scalar.muli v10 c8_i32_582
  let v811 : BitVec 32 := Scalar.addi c0_i32_583 v810
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_584 : BitVec 32 := 4#32
  let v812 : BitVec 32 := Scalar.muli v5 c4_i32_584
  let v813 : BitVec 32 := Scalar.addi v811 v812
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_585 : BitVec 32 := 1#32
  let v814 : BitVec 32 := Scalar.muli v8 c1_i32_585
  let v815 : BitVec 32 := Scalar.addi v813 v814
  v815.toNat
def k0_dev27 (d0 : Dev nD) : Nat :=
  let c0_i32_594 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_593 : BitVec 32 := 8#32
  let v822 : BitVec 32 := Scalar.muli v2 c8_i32_593
  let v823 : BitVec 32 := Scalar.addi c0_i32_594 v822
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_595 : BitVec 32 := 4#32
  let v824 : BitVec 32 := Scalar.muli v5 c4_i32_595
  let v825 : BitVec 32 := Scalar.addi v823 v824
  let c1_i32_592 : BitVec 32 := 1#32
  let c1_i32_596 : BitVec 32 := 1#32
  let v826 : BitVec 32 := Scalar.muli c1_i32_592 c1_i32_596
  let v827 : BitVec 32 := Scalar.addi v825 v826
  v827.toNat
def k0_dev28 (d0 : Dev nD) : Nat :=
  let c0_i32_629 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_628 : BitVec 32 := 8#32
  let v871 : BitVec 32 := Scalar.muli v10 c8_i32_628
  let v872 : BitVec 32 := Scalar.addi c0_i32_629 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_630 : BitVec 32 := 4#32
  let v873 : BitVec 32 := Scalar.muli v5 c4_i32_630
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_631 : BitVec 32 := 1#32
  let v875 : BitVec 32 := Scalar.muli v8 c1_i32_631
  let v876 : BitVec 32 := Scalar.addi v874 v875
  v876.toNat
def k0_dev29 (d0 : Dev nD) : Nat :=
  let c0_i32_640 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_639 : BitVec 32 := 8#32
  let v883 : BitVec 32 := Scalar.muli v2 c8_i32_639
  let v884 : BitVec 32 := Scalar.addi c0_i32_640 v883
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_641 : BitVec 32 := 4#32
  let v885 : BitVec 32 := Scalar.muli v5 c4_i32_641
  let v886 : BitVec 32 := Scalar.addi v884 v885
  let c1_i32_638 : BitVec 32 := 1#32
  let c1_i32_642 : BitVec 32 := 1#32
  let v887 : BitVec 32 := Scalar.muli c1_i32_638 c1_i32_642
  let v888 : BitVec 32 := Scalar.addi v886 v887
  v888.toNat
def k0_dev30 (d0 : Dev nD) : Nat :=
  let c0_i32_675 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_674 : BitVec 32 := 8#32
  let v932 : BitVec 32 := Scalar.muli v10 c8_i32_674
  let v933 : BitVec 32 := Scalar.addi c0_i32_675 v932
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_676 : BitVec 32 := 4#32
  let v934 : BitVec 32 := Scalar.muli v5 c4_i32_676
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_677 : BitVec 32 := 1#32
  let v936 : BitVec 32 := Scalar.muli v8 c1_i32_677
  let v937 : BitVec 32 := Scalar.addi v935 v936
  v937.toNat
def k0_dev31 (d0 : Dev nD) : Nat :=
  let c0_i32_686 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_685 : BitVec 32 := 8#32
  let v944 : BitVec 32 := Scalar.muli v2 c8_i32_685
  let v945 : BitVec 32 := Scalar.addi c0_i32_686 v944
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_687 : BitVec 32 := 4#32
  let v946 : BitVec 32 := Scalar.muli v5 c4_i32_687
  let v947 : BitVec 32 := Scalar.addi v945 v946
  let c1_i32_684 : BitVec 32 := 1#32
  let c1_i32_688 : BitVec 32 := 1#32
  let v948 : BitVec 32 := Scalar.muli c1_i32_684 c1_i32_688
  let v949 : BitVec 32 := Scalar.addi v947 v948
  v949.toNat
def k0_dev32 (d0 : Dev nD) : Nat :=
  let c0_i32_721 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_720 : BitVec 32 := 8#32
  let v993 : BitVec 32 := Scalar.muli v10 c8_i32_720
  let v994 : BitVec 32 := Scalar.addi c0_i32_721 v993
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_722 : BitVec 32 := 4#32
  let v995 : BitVec 32 := Scalar.muli v5 c4_i32_722
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_723 : BitVec 32 := 1#32
  let v997 : BitVec 32 := Scalar.muli v8 c1_i32_723
  let v998 : BitVec 32 := Scalar.addi v996 v997
  v998.toNat
def k0_dev33 (d0 : Dev nD) : Nat :=
  let c0_i32_732 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_731 : BitVec 32 := 8#32
  let v1005 : BitVec 32 := Scalar.muli v2 c8_i32_731
  let v1006 : BitVec 32 := Scalar.addi c0_i32_732 v1005
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_733 : BitVec 32 := 4#32
  let v1007 : BitVec 32 := Scalar.muli v5 c4_i32_733
  let v1008 : BitVec 32 := Scalar.addi v1006 v1007
  let c1_i32_730 : BitVec 32 := 1#32
  let c1_i32_734 : BitVec 32 := 1#32
  let v1009 : BitVec 32 := Scalar.muli c1_i32_730 c1_i32_734
  let v1010 : BitVec 32 := Scalar.addi v1008 v1009
  v1010.toNat
def k0_dev34 (d0 : Dev nD) : Nat :=
  let c0_i32_767 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_766 : BitVec 32 := 8#32
  let v1054 : BitVec 32 := Scalar.muli v10 c8_i32_766
  let v1055 : BitVec 32 := Scalar.addi c0_i32_767 v1054
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_768 : BitVec 32 := 4#32
  let v1056 : BitVec 32 := Scalar.muli v5 c4_i32_768
  let v1057 : BitVec 32 := Scalar.addi v1055 v1056
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_769 : BitVec 32 := 1#32
  let v1058 : BitVec 32 := Scalar.muli v8 c1_i32_769
  let v1059 : BitVec 32 := Scalar.addi v1057 v1058
  v1059.toNat
def k0_dev35 (d0 : Dev nD) : Nat :=
  let c0_i32_778 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_777 : BitVec 32 := 8#32
  let v1066 : BitVec 32 := Scalar.muli v2 c8_i32_777
  let v1067 : BitVec 32 := Scalar.addi c0_i32_778 v1066
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_779 : BitVec 32 := 4#32
  let v1068 : BitVec 32 := Scalar.muli v5 c4_i32_779
  let v1069 : BitVec 32 := Scalar.addi v1067 v1068
  let c1_i32_776 : BitVec 32 := 1#32
  let c1_i32_780 : BitVec 32 := 1#32
  let v1070 : BitVec 32 := Scalar.muli c1_i32_776 c1_i32_780
  let v1071 : BitVec 32 := Scalar.addi v1069 v1070
  v1071.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_7 : BitVec 32 := 1#32
  let v16 : BitVec 1 := Scalar.cmpi .eq v2 c1_i32_7
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v17 : BitVec 1 := Scalar.cmpi .eq v8 c0_i32_8
  let v18 : BitVec 1 := Scalar.andi v16 v17
  let v19 : BitVec 32 := Scalar.extui v18
  let c0_i32_10 : BitVec 32 := 0#32
  let v20 : BitVec 1 := Scalar.cmpi .ne v19 c0_i32_10
  v20

def k0_dev36 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev37 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev38 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c1_i32_45 : BitVec 32 := 1#32
  let c1_i32_49 : BitVec 32 := 1#32
  let v68 : BitVec 32 := Scalar.muli c1_i32_45 c1_i32_49
  let v69 : BitVec 32 := Scalar.addi v67 v68
  v69.toNat
def k0_dev39 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v70 : BitVec 32 := Scalar.muli v2 c8_i32_53
  let v71 : BitVec 32 := Scalar.addi c0_i32_54 v70
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_55 : BitVec 32 := 4#32
  let v72 : BitVec 32 := Scalar.muli v9 c4_i32_55
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v74 : BitVec 32 := Scalar.muli v8 c1_i32_56
  let v75 : BitVec 32 := Scalar.addi v73 v74
  v75.toNat
def k0_dev40 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v84 : BitVec 32 := Scalar.muli v2 c8_i32_64
  let v85 : BitVec 32 := Scalar.addi c0_i32_65 v84
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_66 : BitVec 32 := 4#32
  let v86 : BitVec 32 := Scalar.muli v9 c4_i32_66
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v88 : BitVec 32 := Scalar.muli v8 c1_i32_67
  let v89 : BitVec 32 := Scalar.addi v87 v88
  v89.toNat
def k0_dev41 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v98 : BitVec 32 := Scalar.muli v2 c8_i32_74
  let v99 : BitVec 32 := Scalar.addi c0_i32_75 v98
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_76 : BitVec 32 := 4#32
  let v100 : BitVec 32 := Scalar.muli v9 c4_i32_76
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v102 : BitVec 32 := Scalar.muli v8 c1_i32_77
  let v103 : BitVec 32 := Scalar.addi v101 v102
  v103.toNat
def k0_dev42 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v112 : BitVec 32 := Scalar.muli v2 c8_i32_84
  let v113 : BitVec 32 := Scalar.addi c0_i32_85 v112
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_86 : BitVec 32 := 4#32
  let v114 : BitVec 32 := Scalar.muli v9 c4_i32_86
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v116 : BitVec 32 := Scalar.muli v8 c1_i32_87
  let v117 : BitVec 32 := Scalar.addi v115 v116
  v117.toNat
def k0_dev43 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v126 : BitVec 32 := Scalar.muli v2 c8_i32_94
  let v127 : BitVec 32 := Scalar.addi c0_i32_95 v126
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_96 : BitVec 32 := 4#32
  let v128 : BitVec 32 := Scalar.muli v9 c4_i32_96
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v130 : BitVec 32 := Scalar.muli v8 c1_i32_97
  let v131 : BitVec 32 := Scalar.addi v129 v130
  v131.toNat
def k0_dev44 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v140 : BitVec 32 := Scalar.muli v2 c8_i32_103
  let v141 : BitVec 32 := Scalar.addi c0_i32_104 v140
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_105 : BitVec 32 := 4#32
  let v142 : BitVec 32 := Scalar.muli v9 c4_i32_105
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v144 : BitVec 32 := Scalar.muli v8 c1_i32_106
  let v145 : BitVec 32 := Scalar.addi v143 v144
  v145.toNat
def k0_dev45 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v154 : BitVec 32 := Scalar.muli v2 c8_i32_112
  let v155 : BitVec 32 := Scalar.addi c0_i32_113 v154
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_114 : BitVec 32 := 4#32
  let v156 : BitVec 32 := Scalar.muli v9 c4_i32_114
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v158 : BitVec 32 := Scalar.muli v8 c1_i32_115
  let v159 : BitVec 32 := Scalar.addi v157 v158
  v159.toNat
def k0_dev46 (d0 : Dev nD) : Nat :=
  let c0_i32_122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_121 : BitVec 32 := 8#32
  let v168 : BitVec 32 := Scalar.muli v2 c8_i32_121
  let v169 : BitVec 32 := Scalar.addi c0_i32_122 v168
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_123 : BitVec 32 := 4#32
  let v170 : BitVec 32 := Scalar.muli v9 c4_i32_123
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v172 : BitVec 32 := Scalar.muli v8 c1_i32_124
  let v173 : BitVec 32 := Scalar.addi v171 v172
  v173.toNat
def k0_dev47 (d0 : Dev nD) : Nat :=
  let c0_i32_132 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_131 : BitVec 32 := 8#32
  let v182 : BitVec 32 := Scalar.muli v2 c8_i32_131
  let v183 : BitVec 32 := Scalar.addi c0_i32_132 v182
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_133 : BitVec 32 := 4#32
  let v184 : BitVec 32 := Scalar.muli v9 c4_i32_133
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v186 : BitVec 32 := Scalar.muli v8 c1_i32_134
  let v187 : BitVec 32 := Scalar.addi v185 v186
  v187.toNat
def k0_dev48 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v196 : BitVec 32 := Scalar.muli v2 c8_i32_140
  let v197 : BitVec 32 := Scalar.addi c0_i32_141 v196
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_142 : BitVec 32 := 4#32
  let v198 : BitVec 32 := Scalar.muli v9 c4_i32_142
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v200 : BitVec 32 := Scalar.muli v8 c1_i32_143
  let v201 : BitVec 32 := Scalar.addi v199 v200
  v201.toNat
def k0_dev49 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v210 : BitVec 32 := Scalar.muli v2 c8_i32_149
  let v211 : BitVec 32 := Scalar.addi c0_i32_150 v210
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_151 : BitVec 32 := 4#32
  let v212 : BitVec 32 := Scalar.muli v9 c4_i32_151
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v214 : BitVec 32 := Scalar.muli v8 c1_i32_152
  let v215 : BitVec 32 := Scalar.addi v213 v214
  v215.toNat
def k0_dev50 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v224 : BitVec 32 := Scalar.muli v2 c8_i32_158
  let v225 : BitVec 32 := Scalar.addi c0_i32_159 v224
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_160 : BitVec 32 := 4#32
  let v226 : BitVec 32 := Scalar.muli v9 c4_i32_160
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v228 : BitVec 32 := Scalar.muli v8 c1_i32_161
  let v229 : BitVec 32 := Scalar.addi v227 v228
  v229.toNat
def k0_dev51 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v238 : BitVec 32 := Scalar.muli v2 c8_i32_167
  let v239 : BitVec 32 := Scalar.addi c0_i32_168 v238
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_169 : BitVec 32 := 4#32
  let v240 : BitVec 32 := Scalar.muli v9 c4_i32_169
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v242 : BitVec 32 := Scalar.muli v8 c1_i32_170
  let v243 : BitVec 32 := Scalar.addi v241 v242
  v243.toNat
def k0_dev52 (d0 : Dev nD) : Nat :=
  let c0_i32_177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_176 : BitVec 32 := 8#32
  let v252 : BitVec 32 := Scalar.muli v2 c8_i32_176
  let v253 : BitVec 32 := Scalar.addi c0_i32_177 v252
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_178 : BitVec 32 := 4#32
  let v254 : BitVec 32 := Scalar.muli v9 c4_i32_178
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v256 : BitVec 32 := Scalar.muli v8 c1_i32_179
  let v257 : BitVec 32 := Scalar.addi v255 v256
  v257.toNat
def k0_dev53 (d0 : Dev nD) : Nat :=
  let c0_i32_186 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_185 : BitVec 32 := 8#32
  let v266 : BitVec 32 := Scalar.muli v2 c8_i32_185
  let v267 : BitVec 32 := Scalar.addi c0_i32_186 v266
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_187 : BitVec 32 := 4#32
  let v268 : BitVec 32 := Scalar.muli v9 c4_i32_187
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v270 : BitVec 32 := Scalar.muli v8 c1_i32_188
  let v271 : BitVec 32 := Scalar.addi v269 v270
  v271.toNat
def k0_dev54 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v280 : BitVec 32 := Scalar.muli v2 c8_i32_194
  let v281 : BitVec 32 := Scalar.addi c0_i32_195 v280
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_196 : BitVec 32 := 4#32
  let v282 : BitVec 32 := Scalar.muli v9 c4_i32_196
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v284 : BitVec 32 := Scalar.muli v8 c1_i32_197
  let v285 : BitVec 32 := Scalar.addi v283 v284
  v285.toNat
def k0_dev55 (d0 : Dev nD) : Nat :=
  let c0_i32_420 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_419 : BitVec 32 := 8#32
  let v627 : BitVec 32 := Scalar.muli v10 c8_i32_419
  let v628 : BitVec 32 := Scalar.addi c0_i32_420 v627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_421 : BitVec 32 := 4#32
  let v629 : BitVec 32 := Scalar.muli v5 c4_i32_421
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v631 : BitVec 32 := Scalar.muli v8 c1_i32_422
  let v632 : BitVec 32 := Scalar.addi v630 v631
  v632.toNat
def k0_dev56 (d0 : Dev nD) : Nat :=
  let c0_i32_431 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_430 : BitVec 32 := 8#32
  let v639 : BitVec 32 := Scalar.muli v2 c8_i32_430
  let v640 : BitVec 32 := Scalar.addi c0_i32_431 v639
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_432 : BitVec 32 := 4#32
  let v641 : BitVec 32 := Scalar.muli v5 c4_i32_432
  let v642 : BitVec 32 := Scalar.addi v640 v641
  let c1_i32_429 : BitVec 32 := 1#32
  let c1_i32_433 : BitVec 32 := 1#32
  let v643 : BitVec 32 := Scalar.muli c1_i32_429 c1_i32_433
  let v644 : BitVec 32 := Scalar.addi v642 v643
  v644.toNat
def k0_dev57 (d0 : Dev nD) : Nat :=
  let c0_i32_465 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_464 : BitVec 32 := 8#32
  let v688 : BitVec 32 := Scalar.muli v10 c8_i32_464
  let v689 : BitVec 32 := Scalar.addi c0_i32_465 v688
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_466 : BitVec 32 := 4#32
  let v690 : BitVec 32 := Scalar.muli v5 c4_i32_466
  let v691 : BitVec 32 := Scalar.addi v689 v690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v692 : BitVec 32 := Scalar.muli v8 c1_i32_467
  let v693 : BitVec 32 := Scalar.addi v691 v692
  v693.toNat
def k0_dev58 (d0 : Dev nD) : Nat :=
  let c0_i32_476 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_475 : BitVec 32 := 8#32
  let v700 : BitVec 32 := Scalar.muli v2 c8_i32_475
  let v701 : BitVec 32 := Scalar.addi c0_i32_476 v700
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_477 : BitVec 32 := 4#32
  let v702 : BitVec 32 := Scalar.muli v5 c4_i32_477
  let v703 : BitVec 32 := Scalar.addi v701 v702
  let c1_i32_474 : BitVec 32 := 1#32
  let c1_i32_478 : BitVec 32 := 1#32
  let v704 : BitVec 32 := Scalar.muli c1_i32_474 c1_i32_478
  let v705 : BitVec 32 := Scalar.addi v703 v704
  v705.toNat
def k0_dev59 (d0 : Dev nD) : Nat :=
  let c0_i32_510 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_509 : BitVec 32 := 8#32
  let v749 : BitVec 32 := Scalar.muli v10 c8_i32_509
  let v750 : BitVec 32 := Scalar.addi c0_i32_510 v749
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_511 : BitVec 32 := 4#32
  let v751 : BitVec 32 := Scalar.muli v5 c4_i32_511
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_512 : BitVec 32 := 1#32
  let v753 : BitVec 32 := Scalar.muli v8 c1_i32_512
  let v754 : BitVec 32 := Scalar.addi v752 v753
  v754.toNat
def k0_dev60 (d0 : Dev nD) : Nat :=
  let c0_i32_521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_520 : BitVec 32 := 8#32
  let v761 : BitVec 32 := Scalar.muli v2 c8_i32_520
  let v762 : BitVec 32 := Scalar.addi c0_i32_521 v761
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_522 : BitVec 32 := 4#32
  let v763 : BitVec 32 := Scalar.muli v5 c4_i32_522
  let v764 : BitVec 32 := Scalar.addi v762 v763
  let c1_i32_519 : BitVec 32 := 1#32
  let c1_i32_523 : BitVec 32 := 1#32
  let v765 : BitVec 32 := Scalar.muli c1_i32_519 c1_i32_523
  let v766 : BitVec 32 := Scalar.addi v764 v765
  v766.toNat
def k0_dev61 (d0 : Dev nD) : Nat :=
  let c0_i32_555 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_554 : BitVec 32 := 8#32
  let v810 : BitVec 32 := Scalar.muli v10 c8_i32_554
  let v811 : BitVec 32 := Scalar.addi c0_i32_555 v810
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_556 : BitVec 32 := 4#32
  let v812 : BitVec 32 := Scalar.muli v5 c4_i32_556
  let v813 : BitVec 32 := Scalar.addi v811 v812
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v814 : BitVec 32 := Scalar.muli v8 c1_i32_557
  let v815 : BitVec 32 := Scalar.addi v813 v814
  v815.toNat
def k0_dev62 (d0 : Dev nD) : Nat :=
  let c0_i32_566 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_565 : BitVec 32 := 8#32
  let v822 : BitVec 32 := Scalar.muli v2 c8_i32_565
  let v823 : BitVec 32 := Scalar.addi c0_i32_566 v822
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_567 : BitVec 32 := 4#32
  let v824 : BitVec 32 := Scalar.muli v5 c4_i32_567
  let v825 : BitVec 32 := Scalar.addi v823 v824
  let c1_i32_564 : BitVec 32 := 1#32
  let c1_i32_568 : BitVec 32 := 1#32
  let v826 : BitVec 32 := Scalar.muli c1_i32_564 c1_i32_568
  let v827 : BitVec 32 := Scalar.addi v825 v826
  v827.toNat
def k0_dev63 (d0 : Dev nD) : Nat :=
  let c0_i32_600 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_599 : BitVec 32 := 8#32
  let v871 : BitVec 32 := Scalar.muli v10 c8_i32_599
  let v872 : BitVec 32 := Scalar.addi c0_i32_600 v871
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_601 : BitVec 32 := 4#32
  let v873 : BitVec 32 := Scalar.muli v5 c4_i32_601
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v875 : BitVec 32 := Scalar.muli v8 c1_i32_602
  let v876 : BitVec 32 := Scalar.addi v874 v875
  v876.toNat
def k0_dev64 (d0 : Dev nD) : Nat :=
  let c0_i32_611 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_610 : BitVec 32 := 8#32
  let v883 : BitVec 32 := Scalar.muli v2 c8_i32_610
  let v884 : BitVec 32 := Scalar.addi c0_i32_611 v883
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_612 : BitVec 32 := 4#32
  let v885 : BitVec 32 := Scalar.muli v5 c4_i32_612
  let v886 : BitVec 32 := Scalar.addi v884 v885
  let c1_i32_609 : BitVec 32 := 1#32
  let c1_i32_613 : BitVec 32 := 1#32
  let v887 : BitVec 32 := Scalar.muli c1_i32_609 c1_i32_613
  let v888 : BitVec 32 := Scalar.addi v886 v887
  v888.toNat
def k0_dev65 (d0 : Dev nD) : Nat :=
  let c0_i32_645 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_644 : BitVec 32 := 8#32
  let v932 : BitVec 32 := Scalar.muli v10 c8_i32_644
  let v933 : BitVec 32 := Scalar.addi c0_i32_645 v932
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_646 : BitVec 32 := 4#32
  let v934 : BitVec 32 := Scalar.muli v5 c4_i32_646
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_647 : BitVec 32 := 1#32
  let v936 : BitVec 32 := Scalar.muli v8 c1_i32_647
  let v937 : BitVec 32 := Scalar.addi v935 v936
  v937.toNat
def k0_dev66 (d0 : Dev nD) : Nat :=
  let c0_i32_656 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_655 : BitVec 32 := 8#32
  let v944 : BitVec 32 := Scalar.muli v2 c8_i32_655
  let v945 : BitVec 32 := Scalar.addi c0_i32_656 v944
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_657 : BitVec 32 := 4#32
  let v946 : BitVec 32 := Scalar.muli v5 c4_i32_657
  let v947 : BitVec 32 := Scalar.addi v945 v946
  let c1_i32_654 : BitVec 32 := 1#32
  let c1_i32_658 : BitVec 32 := 1#32
  let v948 : BitVec 32 := Scalar.muli c1_i32_654 c1_i32_658
  let v949 : BitVec 32 := Scalar.addi v947 v948
  v949.toNat
def k0_dev67 (d0 : Dev nD) : Nat :=
  let c0_i32_690 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_689 : BitVec 32 := 8#32
  let v993 : BitVec 32 := Scalar.muli v10 c8_i32_689
  let v994 : BitVec 32 := Scalar.addi c0_i32_690 v993
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_691 : BitVec 32 := 4#32
  let v995 : BitVec 32 := Scalar.muli v5 c4_i32_691
  let v996 : BitVec 32 := Scalar.addi v994 v995
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v997 : BitVec 32 := Scalar.muli v8 c1_i32_692
  let v998 : BitVec 32 := Scalar.addi v996 v997
  v998.toNat
def k0_dev68 (d0 : Dev nD) : Nat :=
  let c0_i32_701 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_700 : BitVec 32 := 8#32
  let v1005 : BitVec 32 := Scalar.muli v2 c8_i32_700
  let v1006 : BitVec 32 := Scalar.addi c0_i32_701 v1005
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_702 : BitVec 32 := 4#32
  let v1007 : BitVec 32 := Scalar.muli v5 c4_i32_702
  let v1008 : BitVec 32 := Scalar.addi v1006 v1007
  let c1_i32_699 : BitVec 32 := 1#32
  let c1_i32_703 : BitVec 32 := 1#32
  let v1009 : BitVec 32 := Scalar.muli c1_i32_699 c1_i32_703
  let v1010 : BitVec 32 := Scalar.addi v1008 v1009
  v1010.toNat
def k0_dev69 (d0 : Dev nD) : Nat :=
  let c0_i32_735 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_734 : BitVec 32 := 8#32
  let v1054 : BitVec 32 := Scalar.muli v10 c8_i32_734
  let v1055 : BitVec 32 := Scalar.addi c0_i32_735 v1054
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_736 : BitVec 32 := 4#32
  let v1056 : BitVec 32 := Scalar.muli v5 c4_i32_736
  let v1057 : BitVec 32 := Scalar.addi v1055 v1056
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v1058 : BitVec 32 := Scalar.muli v8 c1_i32_737
  let v1059 : BitVec 32 := Scalar.addi v1057 v1058
  v1059.toNat
def k0_dev70 (d0 : Dev nD) : Nat :=
  let c0_i32_746 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_745 : BitVec 32 := 8#32
  let v1066 : BitVec 32 := Scalar.muli v2 c8_i32_745
  let v1067 : BitVec 32 := Scalar.addi c0_i32_746 v1066
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_747 : BitVec 32 := 4#32
  let v1068 : BitVec 32 := Scalar.muli v5 c4_i32_747
  let v1069 : BitVec 32 := Scalar.addi v1067 v1068
  let c1_i32_744 : BitVec 32 := 1#32
  let c1_i32_748 : BitVec 32 := 1#32
  let v1070 : BitVec 32 := Scalar.muli c1_i32_744 c1_i32_748
  let v1071 : BitVec 32 := Scalar.addi v1069 v1070
  v1071.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_11 : BitVec 32 := 0#32
  let v21 : BitVec 1 := Scalar.cmpi .eq v2 c0_i32_11
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 1 := Scalar.cmpi .eq v8 c1_i32_12
  let v23 : BitVec 1 := Scalar.andi v21 v22
  let v24 : BitVec 32 := Scalar.extui v23
  let c0_i32_14 : BitVec 32 := 0#32
  let v25 : BitVec 1 := Scalar.cmpi .ne v24 c0_i32_14
  v25

def k0_dev71 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev72 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev73 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c0_i32_45 : BitVec 32 := 0#32
  let c1_i32_49 : BitVec 32 := 1#32
  let v68 : BitVec 32 := Scalar.muli c0_i32_45 c1_i32_49
  let v69 : BitVec 32 := Scalar.addi v67 v68
  v69.toNat
def k0_dev74 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v70 : BitVec 32 := Scalar.muli v2 c8_i32_52
  let v71 : BitVec 32 := Scalar.addi c0_i32_53 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v72 : BitVec 32 := Scalar.muli v5 c4_i32_54
  let v73 : BitVec 32 := Scalar.addi v71 v72
  let c2_i32_51 : BitVec 32 := 2#32
  let c1_i32_55 : BitVec 32 := 1#32
  let v74 : BitVec 32 := Scalar.muli c2_i32_51 c1_i32_55
  let v75 : BitVec 32 := Scalar.addi v73 v74
  v75.toNat
def k0_dev75 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v76 : BitVec 32 := Scalar.muli v2 c8_i32_59
  let v77 : BitVec 32 := Scalar.addi c0_i32_60 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v78 : BitVec 32 := Scalar.muli v9 c4_i32_61
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v80 : BitVec 32 := Scalar.muli v8 c1_i32_62
  let v81 : BitVec 32 := Scalar.addi v79 v80
  v81.toNat
def k0_dev76 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v90 : BitVec 32 := Scalar.muli v2 c8_i32_70
  let v91 : BitVec 32 := Scalar.addi c0_i32_71 v90
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_72 : BitVec 32 := 4#32
  let v92 : BitVec 32 := Scalar.muli v9 c4_i32_72
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v94 : BitVec 32 := Scalar.muli v8 c1_i32_73
  let v95 : BitVec 32 := Scalar.addi v93 v94
  v95.toNat
def k0_dev77 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v104 : BitVec 32 := Scalar.muli v2 c8_i32_80
  let v105 : BitVec 32 := Scalar.addi c0_i32_81 v104
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v106 : BitVec 32 := Scalar.muli v9 c4_i32_82
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v108 : BitVec 32 := Scalar.muli v8 c1_i32_83
  let v109 : BitVec 32 := Scalar.addi v107 v108
  v109.toNat
def k0_dev78 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v118 : BitVec 32 := Scalar.muli v2 c8_i32_90
  let v119 : BitVec 32 := Scalar.addi c0_i32_91 v118
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_92 : BitVec 32 := 4#32
  let v120 : BitVec 32 := Scalar.muli v9 c4_i32_92
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v122 : BitVec 32 := Scalar.muli v8 c1_i32_93
  let v123 : BitVec 32 := Scalar.addi v121 v122
  v123.toNat
def k0_dev79 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v132 : BitVec 32 := Scalar.muli v2 c8_i32_100
  let v133 : BitVec 32 := Scalar.addi c0_i32_101 v132
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_102 : BitVec 32 := 4#32
  let v134 : BitVec 32 := Scalar.muli v9 c4_i32_102
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v136 : BitVec 32 := Scalar.muli v8 c1_i32_103
  let v137 : BitVec 32 := Scalar.addi v135 v136
  v137.toNat
def k0_dev80 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v146 : BitVec 32 := Scalar.muli v2 c8_i32_109
  let v147 : BitVec 32 := Scalar.addi c0_i32_110 v146
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_111 : BitVec 32 := 4#32
  let v148 : BitVec 32 := Scalar.muli v9 c4_i32_111
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v150 : BitVec 32 := Scalar.muli v8 c1_i32_112
  let v151 : BitVec 32 := Scalar.addi v149 v150
  v151.toNat
def k0_dev81 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v160 : BitVec 32 := Scalar.muli v2 c8_i32_118
  let v161 : BitVec 32 := Scalar.addi c0_i32_119 v160
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_120 : BitVec 32 := 4#32
  let v162 : BitVec 32 := Scalar.muli v9 c4_i32_120
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v164 : BitVec 32 := Scalar.muli v8 c1_i32_121
  let v165 : BitVec 32 := Scalar.addi v163 v164
  v165.toNat
def k0_dev82 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v174 : BitVec 32 := Scalar.muli v2 c8_i32_127
  let v175 : BitVec 32 := Scalar.addi c0_i32_128 v174
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_129 : BitVec 32 := 4#32
  let v176 : BitVec 32 := Scalar.muli v9 c4_i32_129
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v178 : BitVec 32 := Scalar.muli v8 c1_i32_130
  let v179 : BitVec 32 := Scalar.addi v177 v178
  v179.toNat
def k0_dev83 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v188 : BitVec 32 := Scalar.muli v2 c8_i32_137
  let v189 : BitVec 32 := Scalar.addi c0_i32_138 v188
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_139 : BitVec 32 := 4#32
  let v190 : BitVec 32 := Scalar.muli v9 c4_i32_139
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v192 : BitVec 32 := Scalar.muli v8 c1_i32_140
  let v193 : BitVec 32 := Scalar.addi v191 v192
  v193.toNat
def k0_dev84 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v202 : BitVec 32 := Scalar.muli v2 c8_i32_146
  let v203 : BitVec 32 := Scalar.addi c0_i32_147 v202
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_148 : BitVec 32 := 4#32
  let v204 : BitVec 32 := Scalar.muli v9 c4_i32_148
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v206 : BitVec 32 := Scalar.muli v8 c1_i32_149
  let v207 : BitVec 32 := Scalar.addi v205 v206
  v207.toNat
def k0_dev85 (d0 : Dev nD) : Nat :=
  let c0_i32_156 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_155 : BitVec 32 := 8#32
  let v216 : BitVec 32 := Scalar.muli v2 c8_i32_155
  let v217 : BitVec 32 := Scalar.addi c0_i32_156 v216
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_157 : BitVec 32 := 4#32
  let v218 : BitVec 32 := Scalar.muli v9 c4_i32_157
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v220 : BitVec 32 := Scalar.muli v8 c1_i32_158
  let v221 : BitVec 32 := Scalar.addi v219 v220
  v221.toNat
def k0_dev86 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v230 : BitVec 32 := Scalar.muli v2 c8_i32_164
  let v231 : BitVec 32 := Scalar.addi c0_i32_165 v230
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_166 : BitVec 32 := 4#32
  let v232 : BitVec 32 := Scalar.muli v9 c4_i32_166
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v234 : BitVec 32 := Scalar.muli v8 c1_i32_167
  let v235 : BitVec 32 := Scalar.addi v233 v234
  v235.toNat
def k0_dev87 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v244 : BitVec 32 := Scalar.muli v2 c8_i32_173
  let v245 : BitVec 32 := Scalar.addi c0_i32_174 v244
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_175 : BitVec 32 := 4#32
  let v246 : BitVec 32 := Scalar.muli v9 c4_i32_175
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v248 : BitVec 32 := Scalar.muli v8 c1_i32_176
  let v249 : BitVec 32 := Scalar.addi v247 v248
  v249.toNat
def k0_dev88 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v258 : BitVec 32 := Scalar.muli v2 c8_i32_182
  let v259 : BitVec 32 := Scalar.addi c0_i32_183 v258
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_184 : BitVec 32 := 4#32
  let v260 : BitVec 32 := Scalar.muli v9 c4_i32_184
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v262 : BitVec 32 := Scalar.muli v8 c1_i32_185
  let v263 : BitVec 32 := Scalar.addi v261 v262
  v263.toNat
def k0_dev89 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v272 : BitVec 32 := Scalar.muli v2 c8_i32_191
  let v273 : BitVec 32 := Scalar.addi c0_i32_192 v272
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_193 : BitVec 32 := 4#32
  let v274 : BitVec 32 := Scalar.muli v9 c4_i32_193
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v276 : BitVec 32 := Scalar.muli v8 c1_i32_194
  let v277 : BitVec 32 := Scalar.addi v275 v276
  v277.toNat
def k0_dev90 (d0 : Dev nD) : Nat :=
  let c0_i32_201 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_200 : BitVec 32 := 8#32
  let v286 : BitVec 32 := Scalar.muli v2 c8_i32_200
  let v287 : BitVec 32 := Scalar.addi c0_i32_201 v286
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_202 : BitVec 32 := 4#32
  let v288 : BitVec 32 := Scalar.muli v9 c4_i32_202
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v290 : BitVec 32 := Scalar.muli v8 c1_i32_203
  let v291 : BitVec 32 := Scalar.addi v289 v290
  v291.toNat
def k0_dev91 (d0 : Dev nD) : Nat :=
  let c0_i32_234 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_233 : BitVec 32 := 8#32
  let v337 : BitVec 32 := Scalar.muli v10 c8_i32_233
  let v338 : BitVec 32 := Scalar.addi c0_i32_234 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_235 : BitVec 32 := 4#32
  let v339 : BitVec 32 := Scalar.muli v5 c4_i32_235
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v341 : BitVec 32 := Scalar.muli v8 c1_i32_236
  let v342 : BitVec 32 := Scalar.addi v340 v341
  v342.toNat
def k0_dev92 (d0 : Dev nD) : Nat :=
  let c0_i32_245 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_244 : BitVec 32 := 8#32
  let v349 : BitVec 32 := Scalar.muli v2 c8_i32_244
  let v350 : BitVec 32 := Scalar.addi c0_i32_245 v349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v351 : BitVec 32 := Scalar.muli v5 c4_i32_246
  let v352 : BitVec 32 := Scalar.addi v350 v351
  let c0_i32_243 : BitVec 32 := 0#32
  let c1_i32_247 : BitVec 32 := 1#32
  let v353 : BitVec 32 := Scalar.muli c0_i32_243 c1_i32_247
  let v354 : BitVec 32 := Scalar.addi v352 v353
  v354.toNat
def k0_dev93 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v361 : BitVec 32 := Scalar.muli v2 c8_i32_255
  let v362 : BitVec 32 := Scalar.addi c0_i32_256 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_257 : BitVec 32 := 4#32
  let v363 : BitVec 32 := Scalar.muli v5 c4_i32_257
  let v364 : BitVec 32 := Scalar.addi v362 v363
  let c2_i32_254 : BitVec 32 := 2#32
  let c1_i32_258 : BitVec 32 := 1#32
  let v365 : BitVec 32 := Scalar.muli c2_i32_254 c1_i32_258
  let v366 : BitVec 32 := Scalar.addi v364 v365
  v366.toNat
def k0_dev94 (d0 : Dev nD) : Nat :=
  let c0_i32_290 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_289 : BitVec 32 := 8#32
  let v410 : BitVec 32 := Scalar.muli v10 c8_i32_289
  let v411 : BitVec 32 := Scalar.addi c0_i32_290 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_291 : BitVec 32 := 4#32
  let v412 : BitVec 32 := Scalar.muli v5 c4_i32_291
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v414 : BitVec 32 := Scalar.muli v8 c1_i32_292
  let v415 : BitVec 32 := Scalar.addi v413 v414
  v415.toNat
def k0_dev95 (d0 : Dev nD) : Nat :=
  let c0_i32_301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_300 : BitVec 32 := 8#32
  let v422 : BitVec 32 := Scalar.muli v2 c8_i32_300
  let v423 : BitVec 32 := Scalar.addi c0_i32_301 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v424 : BitVec 32 := Scalar.muli v5 c4_i32_302
  let v425 : BitVec 32 := Scalar.addi v423 v424
  let c0_i32_299 : BitVec 32 := 0#32
  let c1_i32_303 : BitVec 32 := 1#32
  let v426 : BitVec 32 := Scalar.muli c0_i32_299 c1_i32_303
  let v427 : BitVec 32 := Scalar.addi v425 v426
  v427.toNat
def k0_dev96 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v434 : BitVec 32 := Scalar.muli v2 c8_i32_311
  let v435 : BitVec 32 := Scalar.addi c0_i32_312 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v436 : BitVec 32 := Scalar.muli v5 c4_i32_313
  let v437 : BitVec 32 := Scalar.addi v435 v436
  let c2_i32_310 : BitVec 32 := 2#32
  let c1_i32_314 : BitVec 32 := 1#32
  let v438 : BitVec 32 := Scalar.muli c2_i32_310 c1_i32_314
  let v439 : BitVec 32 := Scalar.addi v437 v438
  v439.toNat
def k0_dev97 (d0 : Dev nD) : Nat :=
  let c0_i32_346 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_345 : BitVec 32 := 8#32
  let v483 : BitVec 32 := Scalar.muli v10 c8_i32_345
  let v484 : BitVec 32 := Scalar.addi c0_i32_346 v483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v485 : BitVec 32 := Scalar.muli v5 c4_i32_347
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v487 : BitVec 32 := Scalar.muli v8 c1_i32_348
  let v488 : BitVec 32 := Scalar.addi v486 v487
  v488.toNat
def k0_dev98 (d0 : Dev nD) : Nat :=
  let c0_i32_357 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_356 : BitVec 32 := 8#32
  let v495 : BitVec 32 := Scalar.muli v2 c8_i32_356
  let v496 : BitVec 32 := Scalar.addi c0_i32_357 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_358 : BitVec 32 := 4#32
  let v497 : BitVec 32 := Scalar.muli v5 c4_i32_358
  let v498 : BitVec 32 := Scalar.addi v496 v497
  let c0_i32_355 : BitVec 32 := 0#32
  let c1_i32_359 : BitVec 32 := 1#32
  let v499 : BitVec 32 := Scalar.muli c0_i32_355 c1_i32_359
  let v500 : BitVec 32 := Scalar.addi v498 v499
  v500.toNat
def k0_dev99 (d0 : Dev nD) : Nat :=
  let c0_i32_368 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_367 : BitVec 32 := 8#32
  let v507 : BitVec 32 := Scalar.muli v2 c8_i32_367
  let v508 : BitVec 32 := Scalar.addi c0_i32_368 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_369 : BitVec 32 := 4#32
  let v509 : BitVec 32 := Scalar.muli v5 c4_i32_369
  let v510 : BitVec 32 := Scalar.addi v508 v509
  let c2_i32_366 : BitVec 32 := 2#32
  let c1_i32_370 : BitVec 32 := 1#32
  let v511 : BitVec 32 := Scalar.muli c2_i32_366 c1_i32_370
  let v512 : BitVec 32 := Scalar.addi v510 v511
  v512.toNat
def k0_dev100 (d0 : Dev nD) : Nat :=
  let c0_i32_402 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_401 : BitVec 32 := 8#32
  let v556 : BitVec 32 := Scalar.muli v10 c8_i32_401
  let v557 : BitVec 32 := Scalar.addi c0_i32_402 v556
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v558 : BitVec 32 := Scalar.muli v5 c4_i32_403
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v560 : BitVec 32 := Scalar.muli v8 c1_i32_404
  let v561 : BitVec 32 := Scalar.addi v559 v560
  v561.toNat
def k0_dev101 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_412 : BitVec 32 := 8#32
  let v568 : BitVec 32 := Scalar.muli v2 c8_i32_412
  let v569 : BitVec 32 := Scalar.addi c0_i32_413 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v570 : BitVec 32 := Scalar.muli v5 c4_i32_414
  let v571 : BitVec 32 := Scalar.addi v569 v570
  let c0_i32_411 : BitVec 32 := 0#32
  let c1_i32_415 : BitVec 32 := 1#32
  let v572 : BitVec 32 := Scalar.muli c0_i32_411 c1_i32_415
  let v573 : BitVec 32 := Scalar.addi v571 v572
  v573.toNat
def k0_dev102 (d0 : Dev nD) : Nat :=
  let c0_i32_424 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_423 : BitVec 32 := 8#32
  let v580 : BitVec 32 := Scalar.muli v2 c8_i32_423
  let v581 : BitVec 32 := Scalar.addi c0_i32_424 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_425 : BitVec 32 := 4#32
  let v582 : BitVec 32 := Scalar.muli v5 c4_i32_425
  let v583 : BitVec 32 := Scalar.addi v581 v582
  let c2_i32_422 : BitVec 32 := 2#32
  let c1_i32_426 : BitVec 32 := 1#32
  let v584 : BitVec 32 := Scalar.muli c2_i32_422 c1_i32_426
  let v585 : BitVec 32 := Scalar.addi v583 v584
  v585.toNat
def k0_dev103 (d0 : Dev nD) : Nat :=
  let c0_i32_458 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_457 : BitVec 32 := 8#32
  let v629 : BitVec 32 := Scalar.muli v10 c8_i32_457
  let v630 : BitVec 32 := Scalar.addi c0_i32_458 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_459 : BitVec 32 := 4#32
  let v631 : BitVec 32 := Scalar.muli v5 c4_i32_459
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_460 : BitVec 32 := 1#32
  let v633 : BitVec 32 := Scalar.muli v8 c1_i32_460
  let v634 : BitVec 32 := Scalar.addi v632 v633
  v634.toNat
def k0_dev104 (d0 : Dev nD) : Nat :=
  let c0_i32_469 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_468 : BitVec 32 := 8#32
  let v641 : BitVec 32 := Scalar.muli v2 c8_i32_468
  let v642 : BitVec 32 := Scalar.addi c0_i32_469 v641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v643 : BitVec 32 := Scalar.muli v5 c4_i32_470
  let v644 : BitVec 32 := Scalar.addi v642 v643
  let c0_i32_467 : BitVec 32 := 0#32
  let c1_i32_471 : BitVec 32 := 1#32
  let v645 : BitVec 32 := Scalar.muli c0_i32_467 c1_i32_471
  let v646 : BitVec 32 := Scalar.addi v644 v645
  v646.toNat
def k0_dev105 (d0 : Dev nD) : Nat :=
  let c0_i32_480 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_479 : BitVec 32 := 8#32
  let v653 : BitVec 32 := Scalar.muli v2 c8_i32_479
  let v654 : BitVec 32 := Scalar.addi c0_i32_480 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_481 : BitVec 32 := 4#32
  let v655 : BitVec 32 := Scalar.muli v5 c4_i32_481
  let v656 : BitVec 32 := Scalar.addi v654 v655
  let c2_i32_478 : BitVec 32 := 2#32
  let c1_i32_482 : BitVec 32 := 1#32
  let v657 : BitVec 32 := Scalar.muli c2_i32_478 c1_i32_482
  let v658 : BitVec 32 := Scalar.addi v656 v657
  v658.toNat
def k0_dev106 (d0 : Dev nD) : Nat :=
  let c0_i32_514 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_513 : BitVec 32 := 8#32
  let v702 : BitVec 32 := Scalar.muli v10 c8_i32_513
  let v703 : BitVec 32 := Scalar.addi c0_i32_514 v702
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v704 : BitVec 32 := Scalar.muli v5 c4_i32_515
  let v705 : BitVec 32 := Scalar.addi v703 v704
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v706 : BitVec 32 := Scalar.muli v8 c1_i32_516
  let v707 : BitVec 32 := Scalar.addi v705 v706
  v707.toNat
def k0_dev107 (d0 : Dev nD) : Nat :=
  let c0_i32_525 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_524 : BitVec 32 := 8#32
  let v714 : BitVec 32 := Scalar.muli v2 c8_i32_524
  let v715 : BitVec 32 := Scalar.addi c0_i32_525 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_526 : BitVec 32 := 4#32
  let v716 : BitVec 32 := Scalar.muli v5 c4_i32_526
  let v717 : BitVec 32 := Scalar.addi v715 v716
  let c0_i32_523 : BitVec 32 := 0#32
  let c1_i32_527 : BitVec 32 := 1#32
  let v718 : BitVec 32 := Scalar.muli c0_i32_523 c1_i32_527
  let v719 : BitVec 32 := Scalar.addi v717 v718
  v719.toNat
def k0_dev108 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_535 : BitVec 32 := 8#32
  let v726 : BitVec 32 := Scalar.muli v2 c8_i32_535
  let v727 : BitVec 32 := Scalar.addi c0_i32_536 v726
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_537 : BitVec 32 := 4#32
  let v728 : BitVec 32 := Scalar.muli v5 c4_i32_537
  let v729 : BitVec 32 := Scalar.addi v727 v728
  let c2_i32_534 : BitVec 32 := 2#32
  let c1_i32_538 : BitVec 32 := 1#32
  let v730 : BitVec 32 := Scalar.muli c2_i32_534 c1_i32_538
  let v731 : BitVec 32 := Scalar.addi v729 v730
  v731.toNat
def k0_dev109 (d0 : Dev nD) : Nat :=
  let c0_i32_570 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_569 : BitVec 32 := 8#32
  let v775 : BitVec 32 := Scalar.muli v10 c8_i32_569
  let v776 : BitVec 32 := Scalar.addi c0_i32_570 v775
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_571 : BitVec 32 := 4#32
  let v777 : BitVec 32 := Scalar.muli v5 c4_i32_571
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_572 : BitVec 32 := 1#32
  let v779 : BitVec 32 := Scalar.muli v8 c1_i32_572
  let v780 : BitVec 32 := Scalar.addi v778 v779
  v780.toNat
def k0_dev110 (d0 : Dev nD) : Nat :=
  let c0_i32_581 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_580 : BitVec 32 := 8#32
  let v787 : BitVec 32 := Scalar.muli v2 c8_i32_580
  let v788 : BitVec 32 := Scalar.addi c0_i32_581 v787
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_582 : BitVec 32 := 4#32
  let v789 : BitVec 32 := Scalar.muli v5 c4_i32_582
  let v790 : BitVec 32 := Scalar.addi v788 v789
  let c0_i32_579 : BitVec 32 := 0#32
  let c1_i32_583 : BitVec 32 := 1#32
  let v791 : BitVec 32 := Scalar.muli c0_i32_579 c1_i32_583
  let v792 : BitVec 32 := Scalar.addi v790 v791
  v792.toNat
def k0_dev111 (d0 : Dev nD) : Nat :=
  let c0_i32_592 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_591 : BitVec 32 := 8#32
  let v799 : BitVec 32 := Scalar.muli v2 c8_i32_591
  let v800 : BitVec 32 := Scalar.addi c0_i32_592 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_593 : BitVec 32 := 4#32
  let v801 : BitVec 32 := Scalar.muli v5 c4_i32_593
  let v802 : BitVec 32 := Scalar.addi v800 v801
  let c2_i32_590 : BitVec 32 := 2#32
  let c1_i32_594 : BitVec 32 := 1#32
  let v803 : BitVec 32 := Scalar.muli c2_i32_590 c1_i32_594
  let v804 : BitVec 32 := Scalar.addi v802 v803
  v804.toNat
def k0_dev112 (d0 : Dev nD) : Nat :=
  let c0_i32_626 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_625 : BitVec 32 := 8#32
  let v848 : BitVec 32 := Scalar.muli v10 c8_i32_625
  let v849 : BitVec 32 := Scalar.addi c0_i32_626 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_627 : BitVec 32 := 4#32
  let v850 : BitVec 32 := Scalar.muli v5 c4_i32_627
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_628 : BitVec 32 := 1#32
  let v852 : BitVec 32 := Scalar.muli v8 c1_i32_628
  let v853 : BitVec 32 := Scalar.addi v851 v852
  v853.toNat
def k0_dev113 (d0 : Dev nD) : Nat :=
  let c0_i32_637 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_636 : BitVec 32 := 8#32
  let v860 : BitVec 32 := Scalar.muli v2 c8_i32_636
  let v861 : BitVec 32 := Scalar.addi c0_i32_637 v860
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_638 : BitVec 32 := 4#32
  let v862 : BitVec 32 := Scalar.muli v5 c4_i32_638
  let v863 : BitVec 32 := Scalar.addi v861 v862
  let c0_i32_635 : BitVec 32 := 0#32
  let c1_i32_639 : BitVec 32 := 1#32
  let v864 : BitVec 32 := Scalar.muli c0_i32_635 c1_i32_639
  let v865 : BitVec 32 := Scalar.addi v863 v864
  v865.toNat
def k0_dev114 (d0 : Dev nD) : Nat :=
  let c0_i32_648 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_647 : BitVec 32 := 8#32
  let v872 : BitVec 32 := Scalar.muli v2 c8_i32_647
  let v873 : BitVec 32 := Scalar.addi c0_i32_648 v872
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_649 : BitVec 32 := 4#32
  let v874 : BitVec 32 := Scalar.muli v5 c4_i32_649
  let v875 : BitVec 32 := Scalar.addi v873 v874
  let c2_i32_646 : BitVec 32 := 2#32
  let c1_i32_650 : BitVec 32 := 1#32
  let v876 : BitVec 32 := Scalar.muli c2_i32_646 c1_i32_650
  let v877 : BitVec 32 := Scalar.addi v875 v876
  v877.toNat
def k0_dev115 (d0 : Dev nD) : Nat :=
  let c0_i32_683 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_682 : BitVec 32 := 8#32
  let v921 : BitVec 32 := Scalar.muli v2 c8_i32_682
  let v922 : BitVec 32 := Scalar.addi c0_i32_683 v921
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_684 : BitVec 32 := 4#32
  let v923 : BitVec 32 := Scalar.muli v5 c4_i32_684
  let v924 : BitVec 32 := Scalar.addi v922 v923
  let c0_i32_681 : BitVec 32 := 0#32
  let c1_i32_685 : BitVec 32 := 1#32
  let v925 : BitVec 32 := Scalar.muli c0_i32_681 c1_i32_685
  let v926 : BitVec 32 := Scalar.addi v924 v925
  v926.toNat
def k0_dev116 (d0 : Dev nD) : Nat :=
  let c0_i32_718 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_717 : BitVec 32 := 8#32
  let v970 : BitVec 32 := Scalar.muli v2 c8_i32_717
  let v971 : BitVec 32 := Scalar.addi c0_i32_718 v970
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_719 : BitVec 32 := 4#32
  let v972 : BitVec 32 := Scalar.muli v5 c4_i32_719
  let v973 : BitVec 32 := Scalar.addi v971 v972
  let c0_i32_716 : BitVec 32 := 0#32
  let c1_i32_720 : BitVec 32 := 1#32
  let v974 : BitVec 32 := Scalar.muli c0_i32_716 c1_i32_720
  let v975 : BitVec 32 := Scalar.addi v973 v974
  v975.toNat
def k0_dev117 (d0 : Dev nD) : Nat :=
  let c0_i32_753 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_752 : BitVec 32 := 8#32
  let v1019 : BitVec 32 := Scalar.muli v2 c8_i32_752
  let v1020 : BitVec 32 := Scalar.addi c0_i32_753 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_754 : BitVec 32 := 4#32
  let v1021 : BitVec 32 := Scalar.muli v5 c4_i32_754
  let v1022 : BitVec 32 := Scalar.addi v1020 v1021
  let c0_i32_751 : BitVec 32 := 0#32
  let c1_i32_755 : BitVec 32 := 1#32
  let v1023 : BitVec 32 := Scalar.muli c0_i32_751 c1_i32_755
  let v1024 : BitVec 32 := Scalar.addi v1022 v1023
  v1024.toNat
def k0_dev118 (d0 : Dev nD) : Nat :=
  let c0_i32_788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_787 : BitVec 32 := 8#32
  let v1068 : BitVec 32 := Scalar.muli v2 c8_i32_787
  let v1069 : BitVec 32 := Scalar.addi c0_i32_788 v1068
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_789 : BitVec 32 := 4#32
  let v1070 : BitVec 32 := Scalar.muli v5 c4_i32_789
  let v1071 : BitVec 32 := Scalar.addi v1069 v1070
  let c0_i32_786 : BitVec 32 := 0#32
  let c1_i32_790 : BitVec 32 := 1#32
  let v1072 : BitVec 32 := Scalar.muli c0_i32_786 c1_i32_790
  let v1073 : BitVec 32 := Scalar.addi v1071 v1072
  v1073.toNat
def k0_dev119 (d0 : Dev nD) : Nat :=
  let c0_i32_823 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_822 : BitVec 32 := 8#32
  let v1117 : BitVec 32 := Scalar.muli v2 c8_i32_822
  let v1118 : BitVec 32 := Scalar.addi c0_i32_823 v1117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_824 : BitVec 32 := 4#32
  let v1119 : BitVec 32 := Scalar.muli v5 c4_i32_824
  let v1120 : BitVec 32 := Scalar.addi v1118 v1119
  let c0_i32_821 : BitVec 32 := 0#32
  let c1_i32_825 : BitVec 32 := 1#32
  let v1121 : BitVec 32 := Scalar.muli c0_i32_821 c1_i32_825
  let v1122 : BitVec 32 := Scalar.addi v1120 v1121
  v1122.toNat
def k0_dev120 (d0 : Dev nD) : Nat :=
  let c0_i32_858 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_857 : BitVec 32 := 8#32
  let v1166 : BitVec 32 := Scalar.muli v2 c8_i32_857
  let v1167 : BitVec 32 := Scalar.addi c0_i32_858 v1166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_859 : BitVec 32 := 4#32
  let v1168 : BitVec 32 := Scalar.muli v5 c4_i32_859
  let v1169 : BitVec 32 := Scalar.addi v1167 v1168
  let c0_i32_856 : BitVec 32 := 0#32
  let c1_i32_860 : BitVec 32 := 1#32
  let v1170 : BitVec 32 := Scalar.muli c0_i32_856 c1_i32_860
  let v1171 : BitVec 32 := Scalar.addi v1169 v1170
  v1171.toNat
def k0_dev121 (d0 : Dev nD) : Nat :=
  let c0_i32_893 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_892 : BitVec 32 := 8#32
  let v1215 : BitVec 32 := Scalar.muli v2 c8_i32_892
  let v1216 : BitVec 32 := Scalar.addi c0_i32_893 v1215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_894 : BitVec 32 := 4#32
  let v1217 : BitVec 32 := Scalar.muli v5 c4_i32_894
  let v1218 : BitVec 32 := Scalar.addi v1216 v1217
  let c0_i32_891 : BitVec 32 := 0#32
  let c1_i32_895 : BitVec 32 := 1#32
  let v1219 : BitVec 32 := Scalar.muli c0_i32_891 c1_i32_895
  let v1220 : BitVec 32 := Scalar.addi v1218 v1219
  v1220.toNat
def k0_dev122 (d0 : Dev nD) : Nat :=
  let c0_i32_928 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_927 : BitVec 32 := 8#32
  let v1264 : BitVec 32 := Scalar.muli v2 c8_i32_927
  let v1265 : BitVec 32 := Scalar.addi c0_i32_928 v1264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_929 : BitVec 32 := 4#32
  let v1266 : BitVec 32 := Scalar.muli v5 c4_i32_929
  let v1267 : BitVec 32 := Scalar.addi v1265 v1266
  let c0_i32_926 : BitVec 32 := 0#32
  let c1_i32_930 : BitVec 32 := 1#32
  let v1268 : BitVec 32 := Scalar.muli c0_i32_926 c1_i32_930
  let v1269 : BitVec 32 := Scalar.addi v1267 v1268
  v1269.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_15 : BitVec 32 := 1#32
  let v26 : BitVec 1 := Scalar.cmpi .eq v2 c1_i32_15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v27 : BitVec 1 := Scalar.cmpi .eq v8 c1_i32_16
  let v28 : BitVec 1 := Scalar.andi v26 v27
  let v29 : BitVec 32 := Scalar.extui v28
  let c0_i32_18 : BitVec 32 := 0#32
  let v30 : BitVec 1 := Scalar.cmpi .ne v29 c0_i32_18
  v30

def k0_dev123 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev124 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev125 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c0_i32_45 : BitVec 32 := 0#32
  let c1_i32_49 : BitVec 32 := 1#32
  let v68 : BitVec 32 := Scalar.muli c0_i32_45 c1_i32_49
  let v69 : BitVec 32 := Scalar.addi v67 v68
  v69.toNat
def k0_dev126 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v70 : BitVec 32 := Scalar.muli v2 c8_i32_52
  let v71 : BitVec 32 := Scalar.addi c0_i32_53 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v72 : BitVec 32 := Scalar.muli v5 c4_i32_54
  let v73 : BitVec 32 := Scalar.addi v71 v72
  let c2_i32_51 : BitVec 32 := 2#32
  let c1_i32_55 : BitVec 32 := 1#32
  let v74 : BitVec 32 := Scalar.muli c2_i32_51 c1_i32_55
  let v75 : BitVec 32 := Scalar.addi v73 v74
  v75.toNat
def k0_dev127 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v76 : BitVec 32 := Scalar.muli v2 c8_i32_59
  let v77 : BitVec 32 := Scalar.addi c0_i32_60 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v78 : BitVec 32 := Scalar.muli v9 c4_i32_61
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v80 : BitVec 32 := Scalar.muli v8 c1_i32_62
  let v81 : BitVec 32 := Scalar.addi v79 v80
  v81.toNat
def k0_dev128 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v90 : BitVec 32 := Scalar.muli v2 c8_i32_71
  let v91 : BitVec 32 := Scalar.addi c0_i32_72 v90
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_73 : BitVec 32 := 4#32
  let v92 : BitVec 32 := Scalar.muli v9 c4_i32_73
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v94 : BitVec 32 := Scalar.muli v8 c1_i32_74
  let v95 : BitVec 32 := Scalar.addi v93 v94
  v95.toNat
def k0_dev129 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v104 : BitVec 32 := Scalar.muli v2 c8_i32_82
  let v105 : BitVec 32 := Scalar.addi c0_i32_83 v104
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_84 : BitVec 32 := 4#32
  let v106 : BitVec 32 := Scalar.muli v9 c4_i32_84
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v108 : BitVec 32 := Scalar.muli v8 c1_i32_85
  let v109 : BitVec 32 := Scalar.addi v107 v108
  v109.toNat
def k0_dev130 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v118 : BitVec 32 := Scalar.muli v2 c8_i32_93
  let v119 : BitVec 32 := Scalar.addi c0_i32_94 v118
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_95 : BitVec 32 := 4#32
  let v120 : BitVec 32 := Scalar.muli v9 c4_i32_95
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v122 : BitVec 32 := Scalar.muli v8 c1_i32_96
  let v123 : BitVec 32 := Scalar.addi v121 v122
  v123.toNat
def k0_dev131 (d0 : Dev nD) : Nat :=
  let c0_i32_105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_104 : BitVec 32 := 8#32
  let v132 : BitVec 32 := Scalar.muli v2 c8_i32_104
  let v133 : BitVec 32 := Scalar.addi c0_i32_105 v132
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_106 : BitVec 32 := 4#32
  let v134 : BitVec 32 := Scalar.muli v9 c4_i32_106
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v136 : BitVec 32 := Scalar.muli v8 c1_i32_107
  let v137 : BitVec 32 := Scalar.addi v135 v136
  v137.toNat
def k0_dev132 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_114 : BitVec 32 := 8#32
  let v146 : BitVec 32 := Scalar.muli v2 c8_i32_114
  let v147 : BitVec 32 := Scalar.addi c0_i32_115 v146
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_116 : BitVec 32 := 4#32
  let v148 : BitVec 32 := Scalar.muli v9 c4_i32_116
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v150 : BitVec 32 := Scalar.muli v8 c1_i32_117
  let v151 : BitVec 32 := Scalar.addi v149 v150
  v151.toNat
def k0_dev133 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v160 : BitVec 32 := Scalar.muli v2 c8_i32_124
  let v161 : BitVec 32 := Scalar.addi c0_i32_125 v160
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_126 : BitVec 32 := 4#32
  let v162 : BitVec 32 := Scalar.muli v9 c4_i32_126
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v164 : BitVec 32 := Scalar.muli v8 c1_i32_127
  let v165 : BitVec 32 := Scalar.addi v163 v164
  v165.toNat
def k0_dev134 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v174 : BitVec 32 := Scalar.muli v2 c8_i32_134
  let v175 : BitVec 32 := Scalar.addi c0_i32_135 v174
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_136 : BitVec 32 := 4#32
  let v176 : BitVec 32 := Scalar.muli v9 c4_i32_136
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v178 : BitVec 32 := Scalar.muli v8 c1_i32_137
  let v179 : BitVec 32 := Scalar.addi v177 v178
  v179.toNat
def k0_dev135 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v188 : BitVec 32 := Scalar.muli v2 c8_i32_145
  let v189 : BitVec 32 := Scalar.addi c0_i32_146 v188
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_147 : BitVec 32 := 4#32
  let v190 : BitVec 32 := Scalar.muli v9 c4_i32_147
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v192 : BitVec 32 := Scalar.muli v8 c1_i32_148
  let v193 : BitVec 32 := Scalar.addi v191 v192
  v193.toNat
def k0_dev136 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v202 : BitVec 32 := Scalar.muli v2 c8_i32_154
  let v203 : BitVec 32 := Scalar.addi c0_i32_155 v202
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_156 : BitVec 32 := 4#32
  let v204 : BitVec 32 := Scalar.muli v9 c4_i32_156
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v206 : BitVec 32 := Scalar.muli v8 c1_i32_157
  let v207 : BitVec 32 := Scalar.addi v205 v206
  v207.toNat
def k0_dev137 (d0 : Dev nD) : Nat :=
  let c0_i32_164 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_163 : BitVec 32 := 8#32
  let v216 : BitVec 32 := Scalar.muli v2 c8_i32_163
  let v217 : BitVec 32 := Scalar.addi c0_i32_164 v216
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_165 : BitVec 32 := 4#32
  let v218 : BitVec 32 := Scalar.muli v9 c4_i32_165
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v220 : BitVec 32 := Scalar.muli v8 c1_i32_166
  let v221 : BitVec 32 := Scalar.addi v219 v220
  v221.toNat
def k0_dev138 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v230 : BitVec 32 := Scalar.muli v2 c8_i32_172
  let v231 : BitVec 32 := Scalar.addi c0_i32_173 v230
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_174 : BitVec 32 := 4#32
  let v232 : BitVec 32 := Scalar.muli v9 c4_i32_174
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v234 : BitVec 32 := Scalar.muli v8 c1_i32_175
  let v235 : BitVec 32 := Scalar.addi v233 v234
  v235.toNat
def k0_dev139 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v244 : BitVec 32 := Scalar.muli v2 c8_i32_181
  let v245 : BitVec 32 := Scalar.addi c0_i32_182 v244
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_183 : BitVec 32 := 4#32
  let v246 : BitVec 32 := Scalar.muli v9 c4_i32_183
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v248 : BitVec 32 := Scalar.muli v8 c1_i32_184
  let v249 : BitVec 32 := Scalar.addi v247 v248
  v249.toNat
def k0_dev140 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v258 : BitVec 32 := Scalar.muli v2 c8_i32_190
  let v259 : BitVec 32 := Scalar.addi c0_i32_191 v258
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_192 : BitVec 32 := 4#32
  let v260 : BitVec 32 := Scalar.muli v9 c4_i32_192
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v262 : BitVec 32 := Scalar.muli v8 c1_i32_193
  let v263 : BitVec 32 := Scalar.addi v261 v262
  v263.toNat
def k0_dev141 (d0 : Dev nD) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199 : BitVec 32 := 8#32
  let v272 : BitVec 32 := Scalar.muli v2 c8_i32_199
  let v273 : BitVec 32 := Scalar.addi c0_i32_200 v272
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_201 : BitVec 32 := 4#32
  let v274 : BitVec 32 := Scalar.muli v9 c4_i32_201
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v276 : BitVec 32 := Scalar.muli v8 c1_i32_202
  let v277 : BitVec 32 := Scalar.addi v275 v276
  v277.toNat
def k0_dev142 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v286 : BitVec 32 := Scalar.muli v2 c8_i32_208
  let v287 : BitVec 32 := Scalar.addi c0_i32_209 v286
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_210 : BitVec 32 := 4#32
  let v288 : BitVec 32 := Scalar.muli v9 c4_i32_210
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v290 : BitVec 32 := Scalar.muli v8 c1_i32_211
  let v291 : BitVec 32 := Scalar.addi v289 v290
  v291.toNat
def k0_dev143 (d0 : Dev nD) : Nat :=
  let c0_i32_243 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_242 : BitVec 32 := 8#32
  let v337 : BitVec 32 := Scalar.muli v10 c8_i32_242
  let v338 : BitVec 32 := Scalar.addi c0_i32_243 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_244 : BitVec 32 := 4#32
  let v339 : BitVec 32 := Scalar.muli v5 c4_i32_244
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v341 : BitVec 32 := Scalar.muli v8 c1_i32_245
  let v342 : BitVec 32 := Scalar.addi v340 v341
  v342.toNat
def k0_dev144 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v349 : BitVec 32 := Scalar.muli v2 c8_i32_253
  let v350 : BitVec 32 := Scalar.addi c0_i32_254 v349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_255 : BitVec 32 := 4#32
  let v351 : BitVec 32 := Scalar.muli v5 c4_i32_255
  let v352 : BitVec 32 := Scalar.addi v350 v351
  let c0_i32_252 : BitVec 32 := 0#32
  let c1_i32_256 : BitVec 32 := 1#32
  let v353 : BitVec 32 := Scalar.muli c0_i32_252 c1_i32_256
  let v354 : BitVec 32 := Scalar.addi v352 v353
  v354.toNat
def k0_dev145 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264 : BitVec 32 := 8#32
  let v361 : BitVec 32 := Scalar.muli v2 c8_i32_264
  let v362 : BitVec 32 := Scalar.addi c0_i32_265 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_266 : BitVec 32 := 4#32
  let v363 : BitVec 32 := Scalar.muli v5 c4_i32_266
  let v364 : BitVec 32 := Scalar.addi v362 v363
  let c2_i32_263 : BitVec 32 := 2#32
  let c1_i32_267 : BitVec 32 := 1#32
  let v365 : BitVec 32 := Scalar.muli c2_i32_263 c1_i32_267
  let v366 : BitVec 32 := Scalar.addi v364 v365
  v366.toNat
def k0_dev146 (d0 : Dev nD) : Nat :=
  let c0_i32_300 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_299 : BitVec 32 := 8#32
  let v410 : BitVec 32 := Scalar.muli v10 c8_i32_299
  let v411 : BitVec 32 := Scalar.addi c0_i32_300 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v412 : BitVec 32 := Scalar.muli v5 c4_i32_301
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v414 : BitVec 32 := Scalar.muli v8 c1_i32_302
  let v415 : BitVec 32 := Scalar.addi v413 v414
  v415.toNat
def k0_dev147 (d0 : Dev nD) : Nat :=
  let c0_i32_311 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_310 : BitVec 32 := 8#32
  let v422 : BitVec 32 := Scalar.muli v2 c8_i32_310
  let v423 : BitVec 32 := Scalar.addi c0_i32_311 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_312 : BitVec 32 := 4#32
  let v424 : BitVec 32 := Scalar.muli v5 c4_i32_312
  let v425 : BitVec 32 := Scalar.addi v423 v424
  let c0_i32_309 : BitVec 32 := 0#32
  let c1_i32_313 : BitVec 32 := 1#32
  let v426 : BitVec 32 := Scalar.muli c0_i32_309 c1_i32_313
  let v427 : BitVec 32 := Scalar.addi v425 v426
  v427.toNat
def k0_dev148 (d0 : Dev nD) : Nat :=
  let c0_i32_322 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_321 : BitVec 32 := 8#32
  let v434 : BitVec 32 := Scalar.muli v2 c8_i32_321
  let v435 : BitVec 32 := Scalar.addi c0_i32_322 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_323 : BitVec 32 := 4#32
  let v436 : BitVec 32 := Scalar.muli v5 c4_i32_323
  let v437 : BitVec 32 := Scalar.addi v435 v436
  let c2_i32_320 : BitVec 32 := 2#32
  let c1_i32_324 : BitVec 32 := 1#32
  let v438 : BitVec 32 := Scalar.muli c2_i32_320 c1_i32_324
  let v439 : BitVec 32 := Scalar.addi v437 v438
  v439.toNat
def k0_dev149 (d0 : Dev nD) : Nat :=
  let c0_i32_357 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_356 : BitVec 32 := 8#32
  let v483 : BitVec 32 := Scalar.muli v10 c8_i32_356
  let v484 : BitVec 32 := Scalar.addi c0_i32_357 v483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_358 : BitVec 32 := 4#32
  let v485 : BitVec 32 := Scalar.muli v5 c4_i32_358
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v487 : BitVec 32 := Scalar.muli v8 c1_i32_359
  let v488 : BitVec 32 := Scalar.addi v486 v487
  v488.toNat
def k0_dev150 (d0 : Dev nD) : Nat :=
  let c0_i32_368 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_367 : BitVec 32 := 8#32
  let v495 : BitVec 32 := Scalar.muli v2 c8_i32_367
  let v496 : BitVec 32 := Scalar.addi c0_i32_368 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_369 : BitVec 32 := 4#32
  let v497 : BitVec 32 := Scalar.muli v5 c4_i32_369
  let v498 : BitVec 32 := Scalar.addi v496 v497
  let c0_i32_366 : BitVec 32 := 0#32
  let c1_i32_370 : BitVec 32 := 1#32
  let v499 : BitVec 32 := Scalar.muli c0_i32_366 c1_i32_370
  let v500 : BitVec 32 := Scalar.addi v498 v499
  v500.toNat
def k0_dev151 (d0 : Dev nD) : Nat :=
  let c0_i32_379 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_378 : BitVec 32 := 8#32
  let v507 : BitVec 32 := Scalar.muli v2 c8_i32_378
  let v508 : BitVec 32 := Scalar.addi c0_i32_379 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v509 : BitVec 32 := Scalar.muli v5 c4_i32_380
  let v510 : BitVec 32 := Scalar.addi v508 v509
  let c2_i32_377 : BitVec 32 := 2#32
  let c1_i32_381 : BitVec 32 := 1#32
  let v511 : BitVec 32 := Scalar.muli c2_i32_377 c1_i32_381
  let v512 : BitVec 32 := Scalar.addi v510 v511
  v512.toNat
def k0_dev152 (d0 : Dev nD) : Nat :=
  let c0_i32_414 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_413 : BitVec 32 := 8#32
  let v556 : BitVec 32 := Scalar.muli v10 c8_i32_413
  let v557 : BitVec 32 := Scalar.addi c0_i32_414 v556
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_415 : BitVec 32 := 4#32
  let v558 : BitVec 32 := Scalar.muli v5 c4_i32_415
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v560 : BitVec 32 := Scalar.muli v8 c1_i32_416
  let v561 : BitVec 32 := Scalar.addi v559 v560
  v561.toNat
def k0_dev153 (d0 : Dev nD) : Nat :=
  let c0_i32_425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_424 : BitVec 32 := 8#32
  let v568 : BitVec 32 := Scalar.muli v2 c8_i32_424
  let v569 : BitVec 32 := Scalar.addi c0_i32_425 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_426 : BitVec 32 := 4#32
  let v570 : BitVec 32 := Scalar.muli v5 c4_i32_426
  let v571 : BitVec 32 := Scalar.addi v569 v570
  let c0_i32_423 : BitVec 32 := 0#32
  let c1_i32_427 : BitVec 32 := 1#32
  let v572 : BitVec 32 := Scalar.muli c0_i32_423 c1_i32_427
  let v573 : BitVec 32 := Scalar.addi v571 v572
  v573.toNat
def k0_dev154 (d0 : Dev nD) : Nat :=
  let c0_i32_436 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_435 : BitVec 32 := 8#32
  let v580 : BitVec 32 := Scalar.muli v2 c8_i32_435
  let v581 : BitVec 32 := Scalar.addi c0_i32_436 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_437 : BitVec 32 := 4#32
  let v582 : BitVec 32 := Scalar.muli v5 c4_i32_437
  let v583 : BitVec 32 := Scalar.addi v581 v582
  let c2_i32_434 : BitVec 32 := 2#32
  let c1_i32_438 : BitVec 32 := 1#32
  let v584 : BitVec 32 := Scalar.muli c2_i32_434 c1_i32_438
  let v585 : BitVec 32 := Scalar.addi v583 v584
  v585.toNat
def k0_dev155 (d0 : Dev nD) : Nat :=
  let c0_i32_471 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_470 : BitVec 32 := 8#32
  let v629 : BitVec 32 := Scalar.muli v10 c8_i32_470
  let v630 : BitVec 32 := Scalar.addi c0_i32_471 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_472 : BitVec 32 := 4#32
  let v631 : BitVec 32 := Scalar.muli v5 c4_i32_472
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v633 : BitVec 32 := Scalar.muli v8 c1_i32_473
  let v634 : BitVec 32 := Scalar.addi v632 v633
  v634.toNat
def k0_dev156 (d0 : Dev nD) : Nat :=
  let c0_i32_482 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_481 : BitVec 32 := 8#32
  let v641 : BitVec 32 := Scalar.muli v2 c8_i32_481
  let v642 : BitVec 32 := Scalar.addi c0_i32_482 v641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_483 : BitVec 32 := 4#32
  let v643 : BitVec 32 := Scalar.muli v5 c4_i32_483
  let v644 : BitVec 32 := Scalar.addi v642 v643
  let c0_i32_480 : BitVec 32 := 0#32
  let c1_i32_484 : BitVec 32 := 1#32
  let v645 : BitVec 32 := Scalar.muli c0_i32_480 c1_i32_484
  let v646 : BitVec 32 := Scalar.addi v644 v645
  v646.toNat
def k0_dev157 (d0 : Dev nD) : Nat :=
  let c0_i32_493 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_492 : BitVec 32 := 8#32
  let v653 : BitVec 32 := Scalar.muli v2 c8_i32_492
  let v654 : BitVec 32 := Scalar.addi c0_i32_493 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_494 : BitVec 32 := 4#32
  let v655 : BitVec 32 := Scalar.muli v5 c4_i32_494
  let v656 : BitVec 32 := Scalar.addi v654 v655
  let c2_i32_491 : BitVec 32 := 2#32
  let c1_i32_495 : BitVec 32 := 1#32
  let v657 : BitVec 32 := Scalar.muli c2_i32_491 c1_i32_495
  let v658 : BitVec 32 := Scalar.addi v656 v657
  v658.toNat
def k0_dev158 (d0 : Dev nD) : Nat :=
  let c0_i32_528 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_527 : BitVec 32 := 8#32
  let v702 : BitVec 32 := Scalar.muli v10 c8_i32_527
  let v703 : BitVec 32 := Scalar.addi c0_i32_528 v702
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_529 : BitVec 32 := 4#32
  let v704 : BitVec 32 := Scalar.muli v5 c4_i32_529
  let v705 : BitVec 32 := Scalar.addi v703 v704
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v706 : BitVec 32 := Scalar.muli v8 c1_i32_530
  let v707 : BitVec 32 := Scalar.addi v705 v706
  v707.toNat
def k0_dev159 (d0 : Dev nD) : Nat :=
  let c0_i32_539 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_538 : BitVec 32 := 8#32
  let v714 : BitVec 32 := Scalar.muli v2 c8_i32_538
  let v715 : BitVec 32 := Scalar.addi c0_i32_539 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_540 : BitVec 32 := 4#32
  let v716 : BitVec 32 := Scalar.muli v5 c4_i32_540
  let v717 : BitVec 32 := Scalar.addi v715 v716
  let c0_i32_537 : BitVec 32 := 0#32
  let c1_i32_541 : BitVec 32 := 1#32
  let v718 : BitVec 32 := Scalar.muli c0_i32_537 c1_i32_541
  let v719 : BitVec 32 := Scalar.addi v717 v718
  v719.toNat
def k0_dev160 (d0 : Dev nD) : Nat :=
  let c0_i32_550 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_549 : BitVec 32 := 8#32
  let v726 : BitVec 32 := Scalar.muli v2 c8_i32_549
  let v727 : BitVec 32 := Scalar.addi c0_i32_550 v726
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_551 : BitVec 32 := 4#32
  let v728 : BitVec 32 := Scalar.muli v5 c4_i32_551
  let v729 : BitVec 32 := Scalar.addi v727 v728
  let c2_i32_548 : BitVec 32 := 2#32
  let c1_i32_552 : BitVec 32 := 1#32
  let v730 : BitVec 32 := Scalar.muli c2_i32_548 c1_i32_552
  let v731 : BitVec 32 := Scalar.addi v729 v730
  v731.toNat
def k0_dev161 (d0 : Dev nD) : Nat :=
  let c0_i32_585 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_584 : BitVec 32 := 8#32
  let v775 : BitVec 32 := Scalar.muli v10 c8_i32_584
  let v776 : BitVec 32 := Scalar.addi c0_i32_585 v775
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_586 : BitVec 32 := 4#32
  let v777 : BitVec 32 := Scalar.muli v5 c4_i32_586
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v779 : BitVec 32 := Scalar.muli v8 c1_i32_587
  let v780 : BitVec 32 := Scalar.addi v778 v779
  v780.toNat
def k0_dev162 (d0 : Dev nD) : Nat :=
  let c0_i32_596 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_595 : BitVec 32 := 8#32
  let v787 : BitVec 32 := Scalar.muli v2 c8_i32_595
  let v788 : BitVec 32 := Scalar.addi c0_i32_596 v787
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_597 : BitVec 32 := 4#32
  let v789 : BitVec 32 := Scalar.muli v5 c4_i32_597
  let v790 : BitVec 32 := Scalar.addi v788 v789
  let c0_i32_594 : BitVec 32 := 0#32
  let c1_i32_598 : BitVec 32 := 1#32
  let v791 : BitVec 32 := Scalar.muli c0_i32_594 c1_i32_598
  let v792 : BitVec 32 := Scalar.addi v790 v791
  v792.toNat
def k0_dev163 (d0 : Dev nD) : Nat :=
  let c0_i32_607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_606 : BitVec 32 := 8#32
  let v799 : BitVec 32 := Scalar.muli v2 c8_i32_606
  let v800 : BitVec 32 := Scalar.addi c0_i32_607 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_608 : BitVec 32 := 4#32
  let v801 : BitVec 32 := Scalar.muli v5 c4_i32_608
  let v802 : BitVec 32 := Scalar.addi v800 v801
  let c2_i32_605 : BitVec 32 := 2#32
  let c1_i32_609 : BitVec 32 := 1#32
  let v803 : BitVec 32 := Scalar.muli c2_i32_605 c1_i32_609
  let v804 : BitVec 32 := Scalar.addi v802 v803
  v804.toNat
def k0_dev164 (d0 : Dev nD) : Nat :=
  let c0_i32_642 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_641 : BitVec 32 := 8#32
  let v848 : BitVec 32 := Scalar.muli v10 c8_i32_641
  let v849 : BitVec 32 := Scalar.addi c0_i32_642 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_643 : BitVec 32 := 4#32
  let v850 : BitVec 32 := Scalar.muli v5 c4_i32_643
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_644 : BitVec 32 := 1#32
  let v852 : BitVec 32 := Scalar.muli v8 c1_i32_644
  let v853 : BitVec 32 := Scalar.addi v851 v852
  v853.toNat
def k0_dev165 (d0 : Dev nD) : Nat :=
  let c0_i32_653 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_652 : BitVec 32 := 8#32
  let v860 : BitVec 32 := Scalar.muli v2 c8_i32_652
  let v861 : BitVec 32 := Scalar.addi c0_i32_653 v860
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_654 : BitVec 32 := 4#32
  let v862 : BitVec 32 := Scalar.muli v5 c4_i32_654
  let v863 : BitVec 32 := Scalar.addi v861 v862
  let c0_i32_651 : BitVec 32 := 0#32
  let c1_i32_655 : BitVec 32 := 1#32
  let v864 : BitVec 32 := Scalar.muli c0_i32_651 c1_i32_655
  let v865 : BitVec 32 := Scalar.addi v863 v864
  v865.toNat
def k0_dev166 (d0 : Dev nD) : Nat :=
  let c0_i32_664 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_663 : BitVec 32 := 8#32
  let v872 : BitVec 32 := Scalar.muli v2 c8_i32_663
  let v873 : BitVec 32 := Scalar.addi c0_i32_664 v872
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_665 : BitVec 32 := 4#32
  let v874 : BitVec 32 := Scalar.muli v5 c4_i32_665
  let v875 : BitVec 32 := Scalar.addi v873 v874
  let c2_i32_662 : BitVec 32 := 2#32
  let c1_i32_666 : BitVec 32 := 1#32
  let v876 : BitVec 32 := Scalar.muli c2_i32_662 c1_i32_666
  let v877 : BitVec 32 := Scalar.addi v875 v876
  v877.toNat
def k0_dev167 (d0 : Dev nD) : Nat :=
  let c0_i32_699 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_698 : BitVec 32 := 8#32
  let v921 : BitVec 32 := Scalar.muli v2 c8_i32_698
  let v922 : BitVec 32 := Scalar.addi c0_i32_699 v921
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_700 : BitVec 32 := 4#32
  let v923 : BitVec 32 := Scalar.muli v5 c4_i32_700
  let v924 : BitVec 32 := Scalar.addi v922 v923
  let c0_i32_697 : BitVec 32 := 0#32
  let c1_i32_701 : BitVec 32 := 1#32
  let v925 : BitVec 32 := Scalar.muli c0_i32_697 c1_i32_701
  let v926 : BitVec 32 := Scalar.addi v924 v925
  v926.toNat
def k0_dev168 (d0 : Dev nD) : Nat :=
  let c0_i32_734 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_733 : BitVec 32 := 8#32
  let v970 : BitVec 32 := Scalar.muli v2 c8_i32_733
  let v971 : BitVec 32 := Scalar.addi c0_i32_734 v970
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_735 : BitVec 32 := 4#32
  let v972 : BitVec 32 := Scalar.muli v5 c4_i32_735
  let v973 : BitVec 32 := Scalar.addi v971 v972
  let c0_i32_732 : BitVec 32 := 0#32
  let c1_i32_736 : BitVec 32 := 1#32
  let v974 : BitVec 32 := Scalar.muli c0_i32_732 c1_i32_736
  let v975 : BitVec 32 := Scalar.addi v973 v974
  v975.toNat
def k0_dev169 (d0 : Dev nD) : Nat :=
  let c0_i32_769 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_768 : BitVec 32 := 8#32
  let v1019 : BitVec 32 := Scalar.muli v2 c8_i32_768
  let v1020 : BitVec 32 := Scalar.addi c0_i32_769 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_770 : BitVec 32 := 4#32
  let v1021 : BitVec 32 := Scalar.muli v5 c4_i32_770
  let v1022 : BitVec 32 := Scalar.addi v1020 v1021
  let c0_i32_767 : BitVec 32 := 0#32
  let c1_i32_771 : BitVec 32 := 1#32
  let v1023 : BitVec 32 := Scalar.muli c0_i32_767 c1_i32_771
  let v1024 : BitVec 32 := Scalar.addi v1022 v1023
  v1024.toNat
def k0_dev170 (d0 : Dev nD) : Nat :=
  let c0_i32_804 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_803 : BitVec 32 := 8#32
  let v1068 : BitVec 32 := Scalar.muli v2 c8_i32_803
  let v1069 : BitVec 32 := Scalar.addi c0_i32_804 v1068
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_805 : BitVec 32 := 4#32
  let v1070 : BitVec 32 := Scalar.muli v5 c4_i32_805
  let v1071 : BitVec 32 := Scalar.addi v1069 v1070
  let c0_i32_802 : BitVec 32 := 0#32
  let c1_i32_806 : BitVec 32 := 1#32
  let v1072 : BitVec 32 := Scalar.muli c0_i32_802 c1_i32_806
  let v1073 : BitVec 32 := Scalar.addi v1071 v1072
  v1073.toNat
def k0_dev171 (d0 : Dev nD) : Nat :=
  let c0_i32_839 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_838 : BitVec 32 := 8#32
  let v1117 : BitVec 32 := Scalar.muli v2 c8_i32_838
  let v1118 : BitVec 32 := Scalar.addi c0_i32_839 v1117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_840 : BitVec 32 := 4#32
  let v1119 : BitVec 32 := Scalar.muli v5 c4_i32_840
  let v1120 : BitVec 32 := Scalar.addi v1118 v1119
  let c0_i32_837 : BitVec 32 := 0#32
  let c1_i32_841 : BitVec 32 := 1#32
  let v1121 : BitVec 32 := Scalar.muli c0_i32_837 c1_i32_841
  let v1122 : BitVec 32 := Scalar.addi v1120 v1121
  v1122.toNat
def k0_dev172 (d0 : Dev nD) : Nat :=
  let c0_i32_874 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_873 : BitVec 32 := 8#32
  let v1166 : BitVec 32 := Scalar.muli v2 c8_i32_873
  let v1167 : BitVec 32 := Scalar.addi c0_i32_874 v1166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_875 : BitVec 32 := 4#32
  let v1168 : BitVec 32 := Scalar.muli v5 c4_i32_875
  let v1169 : BitVec 32 := Scalar.addi v1167 v1168
  let c0_i32_872 : BitVec 32 := 0#32
  let c1_i32_876 : BitVec 32 := 1#32
  let v1170 : BitVec 32 := Scalar.muli c0_i32_872 c1_i32_876
  let v1171 : BitVec 32 := Scalar.addi v1169 v1170
  v1171.toNat
def k0_dev173 (d0 : Dev nD) : Nat :=
  let c0_i32_909 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_908 : BitVec 32 := 8#32
  let v1215 : BitVec 32 := Scalar.muli v2 c8_i32_908
  let v1216 : BitVec 32 := Scalar.addi c0_i32_909 v1215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_910 : BitVec 32 := 4#32
  let v1217 : BitVec 32 := Scalar.muli v5 c4_i32_910
  let v1218 : BitVec 32 := Scalar.addi v1216 v1217
  let c0_i32_907 : BitVec 32 := 0#32
  let c1_i32_911 : BitVec 32 := 1#32
  let v1219 : BitVec 32 := Scalar.muli c0_i32_907 c1_i32_911
  let v1220 : BitVec 32 := Scalar.addi v1218 v1219
  v1220.toNat
def k0_dev174 (d0 : Dev nD) : Nat :=
  let c0_i32_944 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_943 : BitVec 32 := 8#32
  let v1264 : BitVec 32 := Scalar.muli v2 c8_i32_943
  let v1265 : BitVec 32 := Scalar.addi c0_i32_944 v1264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_945 : BitVec 32 := 4#32
  let v1266 : BitVec 32 := Scalar.muli v5 c4_i32_945
  let v1267 : BitVec 32 := Scalar.addi v1265 v1266
  let c0_i32_942 : BitVec 32 := 0#32
  let c1_i32_946 : BitVec 32 := 1#32
  let v1268 : BitVec 32 := Scalar.muli c0_i32_942 c1_i32_946
  let v1269 : BitVec 32 := Scalar.addi v1267 v1268
  v1269.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_19 : BitVec 32 := 0#32
  let v31 : BitVec 1 := Scalar.cmpi .eq v2 c0_i32_19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_20 : BitVec 32 := 2#32
  let v32 : BitVec 1 := Scalar.cmpi .eq v8 c2_i32_20
  let v33 : BitVec 1 := Scalar.andi v31 v32
  let v34 : BitVec 32 := Scalar.extui v33
  let c0_i32_22 : BitVec 32 := 0#32
  let v35 : BitVec 1 := Scalar.cmpi .ne v34 c0_i32_22
  v35

def k0_dev175 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev176 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev177 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c1_i32_45 : BitVec 32 := 1#32
  let c1_i32_49 : BitVec 32 := 1#32
  let v68 : BitVec 32 := Scalar.muli c1_i32_45 c1_i32_49
  let v69 : BitVec 32 := Scalar.addi v67 v68
  v69.toNat
def k0_dev178 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v70 : BitVec 32 := Scalar.muli v2 c8_i32_52
  let v71 : BitVec 32 := Scalar.addi c0_i32_53 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v72 : BitVec 32 := Scalar.muli v5 c4_i32_54
  let v73 : BitVec 32 := Scalar.addi v71 v72
  let c3_i32_51 : BitVec 32 := 3#32
  let c1_i32_55 : BitVec 32 := 1#32
  let v74 : BitVec 32 := Scalar.muli c3_i32_51 c1_i32_55
  let v75 : BitVec 32 := Scalar.addi v73 v74
  v75.toNat
def k0_dev179 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v76 : BitVec 32 := Scalar.muli v2 c8_i32_59
  let v77 : BitVec 32 := Scalar.addi c0_i32_60 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v78 : BitVec 32 := Scalar.muli v9 c4_i32_61
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v80 : BitVec 32 := Scalar.muli v8 c1_i32_62
  let v81 : BitVec 32 := Scalar.addi v79 v80
  v81.toNat
def k0_dev180 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v90 : BitVec 32 := Scalar.muli v2 c8_i32_70
  let v91 : BitVec 32 := Scalar.addi c0_i32_71 v90
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_72 : BitVec 32 := 4#32
  let v92 : BitVec 32 := Scalar.muli v9 c4_i32_72
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v94 : BitVec 32 := Scalar.muli v8 c1_i32_73
  let v95 : BitVec 32 := Scalar.addi v93 v94
  v95.toNat
def k0_dev181 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v104 : BitVec 32 := Scalar.muli v2 c8_i32_80
  let v105 : BitVec 32 := Scalar.addi c0_i32_81 v104
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v106 : BitVec 32 := Scalar.muli v9 c4_i32_82
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v108 : BitVec 32 := Scalar.muli v8 c1_i32_83
  let v109 : BitVec 32 := Scalar.addi v107 v108
  v109.toNat
def k0_dev182 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v118 : BitVec 32 := Scalar.muli v2 c8_i32_90
  let v119 : BitVec 32 := Scalar.addi c0_i32_91 v118
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_92 : BitVec 32 := 4#32
  let v120 : BitVec 32 := Scalar.muli v9 c4_i32_92
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v122 : BitVec 32 := Scalar.muli v8 c1_i32_93
  let v123 : BitVec 32 := Scalar.addi v121 v122
  v123.toNat
def k0_dev183 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v132 : BitVec 32 := Scalar.muli v2 c8_i32_100
  let v133 : BitVec 32 := Scalar.addi c0_i32_101 v132
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_102 : BitVec 32 := 4#32
  let v134 : BitVec 32 := Scalar.muli v9 c4_i32_102
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v136 : BitVec 32 := Scalar.muli v8 c1_i32_103
  let v137 : BitVec 32 := Scalar.addi v135 v136
  v137.toNat
def k0_dev184 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v146 : BitVec 32 := Scalar.muli v2 c8_i32_109
  let v147 : BitVec 32 := Scalar.addi c0_i32_110 v146
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_111 : BitVec 32 := 4#32
  let v148 : BitVec 32 := Scalar.muli v9 c4_i32_111
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v150 : BitVec 32 := Scalar.muli v8 c1_i32_112
  let v151 : BitVec 32 := Scalar.addi v149 v150
  v151.toNat
def k0_dev185 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v160 : BitVec 32 := Scalar.muli v2 c8_i32_118
  let v161 : BitVec 32 := Scalar.addi c0_i32_119 v160
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_120 : BitVec 32 := 4#32
  let v162 : BitVec 32 := Scalar.muli v9 c4_i32_120
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v164 : BitVec 32 := Scalar.muli v8 c1_i32_121
  let v165 : BitVec 32 := Scalar.addi v163 v164
  v165.toNat
def k0_dev186 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v174 : BitVec 32 := Scalar.muli v2 c8_i32_127
  let v175 : BitVec 32 := Scalar.addi c0_i32_128 v174
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_129 : BitVec 32 := 4#32
  let v176 : BitVec 32 := Scalar.muli v9 c4_i32_129
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v178 : BitVec 32 := Scalar.muli v8 c1_i32_130
  let v179 : BitVec 32 := Scalar.addi v177 v178
  v179.toNat
def k0_dev187 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v188 : BitVec 32 := Scalar.muli v2 c8_i32_137
  let v189 : BitVec 32 := Scalar.addi c0_i32_138 v188
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_139 : BitVec 32 := 4#32
  let v190 : BitVec 32 := Scalar.muli v9 c4_i32_139
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v192 : BitVec 32 := Scalar.muli v8 c1_i32_140
  let v193 : BitVec 32 := Scalar.addi v191 v192
  v193.toNat
def k0_dev188 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v202 : BitVec 32 := Scalar.muli v2 c8_i32_146
  let v203 : BitVec 32 := Scalar.addi c0_i32_147 v202
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_148 : BitVec 32 := 4#32
  let v204 : BitVec 32 := Scalar.muli v9 c4_i32_148
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v206 : BitVec 32 := Scalar.muli v8 c1_i32_149
  let v207 : BitVec 32 := Scalar.addi v205 v206
  v207.toNat
def k0_dev189 (d0 : Dev nD) : Nat :=
  let c0_i32_156 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_155 : BitVec 32 := 8#32
  let v216 : BitVec 32 := Scalar.muli v2 c8_i32_155
  let v217 : BitVec 32 := Scalar.addi c0_i32_156 v216
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_157 : BitVec 32 := 4#32
  let v218 : BitVec 32 := Scalar.muli v9 c4_i32_157
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v220 : BitVec 32 := Scalar.muli v8 c1_i32_158
  let v221 : BitVec 32 := Scalar.addi v219 v220
  v221.toNat
def k0_dev190 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_164 : BitVec 32 := 8#32
  let v230 : BitVec 32 := Scalar.muli v2 c8_i32_164
  let v231 : BitVec 32 := Scalar.addi c0_i32_165 v230
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_166 : BitVec 32 := 4#32
  let v232 : BitVec 32 := Scalar.muli v9 c4_i32_166
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v234 : BitVec 32 := Scalar.muli v8 c1_i32_167
  let v235 : BitVec 32 := Scalar.addi v233 v234
  v235.toNat
def k0_dev191 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_173 : BitVec 32 := 8#32
  let v244 : BitVec 32 := Scalar.muli v2 c8_i32_173
  let v245 : BitVec 32 := Scalar.addi c0_i32_174 v244
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_175 : BitVec 32 := 4#32
  let v246 : BitVec 32 := Scalar.muli v9 c4_i32_175
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v248 : BitVec 32 := Scalar.muli v8 c1_i32_176
  let v249 : BitVec 32 := Scalar.addi v247 v248
  v249.toNat
def k0_dev192 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v258 : BitVec 32 := Scalar.muli v2 c8_i32_182
  let v259 : BitVec 32 := Scalar.addi c0_i32_183 v258
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_184 : BitVec 32 := 4#32
  let v260 : BitVec 32 := Scalar.muli v9 c4_i32_184
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v262 : BitVec 32 := Scalar.muli v8 c1_i32_185
  let v263 : BitVec 32 := Scalar.addi v261 v262
  v263.toNat
def k0_dev193 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v272 : BitVec 32 := Scalar.muli v2 c8_i32_191
  let v273 : BitVec 32 := Scalar.addi c0_i32_192 v272
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_193 : BitVec 32 := 4#32
  let v274 : BitVec 32 := Scalar.muli v9 c4_i32_193
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v276 : BitVec 32 := Scalar.muli v8 c1_i32_194
  let v277 : BitVec 32 := Scalar.addi v275 v276
  v277.toNat
def k0_dev194 (d0 : Dev nD) : Nat :=
  let c0_i32_201 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_200 : BitVec 32 := 8#32
  let v286 : BitVec 32 := Scalar.muli v2 c8_i32_200
  let v287 : BitVec 32 := Scalar.addi c0_i32_201 v286
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_202 : BitVec 32 := 4#32
  let v288 : BitVec 32 := Scalar.muli v9 c4_i32_202
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v290 : BitVec 32 := Scalar.muli v8 c1_i32_203
  let v291 : BitVec 32 := Scalar.addi v289 v290
  v291.toNat
def k0_dev195 (d0 : Dev nD) : Nat :=
  let c0_i32_234 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_233 : BitVec 32 := 8#32
  let v337 : BitVec 32 := Scalar.muli v10 c8_i32_233
  let v338 : BitVec 32 := Scalar.addi c0_i32_234 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_235 : BitVec 32 := 4#32
  let v339 : BitVec 32 := Scalar.muli v5 c4_i32_235
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v341 : BitVec 32 := Scalar.muli v8 c1_i32_236
  let v342 : BitVec 32 := Scalar.addi v340 v341
  v342.toNat
def k0_dev196 (d0 : Dev nD) : Nat :=
  let c0_i32_245 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_244 : BitVec 32 := 8#32
  let v349 : BitVec 32 := Scalar.muli v2 c8_i32_244
  let v350 : BitVec 32 := Scalar.addi c0_i32_245 v349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v351 : BitVec 32 := Scalar.muli v5 c4_i32_246
  let v352 : BitVec 32 := Scalar.addi v350 v351
  let c1_i32_243 : BitVec 32 := 1#32
  let c1_i32_247 : BitVec 32 := 1#32
  let v353 : BitVec 32 := Scalar.muli c1_i32_243 c1_i32_247
  let v354 : BitVec 32 := Scalar.addi v352 v353
  v354.toNat
def k0_dev197 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v361 : BitVec 32 := Scalar.muli v2 c8_i32_255
  let v362 : BitVec 32 := Scalar.addi c0_i32_256 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_257 : BitVec 32 := 4#32
  let v363 : BitVec 32 := Scalar.muli v5 c4_i32_257
  let v364 : BitVec 32 := Scalar.addi v362 v363
  let c3_i32_254 : BitVec 32 := 3#32
  let c1_i32_258 : BitVec 32 := 1#32
  let v365 : BitVec 32 := Scalar.muli c3_i32_254 c1_i32_258
  let v366 : BitVec 32 := Scalar.addi v364 v365
  v366.toNat
def k0_dev198 (d0 : Dev nD) : Nat :=
  let c0_i32_290 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_289 : BitVec 32 := 8#32
  let v410 : BitVec 32 := Scalar.muli v10 c8_i32_289
  let v411 : BitVec 32 := Scalar.addi c0_i32_290 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_291 : BitVec 32 := 4#32
  let v412 : BitVec 32 := Scalar.muli v5 c4_i32_291
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v414 : BitVec 32 := Scalar.muli v8 c1_i32_292
  let v415 : BitVec 32 := Scalar.addi v413 v414
  v415.toNat
def k0_dev199 (d0 : Dev nD) : Nat :=
  let c0_i32_301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_300 : BitVec 32 := 8#32
  let v422 : BitVec 32 := Scalar.muli v2 c8_i32_300
  let v423 : BitVec 32 := Scalar.addi c0_i32_301 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v424 : BitVec 32 := Scalar.muli v5 c4_i32_302
  let v425 : BitVec 32 := Scalar.addi v423 v424
  let c1_i32_299 : BitVec 32 := 1#32
  let c1_i32_303 : BitVec 32 := 1#32
  let v426 : BitVec 32 := Scalar.muli c1_i32_299 c1_i32_303
  let v427 : BitVec 32 := Scalar.addi v425 v426
  v427.toNat
def k0_dev200 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v434 : BitVec 32 := Scalar.muli v2 c8_i32_311
  let v435 : BitVec 32 := Scalar.addi c0_i32_312 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v436 : BitVec 32 := Scalar.muli v5 c4_i32_313
  let v437 : BitVec 32 := Scalar.addi v435 v436
  let c3_i32_310 : BitVec 32 := 3#32
  let c1_i32_314 : BitVec 32 := 1#32
  let v438 : BitVec 32 := Scalar.muli c3_i32_310 c1_i32_314
  let v439 : BitVec 32 := Scalar.addi v437 v438
  v439.toNat
def k0_dev201 (d0 : Dev nD) : Nat :=
  let c0_i32_346 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_345 : BitVec 32 := 8#32
  let v483 : BitVec 32 := Scalar.muli v10 c8_i32_345
  let v484 : BitVec 32 := Scalar.addi c0_i32_346 v483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v485 : BitVec 32 := Scalar.muli v5 c4_i32_347
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v487 : BitVec 32 := Scalar.muli v8 c1_i32_348
  let v488 : BitVec 32 := Scalar.addi v486 v487
  v488.toNat
def k0_dev202 (d0 : Dev nD) : Nat :=
  let c0_i32_357 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_356 : BitVec 32 := 8#32
  let v495 : BitVec 32 := Scalar.muli v2 c8_i32_356
  let v496 : BitVec 32 := Scalar.addi c0_i32_357 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_358 : BitVec 32 := 4#32
  let v497 : BitVec 32 := Scalar.muli v5 c4_i32_358
  let v498 : BitVec 32 := Scalar.addi v496 v497
  let c1_i32_355 : BitVec 32 := 1#32
  let c1_i32_359 : BitVec 32 := 1#32
  let v499 : BitVec 32 := Scalar.muli c1_i32_355 c1_i32_359
  let v500 : BitVec 32 := Scalar.addi v498 v499
  v500.toNat
def k0_dev203 (d0 : Dev nD) : Nat :=
  let c0_i32_368 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_367 : BitVec 32 := 8#32
  let v507 : BitVec 32 := Scalar.muli v2 c8_i32_367
  let v508 : BitVec 32 := Scalar.addi c0_i32_368 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_369 : BitVec 32 := 4#32
  let v509 : BitVec 32 := Scalar.muli v5 c4_i32_369
  let v510 : BitVec 32 := Scalar.addi v508 v509
  let c3_i32_366 : BitVec 32 := 3#32
  let c1_i32_370 : BitVec 32 := 1#32
  let v511 : BitVec 32 := Scalar.muli c3_i32_366 c1_i32_370
  let v512 : BitVec 32 := Scalar.addi v510 v511
  v512.toNat
def k0_dev204 (d0 : Dev nD) : Nat :=
  let c0_i32_402 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_401 : BitVec 32 := 8#32
  let v556 : BitVec 32 := Scalar.muli v10 c8_i32_401
  let v557 : BitVec 32 := Scalar.addi c0_i32_402 v556
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_403 : BitVec 32 := 4#32
  let v558 : BitVec 32 := Scalar.muli v5 c4_i32_403
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v560 : BitVec 32 := Scalar.muli v8 c1_i32_404
  let v561 : BitVec 32 := Scalar.addi v559 v560
  v561.toNat
def k0_dev205 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_412 : BitVec 32 := 8#32
  let v568 : BitVec 32 := Scalar.muli v2 c8_i32_412
  let v569 : BitVec 32 := Scalar.addi c0_i32_413 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v570 : BitVec 32 := Scalar.muli v5 c4_i32_414
  let v571 : BitVec 32 := Scalar.addi v569 v570
  let c1_i32_411 : BitVec 32 := 1#32
  let c1_i32_415 : BitVec 32 := 1#32
  let v572 : BitVec 32 := Scalar.muli c1_i32_411 c1_i32_415
  let v573 : BitVec 32 := Scalar.addi v571 v572
  v573.toNat
def k0_dev206 (d0 : Dev nD) : Nat :=
  let c0_i32_424 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_423 : BitVec 32 := 8#32
  let v580 : BitVec 32 := Scalar.muli v2 c8_i32_423
  let v581 : BitVec 32 := Scalar.addi c0_i32_424 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_425 : BitVec 32 := 4#32
  let v582 : BitVec 32 := Scalar.muli v5 c4_i32_425
  let v583 : BitVec 32 := Scalar.addi v581 v582
  let c3_i32_422 : BitVec 32 := 3#32
  let c1_i32_426 : BitVec 32 := 1#32
  let v584 : BitVec 32 := Scalar.muli c3_i32_422 c1_i32_426
  let v585 : BitVec 32 := Scalar.addi v583 v584
  v585.toNat
def k0_dev207 (d0 : Dev nD) : Nat :=
  let c0_i32_458 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_457 : BitVec 32 := 8#32
  let v629 : BitVec 32 := Scalar.muli v10 c8_i32_457
  let v630 : BitVec 32 := Scalar.addi c0_i32_458 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_459 : BitVec 32 := 4#32
  let v631 : BitVec 32 := Scalar.muli v5 c4_i32_459
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_460 : BitVec 32 := 1#32
  let v633 : BitVec 32 := Scalar.muli v8 c1_i32_460
  let v634 : BitVec 32 := Scalar.addi v632 v633
  v634.toNat
def k0_dev208 (d0 : Dev nD) : Nat :=
  let c0_i32_469 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_468 : BitVec 32 := 8#32
  let v641 : BitVec 32 := Scalar.muli v2 c8_i32_468
  let v642 : BitVec 32 := Scalar.addi c0_i32_469 v641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v643 : BitVec 32 := Scalar.muli v5 c4_i32_470
  let v644 : BitVec 32 := Scalar.addi v642 v643
  let c1_i32_467 : BitVec 32 := 1#32
  let c1_i32_471 : BitVec 32 := 1#32
  let v645 : BitVec 32 := Scalar.muli c1_i32_467 c1_i32_471
  let v646 : BitVec 32 := Scalar.addi v644 v645
  v646.toNat
def k0_dev209 (d0 : Dev nD) : Nat :=
  let c0_i32_480 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_479 : BitVec 32 := 8#32
  let v653 : BitVec 32 := Scalar.muli v2 c8_i32_479
  let v654 : BitVec 32 := Scalar.addi c0_i32_480 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_481 : BitVec 32 := 4#32
  let v655 : BitVec 32 := Scalar.muli v5 c4_i32_481
  let v656 : BitVec 32 := Scalar.addi v654 v655
  let c3_i32_478 : BitVec 32 := 3#32
  let c1_i32_482 : BitVec 32 := 1#32
  let v657 : BitVec 32 := Scalar.muli c3_i32_478 c1_i32_482
  let v658 : BitVec 32 := Scalar.addi v656 v657
  v658.toNat
def k0_dev210 (d0 : Dev nD) : Nat :=
  let c0_i32_514 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_513 : BitVec 32 := 8#32
  let v702 : BitVec 32 := Scalar.muli v10 c8_i32_513
  let v703 : BitVec 32 := Scalar.addi c0_i32_514 v702
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v704 : BitVec 32 := Scalar.muli v5 c4_i32_515
  let v705 : BitVec 32 := Scalar.addi v703 v704
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v706 : BitVec 32 := Scalar.muli v8 c1_i32_516
  let v707 : BitVec 32 := Scalar.addi v705 v706
  v707.toNat
def k0_dev211 (d0 : Dev nD) : Nat :=
  let c0_i32_525 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_524 : BitVec 32 := 8#32
  let v714 : BitVec 32 := Scalar.muli v2 c8_i32_524
  let v715 : BitVec 32 := Scalar.addi c0_i32_525 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_526 : BitVec 32 := 4#32
  let v716 : BitVec 32 := Scalar.muli v5 c4_i32_526
  let v717 : BitVec 32 := Scalar.addi v715 v716
  let c1_i32_523 : BitVec 32 := 1#32
  let c1_i32_527 : BitVec 32 := 1#32
  let v718 : BitVec 32 := Scalar.muli c1_i32_523 c1_i32_527
  let v719 : BitVec 32 := Scalar.addi v717 v718
  v719.toNat
def k0_dev212 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_535 : BitVec 32 := 8#32
  let v726 : BitVec 32 := Scalar.muli v2 c8_i32_535
  let v727 : BitVec 32 := Scalar.addi c0_i32_536 v726
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_537 : BitVec 32 := 4#32
  let v728 : BitVec 32 := Scalar.muli v5 c4_i32_537
  let v729 : BitVec 32 := Scalar.addi v727 v728
  let c3_i32_534 : BitVec 32 := 3#32
  let c1_i32_538 : BitVec 32 := 1#32
  let v730 : BitVec 32 := Scalar.muli c3_i32_534 c1_i32_538
  let v731 : BitVec 32 := Scalar.addi v729 v730
  v731.toNat
def k0_dev213 (d0 : Dev nD) : Nat :=
  let c0_i32_570 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_569 : BitVec 32 := 8#32
  let v775 : BitVec 32 := Scalar.muli v10 c8_i32_569
  let v776 : BitVec 32 := Scalar.addi c0_i32_570 v775
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_571 : BitVec 32 := 4#32
  let v777 : BitVec 32 := Scalar.muli v5 c4_i32_571
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_572 : BitVec 32 := 1#32
  let v779 : BitVec 32 := Scalar.muli v8 c1_i32_572
  let v780 : BitVec 32 := Scalar.addi v778 v779
  v780.toNat
def k0_dev214 (d0 : Dev nD) : Nat :=
  let c0_i32_581 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_580 : BitVec 32 := 8#32
  let v787 : BitVec 32 := Scalar.muli v2 c8_i32_580
  let v788 : BitVec 32 := Scalar.addi c0_i32_581 v787
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_582 : BitVec 32 := 4#32
  let v789 : BitVec 32 := Scalar.muli v5 c4_i32_582
  let v790 : BitVec 32 := Scalar.addi v788 v789
  let c1_i32_579 : BitVec 32 := 1#32
  let c1_i32_583 : BitVec 32 := 1#32
  let v791 : BitVec 32 := Scalar.muli c1_i32_579 c1_i32_583
  let v792 : BitVec 32 := Scalar.addi v790 v791
  v792.toNat
def k0_dev215 (d0 : Dev nD) : Nat :=
  let c0_i32_592 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_591 : BitVec 32 := 8#32
  let v799 : BitVec 32 := Scalar.muli v2 c8_i32_591
  let v800 : BitVec 32 := Scalar.addi c0_i32_592 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_593 : BitVec 32 := 4#32
  let v801 : BitVec 32 := Scalar.muli v5 c4_i32_593
  let v802 : BitVec 32 := Scalar.addi v800 v801
  let c3_i32_590 : BitVec 32 := 3#32
  let c1_i32_594 : BitVec 32 := 1#32
  let v803 : BitVec 32 := Scalar.muli c3_i32_590 c1_i32_594
  let v804 : BitVec 32 := Scalar.addi v802 v803
  v804.toNat
def k0_dev216 (d0 : Dev nD) : Nat :=
  let c0_i32_626 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_625 : BitVec 32 := 8#32
  let v848 : BitVec 32 := Scalar.muli v10 c8_i32_625
  let v849 : BitVec 32 := Scalar.addi c0_i32_626 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_627 : BitVec 32 := 4#32
  let v850 : BitVec 32 := Scalar.muli v5 c4_i32_627
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_628 : BitVec 32 := 1#32
  let v852 : BitVec 32 := Scalar.muli v8 c1_i32_628
  let v853 : BitVec 32 := Scalar.addi v851 v852
  v853.toNat
def k0_dev217 (d0 : Dev nD) : Nat :=
  let c0_i32_637 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_636 : BitVec 32 := 8#32
  let v860 : BitVec 32 := Scalar.muli v2 c8_i32_636
  let v861 : BitVec 32 := Scalar.addi c0_i32_637 v860
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_638 : BitVec 32 := 4#32
  let v862 : BitVec 32 := Scalar.muli v5 c4_i32_638
  let v863 : BitVec 32 := Scalar.addi v861 v862
  let c1_i32_635 : BitVec 32 := 1#32
  let c1_i32_639 : BitVec 32 := 1#32
  let v864 : BitVec 32 := Scalar.muli c1_i32_635 c1_i32_639
  let v865 : BitVec 32 := Scalar.addi v863 v864
  v865.toNat
def k0_dev218 (d0 : Dev nD) : Nat :=
  let c0_i32_648 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_647 : BitVec 32 := 8#32
  let v872 : BitVec 32 := Scalar.muli v2 c8_i32_647
  let v873 : BitVec 32 := Scalar.addi c0_i32_648 v872
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_649 : BitVec 32 := 4#32
  let v874 : BitVec 32 := Scalar.muli v5 c4_i32_649
  let v875 : BitVec 32 := Scalar.addi v873 v874
  let c3_i32_646 : BitVec 32 := 3#32
  let c1_i32_650 : BitVec 32 := 1#32
  let v876 : BitVec 32 := Scalar.muli c3_i32_646 c1_i32_650
  let v877 : BitVec 32 := Scalar.addi v875 v876
  v877.toNat
def k0_dev219 (d0 : Dev nD) : Nat :=
  let c0_i32_683 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_682 : BitVec 32 := 8#32
  let v921 : BitVec 32 := Scalar.muli v2 c8_i32_682
  let v922 : BitVec 32 := Scalar.addi c0_i32_683 v921
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_684 : BitVec 32 := 4#32
  let v923 : BitVec 32 := Scalar.muli v5 c4_i32_684
  let v924 : BitVec 32 := Scalar.addi v922 v923
  let c3_i32_681 : BitVec 32 := 3#32
  let c1_i32_685 : BitVec 32 := 1#32
  let v925 : BitVec 32 := Scalar.muli c3_i32_681 c1_i32_685
  let v926 : BitVec 32 := Scalar.addi v924 v925
  v926.toNat
def k0_dev220 (d0 : Dev nD) : Nat :=
  let c0_i32_718 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_717 : BitVec 32 := 8#32
  let v970 : BitVec 32 := Scalar.muli v2 c8_i32_717
  let v971 : BitVec 32 := Scalar.addi c0_i32_718 v970
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_719 : BitVec 32 := 4#32
  let v972 : BitVec 32 := Scalar.muli v5 c4_i32_719
  let v973 : BitVec 32 := Scalar.addi v971 v972
  let c3_i32_716 : BitVec 32 := 3#32
  let c1_i32_720 : BitVec 32 := 1#32
  let v974 : BitVec 32 := Scalar.muli c3_i32_716 c1_i32_720
  let v975 : BitVec 32 := Scalar.addi v973 v974
  v975.toNat
def k0_dev221 (d0 : Dev nD) : Nat :=
  let c0_i32_753 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_752 : BitVec 32 := 8#32
  let v1019 : BitVec 32 := Scalar.muli v2 c8_i32_752
  let v1020 : BitVec 32 := Scalar.addi c0_i32_753 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_754 : BitVec 32 := 4#32
  let v1021 : BitVec 32 := Scalar.muli v5 c4_i32_754
  let v1022 : BitVec 32 := Scalar.addi v1020 v1021
  let c3_i32_751 : BitVec 32 := 3#32
  let c1_i32_755 : BitVec 32 := 1#32
  let v1023 : BitVec 32 := Scalar.muli c3_i32_751 c1_i32_755
  let v1024 : BitVec 32 := Scalar.addi v1022 v1023
  v1024.toNat
def k0_dev222 (d0 : Dev nD) : Nat :=
  let c0_i32_788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_787 : BitVec 32 := 8#32
  let v1068 : BitVec 32 := Scalar.muli v2 c8_i32_787
  let v1069 : BitVec 32 := Scalar.addi c0_i32_788 v1068
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_789 : BitVec 32 := 4#32
  let v1070 : BitVec 32 := Scalar.muli v5 c4_i32_789
  let v1071 : BitVec 32 := Scalar.addi v1069 v1070
  let c3_i32_786 : BitVec 32 := 3#32
  let c1_i32_790 : BitVec 32 := 1#32
  let v1072 : BitVec 32 := Scalar.muli c3_i32_786 c1_i32_790
  let v1073 : BitVec 32 := Scalar.addi v1071 v1072
  v1073.toNat
def k0_dev223 (d0 : Dev nD) : Nat :=
  let c0_i32_823 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_822 : BitVec 32 := 8#32
  let v1117 : BitVec 32 := Scalar.muli v2 c8_i32_822
  let v1118 : BitVec 32 := Scalar.addi c0_i32_823 v1117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_824 : BitVec 32 := 4#32
  let v1119 : BitVec 32 := Scalar.muli v5 c4_i32_824
  let v1120 : BitVec 32 := Scalar.addi v1118 v1119
  let c3_i32_821 : BitVec 32 := 3#32
  let c1_i32_825 : BitVec 32 := 1#32
  let v1121 : BitVec 32 := Scalar.muli c3_i32_821 c1_i32_825
  let v1122 : BitVec 32 := Scalar.addi v1120 v1121
  v1122.toNat
def k0_dev224 (d0 : Dev nD) : Nat :=
  let c0_i32_858 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_857 : BitVec 32 := 8#32
  let v1166 : BitVec 32 := Scalar.muli v2 c8_i32_857
  let v1167 : BitVec 32 := Scalar.addi c0_i32_858 v1166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_859 : BitVec 32 := 4#32
  let v1168 : BitVec 32 := Scalar.muli v5 c4_i32_859
  let v1169 : BitVec 32 := Scalar.addi v1167 v1168
  let c3_i32_856 : BitVec 32 := 3#32
  let c1_i32_860 : BitVec 32 := 1#32
  let v1170 : BitVec 32 := Scalar.muli c3_i32_856 c1_i32_860
  let v1171 : BitVec 32 := Scalar.addi v1169 v1170
  v1171.toNat
def k0_dev225 (d0 : Dev nD) : Nat :=
  let c0_i32_893 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_892 : BitVec 32 := 8#32
  let v1215 : BitVec 32 := Scalar.muli v2 c8_i32_892
  let v1216 : BitVec 32 := Scalar.addi c0_i32_893 v1215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_894 : BitVec 32 := 4#32
  let v1217 : BitVec 32 := Scalar.muli v5 c4_i32_894
  let v1218 : BitVec 32 := Scalar.addi v1216 v1217
  let c3_i32_891 : BitVec 32 := 3#32
  let c1_i32_895 : BitVec 32 := 1#32
  let v1219 : BitVec 32 := Scalar.muli c3_i32_891 c1_i32_895
  let v1220 : BitVec 32 := Scalar.addi v1218 v1219
  v1220.toNat
def k0_dev226 (d0 : Dev nD) : Nat :=
  let c0_i32_928 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_927 : BitVec 32 := 8#32
  let v1264 : BitVec 32 := Scalar.muli v2 c8_i32_927
  let v1265 : BitVec 32 := Scalar.addi c0_i32_928 v1264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_929 : BitVec 32 := 4#32
  let v1266 : BitVec 32 := Scalar.muli v5 c4_i32_929
  let v1267 : BitVec 32 := Scalar.addi v1265 v1266
  let c3_i32_926 : BitVec 32 := 3#32
  let c1_i32_930 : BitVec 32 := 1#32
  let v1268 : BitVec 32 := Scalar.muli c3_i32_926 c1_i32_930
  let v1269 : BitVec 32 := Scalar.addi v1267 v1268
  v1269.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_23 : BitVec 32 := 1#32
  let v36 : BitVec 1 := Scalar.cmpi .eq v2 c1_i32_23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_24 : BitVec 32 := 2#32
  let v37 : BitVec 1 := Scalar.cmpi .eq v8 c2_i32_24
  let v38 : BitVec 1 := Scalar.andi v36 v37
  let v39 : BitVec 32 := Scalar.extui v38
  let c0_i32_26 : BitVec 32 := 0#32
  let v40 : BitVec 1 := Scalar.cmpi .ne v39 c0_i32_26
  v40

def k0_dev227 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev228 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev229 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c1_i32_45 : BitVec 32 := 1#32
  let c1_i32_49 : BitVec 32 := 1#32
  let v68 : BitVec 32 := Scalar.muli c1_i32_45 c1_i32_49
  let v69 : BitVec 32 := Scalar.addi v67 v68
  v69.toNat
def k0_dev230 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v70 : BitVec 32 := Scalar.muli v2 c8_i32_52
  let v71 : BitVec 32 := Scalar.addi c0_i32_53 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v72 : BitVec 32 := Scalar.muli v5 c4_i32_54
  let v73 : BitVec 32 := Scalar.addi v71 v72
  let c3_i32_51 : BitVec 32 := 3#32
  let c1_i32_55 : BitVec 32 := 1#32
  let v74 : BitVec 32 := Scalar.muli c3_i32_51 c1_i32_55
  let v75 : BitVec 32 := Scalar.addi v73 v74
  v75.toNat
def k0_dev231 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v76 : BitVec 32 := Scalar.muli v2 c8_i32_59
  let v77 : BitVec 32 := Scalar.addi c0_i32_60 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v78 : BitVec 32 := Scalar.muli v9 c4_i32_61
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v80 : BitVec 32 := Scalar.muli v8 c1_i32_62
  let v81 : BitVec 32 := Scalar.addi v79 v80
  v81.toNat
def k0_dev232 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v90 : BitVec 32 := Scalar.muli v2 c8_i32_70
  let v91 : BitVec 32 := Scalar.addi c0_i32_71 v90
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_72 : BitVec 32 := 4#32
  let v92 : BitVec 32 := Scalar.muli v9 c4_i32_72
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v94 : BitVec 32 := Scalar.muli v8 c1_i32_73
  let v95 : BitVec 32 := Scalar.addi v93 v94
  v95.toNat
def k0_dev233 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v104 : BitVec 32 := Scalar.muli v2 c8_i32_80
  let v105 : BitVec 32 := Scalar.addi c0_i32_81 v104
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v106 : BitVec 32 := Scalar.muli v9 c4_i32_82
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v108 : BitVec 32 := Scalar.muli v8 c1_i32_83
  let v109 : BitVec 32 := Scalar.addi v107 v108
  v109.toNat
def k0_dev234 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v118 : BitVec 32 := Scalar.muli v2 c8_i32_90
  let v119 : BitVec 32 := Scalar.addi c0_i32_91 v118
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_92 : BitVec 32 := 4#32
  let v120 : BitVec 32 := Scalar.muli v9 c4_i32_92
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v122 : BitVec 32 := Scalar.muli v8 c1_i32_93
  let v123 : BitVec 32 := Scalar.addi v121 v122
  v123.toNat
def k0_dev235 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v132 : BitVec 32 := Scalar.muli v2 c8_i32_100
  let v133 : BitVec 32 := Scalar.addi c0_i32_101 v132
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_102 : BitVec 32 := 4#32
  let v134 : BitVec 32 := Scalar.muli v9 c4_i32_102
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v136 : BitVec 32 := Scalar.muli v8 c1_i32_103
  let v137 : BitVec 32 := Scalar.addi v135 v136
  v137.toNat
def k0_dev236 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v146 : BitVec 32 := Scalar.muli v2 c8_i32_109
  let v147 : BitVec 32 := Scalar.addi c0_i32_110 v146
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_111 : BitVec 32 := 4#32
  let v148 : BitVec 32 := Scalar.muli v9 c4_i32_111
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v150 : BitVec 32 := Scalar.muli v8 c1_i32_112
  let v151 : BitVec 32 := Scalar.addi v149 v150
  v151.toNat
def k0_dev237 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v160 : BitVec 32 := Scalar.muli v2 c8_i32_118
  let v161 : BitVec 32 := Scalar.addi c0_i32_119 v160
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_120 : BitVec 32 := 4#32
  let v162 : BitVec 32 := Scalar.muli v9 c4_i32_120
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v164 : BitVec 32 := Scalar.muli v8 c1_i32_121
  let v165 : BitVec 32 := Scalar.addi v163 v164
  v165.toNat
def k0_dev238 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v174 : BitVec 32 := Scalar.muli v2 c8_i32_127
  let v175 : BitVec 32 := Scalar.addi c0_i32_128 v174
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_129 : BitVec 32 := 4#32
  let v176 : BitVec 32 := Scalar.muli v9 c4_i32_129
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v178 : BitVec 32 := Scalar.muli v8 c1_i32_130
  let v179 : BitVec 32 := Scalar.addi v177 v178
  v179.toNat
def k0_dev239 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v188 : BitVec 32 := Scalar.muli v2 c8_i32_137
  let v189 : BitVec 32 := Scalar.addi c0_i32_138 v188
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_139 : BitVec 32 := 4#32
  let v190 : BitVec 32 := Scalar.muli v9 c4_i32_139
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v192 : BitVec 32 := Scalar.muli v8 c1_i32_140
  let v193 : BitVec 32 := Scalar.addi v191 v192
  v193.toNat
def k0_dev240 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v202 : BitVec 32 := Scalar.muli v2 c8_i32_147
  let v203 : BitVec 32 := Scalar.addi c0_i32_148 v202
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_149 : BitVec 32 := 4#32
  let v204 : BitVec 32 := Scalar.muli v9 c4_i32_149
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v206 : BitVec 32 := Scalar.muli v8 c1_i32_150
  let v207 : BitVec 32 := Scalar.addi v205 v206
  v207.toNat
def k0_dev241 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v216 : BitVec 32 := Scalar.muli v2 c8_i32_157
  let v217 : BitVec 32 := Scalar.addi c0_i32_158 v216
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_159 : BitVec 32 := 4#32
  let v218 : BitVec 32 := Scalar.muli v9 c4_i32_159
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v220 : BitVec 32 := Scalar.muli v8 c1_i32_160
  let v221 : BitVec 32 := Scalar.addi v219 v220
  v221.toNat
def k0_dev242 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v230 : BitVec 32 := Scalar.muli v2 c8_i32_167
  let v231 : BitVec 32 := Scalar.addi c0_i32_168 v230
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_169 : BitVec 32 := 4#32
  let v232 : BitVec 32 := Scalar.muli v9 c4_i32_169
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v234 : BitVec 32 := Scalar.muli v8 c1_i32_170
  let v235 : BitVec 32 := Scalar.addi v233 v234
  v235.toNat
def k0_dev243 (d0 : Dev nD) : Nat :=
  let c0_i32_178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_177 : BitVec 32 := 8#32
  let v244 : BitVec 32 := Scalar.muli v2 c8_i32_177
  let v245 : BitVec 32 := Scalar.addi c0_i32_178 v244
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_179 : BitVec 32 := 4#32
  let v246 : BitVec 32 := Scalar.muli v9 c4_i32_179
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_180 : BitVec 32 := 1#32
  let v248 : BitVec 32 := Scalar.muli v8 c1_i32_180
  let v249 : BitVec 32 := Scalar.addi v247 v248
  v249.toNat
def k0_dev244 (d0 : Dev nD) : Nat :=
  let c0_i32_187 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_186 : BitVec 32 := 8#32
  let v258 : BitVec 32 := Scalar.muli v2 c8_i32_186
  let v259 : BitVec 32 := Scalar.addi c0_i32_187 v258
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_188 : BitVec 32 := 4#32
  let v260 : BitVec 32 := Scalar.muli v9 c4_i32_188
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v262 : BitVec 32 := Scalar.muli v8 c1_i32_189
  let v263 : BitVec 32 := Scalar.addi v261 v262
  v263.toNat
def k0_dev245 (d0 : Dev nD) : Nat :=
  let c0_i32_196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_195 : BitVec 32 := 8#32
  let v272 : BitVec 32 := Scalar.muli v2 c8_i32_195
  let v273 : BitVec 32 := Scalar.addi c0_i32_196 v272
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_197 : BitVec 32 := 4#32
  let v274 : BitVec 32 := Scalar.muli v9 c4_i32_197
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v276 : BitVec 32 := Scalar.muli v8 c1_i32_198
  let v277 : BitVec 32 := Scalar.addi v275 v276
  v277.toNat
def k0_dev246 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v286 : BitVec 32 := Scalar.muli v2 c8_i32_204
  let v287 : BitVec 32 := Scalar.addi c0_i32_205 v286
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_206 : BitVec 32 := 4#32
  let v288 : BitVec 32 := Scalar.muli v9 c4_i32_206
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v290 : BitVec 32 := Scalar.muli v8 c1_i32_207
  let v291 : BitVec 32 := Scalar.addi v289 v290
  v291.toNat
def k0_dev247 (d0 : Dev nD) : Nat :=
  let c0_i32_238 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_237 : BitVec 32 := 8#32
  let v337 : BitVec 32 := Scalar.muli v10 c8_i32_237
  let v338 : BitVec 32 := Scalar.addi c0_i32_238 v337
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v339 : BitVec 32 := Scalar.muli v5 c4_i32_239
  let v340 : BitVec 32 := Scalar.addi v338 v339
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v341 : BitVec 32 := Scalar.muli v8 c1_i32_240
  let v342 : BitVec 32 := Scalar.addi v340 v341
  v342.toNat
def k0_dev248 (d0 : Dev nD) : Nat :=
  let c0_i32_249 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_248 : BitVec 32 := 8#32
  let v349 : BitVec 32 := Scalar.muli v2 c8_i32_248
  let v350 : BitVec 32 := Scalar.addi c0_i32_249 v349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v351 : BitVec 32 := Scalar.muli v5 c4_i32_250
  let v352 : BitVec 32 := Scalar.addi v350 v351
  let c1_i32_247 : BitVec 32 := 1#32
  let c1_i32_251 : BitVec 32 := 1#32
  let v353 : BitVec 32 := Scalar.muli c1_i32_247 c1_i32_251
  let v354 : BitVec 32 := Scalar.addi v352 v353
  v354.toNat
def k0_dev249 (d0 : Dev nD) : Nat :=
  let c0_i32_260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_259 : BitVec 32 := 8#32
  let v361 : BitVec 32 := Scalar.muli v2 c8_i32_259
  let v362 : BitVec 32 := Scalar.addi c0_i32_260 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v363 : BitVec 32 := Scalar.muli v5 c4_i32_261
  let v364 : BitVec 32 := Scalar.addi v362 v363
  let c3_i32_258 : BitVec 32 := 3#32
  let c1_i32_262 : BitVec 32 := 1#32
  let v365 : BitVec 32 := Scalar.muli c3_i32_258 c1_i32_262
  let v366 : BitVec 32 := Scalar.addi v364 v365
  v366.toNat
def k0_dev250 (d0 : Dev nD) : Nat :=
  let c0_i32_294 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_293 : BitVec 32 := 8#32
  let v410 : BitVec 32 := Scalar.muli v10 c8_i32_293
  let v411 : BitVec 32 := Scalar.addi c0_i32_294 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_295 : BitVec 32 := 4#32
  let v412 : BitVec 32 := Scalar.muli v5 c4_i32_295
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v414 : BitVec 32 := Scalar.muli v8 c1_i32_296
  let v415 : BitVec 32 := Scalar.addi v413 v414
  v415.toNat
def k0_dev251 (d0 : Dev nD) : Nat :=
  let c0_i32_305 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_304 : BitVec 32 := 8#32
  let v422 : BitVec 32 := Scalar.muli v2 c8_i32_304
  let v423 : BitVec 32 := Scalar.addi c0_i32_305 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_306 : BitVec 32 := 4#32
  let v424 : BitVec 32 := Scalar.muli v5 c4_i32_306
  let v425 : BitVec 32 := Scalar.addi v423 v424
  let c1_i32_303 : BitVec 32 := 1#32
  let c1_i32_307 : BitVec 32 := 1#32
  let v426 : BitVec 32 := Scalar.muli c1_i32_303 c1_i32_307
  let v427 : BitVec 32 := Scalar.addi v425 v426
  v427.toNat
def k0_dev252 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v434 : BitVec 32 := Scalar.muli v2 c8_i32_315
  let v435 : BitVec 32 := Scalar.addi c0_i32_316 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_317 : BitVec 32 := 4#32
  let v436 : BitVec 32 := Scalar.muli v5 c4_i32_317
  let v437 : BitVec 32 := Scalar.addi v435 v436
  let c3_i32_314 : BitVec 32 := 3#32
  let c1_i32_318 : BitVec 32 := 1#32
  let v438 : BitVec 32 := Scalar.muli c3_i32_314 c1_i32_318
  let v439 : BitVec 32 := Scalar.addi v437 v438
  v439.toNat
def k0_dev253 (d0 : Dev nD) : Nat :=
  let c0_i32_350 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_349 : BitVec 32 := 8#32
  let v483 : BitVec 32 := Scalar.muli v10 c8_i32_349
  let v484 : BitVec 32 := Scalar.addi c0_i32_350 v483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_351 : BitVec 32 := 4#32
  let v485 : BitVec 32 := Scalar.muli v5 c4_i32_351
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v487 : BitVec 32 := Scalar.muli v8 c1_i32_352
  let v488 : BitVec 32 := Scalar.addi v486 v487
  v488.toNat
def k0_dev254 (d0 : Dev nD) : Nat :=
  let c0_i32_361 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_360 : BitVec 32 := 8#32
  let v495 : BitVec 32 := Scalar.muli v2 c8_i32_360
  let v496 : BitVec 32 := Scalar.addi c0_i32_361 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_362 : BitVec 32 := 4#32
  let v497 : BitVec 32 := Scalar.muli v5 c4_i32_362
  let v498 : BitVec 32 := Scalar.addi v496 v497
  let c1_i32_359 : BitVec 32 := 1#32
  let c1_i32_363 : BitVec 32 := 1#32
  let v499 : BitVec 32 := Scalar.muli c1_i32_359 c1_i32_363
  let v500 : BitVec 32 := Scalar.addi v498 v499
  v500.toNat
def k0_dev255 (d0 : Dev nD) : Nat :=
  let c0_i32_372 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_371 : BitVec 32 := 8#32
  let v507 : BitVec 32 := Scalar.muli v2 c8_i32_371
  let v508 : BitVec 32 := Scalar.addi c0_i32_372 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v509 : BitVec 32 := Scalar.muli v5 c4_i32_373
  let v510 : BitVec 32 := Scalar.addi v508 v509
  let c3_i32_370 : BitVec 32 := 3#32
  let c1_i32_374 : BitVec 32 := 1#32
  let v511 : BitVec 32 := Scalar.muli c3_i32_370 c1_i32_374
  let v512 : BitVec 32 := Scalar.addi v510 v511
  v512.toNat
def k0_dev256 (d0 : Dev nD) : Nat :=
  let c0_i32_406 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_405 : BitVec 32 := 8#32
  let v556 : BitVec 32 := Scalar.muli v10 c8_i32_405
  let v557 : BitVec 32 := Scalar.addi c0_i32_406 v556
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_407 : BitVec 32 := 4#32
  let v558 : BitVec 32 := Scalar.muli v5 c4_i32_407
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v560 : BitVec 32 := Scalar.muli v8 c1_i32_408
  let v561 : BitVec 32 := Scalar.addi v559 v560
  v561.toNat
def k0_dev257 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v568 : BitVec 32 := Scalar.muli v2 c8_i32_416
  let v569 : BitVec 32 := Scalar.addi c0_i32_417 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v570 : BitVec 32 := Scalar.muli v5 c4_i32_418
  let v571 : BitVec 32 := Scalar.addi v569 v570
  let c1_i32_415 : BitVec 32 := 1#32
  let c1_i32_419 : BitVec 32 := 1#32
  let v572 : BitVec 32 := Scalar.muli c1_i32_415 c1_i32_419
  let v573 : BitVec 32 := Scalar.addi v571 v572
  v573.toNat
def k0_dev258 (d0 : Dev nD) : Nat :=
  let c0_i32_428 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_427 : BitVec 32 := 8#32
  let v580 : BitVec 32 := Scalar.muli v2 c8_i32_427
  let v581 : BitVec 32 := Scalar.addi c0_i32_428 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_429 : BitVec 32 := 4#32
  let v582 : BitVec 32 := Scalar.muli v5 c4_i32_429
  let v583 : BitVec 32 := Scalar.addi v581 v582
  let c3_i32_426 : BitVec 32 := 3#32
  let c1_i32_430 : BitVec 32 := 1#32
  let v584 : BitVec 32 := Scalar.muli c3_i32_426 c1_i32_430
  let v585 : BitVec 32 := Scalar.addi v583 v584
  v585.toNat
def k0_dev259 (d0 : Dev nD) : Nat :=
  let c0_i32_462 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_461 : BitVec 32 := 8#32
  let v629 : BitVec 32 := Scalar.muli v10 c8_i32_461
  let v630 : BitVec 32 := Scalar.addi c0_i32_462 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_463 : BitVec 32 := 4#32
  let v631 : BitVec 32 := Scalar.muli v5 c4_i32_463
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v633 : BitVec 32 := Scalar.muli v8 c1_i32_464
  let v634 : BitVec 32 := Scalar.addi v632 v633
  v634.toNat
def k0_dev260 (d0 : Dev nD) : Nat :=
  let c0_i32_473 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_472 : BitVec 32 := 8#32
  let v641 : BitVec 32 := Scalar.muli v2 c8_i32_472
  let v642 : BitVec 32 := Scalar.addi c0_i32_473 v641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_474 : BitVec 32 := 4#32
  let v643 : BitVec 32 := Scalar.muli v5 c4_i32_474
  let v644 : BitVec 32 := Scalar.addi v642 v643
  let c1_i32_471 : BitVec 32 := 1#32
  let c1_i32_475 : BitVec 32 := 1#32
  let v645 : BitVec 32 := Scalar.muli c1_i32_471 c1_i32_475
  let v646 : BitVec 32 := Scalar.addi v644 v645
  v646.toNat
def k0_dev261 (d0 : Dev nD) : Nat :=
  let c0_i32_484 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_483 : BitVec 32 := 8#32
  let v653 : BitVec 32 := Scalar.muli v2 c8_i32_483
  let v654 : BitVec 32 := Scalar.addi c0_i32_484 v653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_485 : BitVec 32 := 4#32
  let v655 : BitVec 32 := Scalar.muli v5 c4_i32_485
  let v656 : BitVec 32 := Scalar.addi v654 v655
  let c3_i32_482 : BitVec 32 := 3#32
  let c1_i32_486 : BitVec 32 := 1#32
  let v657 : BitVec 32 := Scalar.muli c3_i32_482 c1_i32_486
  let v658 : BitVec 32 := Scalar.addi v656 v657
  v658.toNat
def k0_dev262 (d0 : Dev nD) : Nat :=
  let c0_i32_518 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_517 : BitVec 32 := 8#32
  let v702 : BitVec 32 := Scalar.muli v10 c8_i32_517
  let v703 : BitVec 32 := Scalar.addi c0_i32_518 v702
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_519 : BitVec 32 := 4#32
  let v704 : BitVec 32 := Scalar.muli v5 c4_i32_519
  let v705 : BitVec 32 := Scalar.addi v703 v704
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v706 : BitVec 32 := Scalar.muli v8 c1_i32_520
  let v707 : BitVec 32 := Scalar.addi v705 v706
  v707.toNat
def k0_dev263 (d0 : Dev nD) : Nat :=
  let c0_i32_529 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_528 : BitVec 32 := 8#32
  let v714 : BitVec 32 := Scalar.muli v2 c8_i32_528
  let v715 : BitVec 32 := Scalar.addi c0_i32_529 v714
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_530 : BitVec 32 := 4#32
  let v716 : BitVec 32 := Scalar.muli v5 c4_i32_530
  let v717 : BitVec 32 := Scalar.addi v715 v716
  let c1_i32_527 : BitVec 32 := 1#32
  let c1_i32_531 : BitVec 32 := 1#32
  let v718 : BitVec 32 := Scalar.muli c1_i32_527 c1_i32_531
  let v719 : BitVec 32 := Scalar.addi v717 v718
  v719.toNat
def k0_dev264 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v726 : BitVec 32 := Scalar.muli v2 c8_i32_539
  let v727 : BitVec 32 := Scalar.addi c0_i32_540 v726
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_541 : BitVec 32 := 4#32
  let v728 : BitVec 32 := Scalar.muli v5 c4_i32_541
  let v729 : BitVec 32 := Scalar.addi v727 v728
  let c3_i32_538 : BitVec 32 := 3#32
  let c1_i32_542 : BitVec 32 := 1#32
  let v730 : BitVec 32 := Scalar.muli c3_i32_538 c1_i32_542
  let v731 : BitVec 32 := Scalar.addi v729 v730
  v731.toNat
def k0_dev265 (d0 : Dev nD) : Nat :=
  let c0_i32_574 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_573 : BitVec 32 := 8#32
  let v775 : BitVec 32 := Scalar.muli v10 c8_i32_573
  let v776 : BitVec 32 := Scalar.addi c0_i32_574 v775
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_575 : BitVec 32 := 4#32
  let v777 : BitVec 32 := Scalar.muli v5 c4_i32_575
  let v778 : BitVec 32 := Scalar.addi v776 v777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_576 : BitVec 32 := 1#32
  let v779 : BitVec 32 := Scalar.muli v8 c1_i32_576
  let v780 : BitVec 32 := Scalar.addi v778 v779
  v780.toNat
def k0_dev266 (d0 : Dev nD) : Nat :=
  let c0_i32_585 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_584 : BitVec 32 := 8#32
  let v787 : BitVec 32 := Scalar.muli v2 c8_i32_584
  let v788 : BitVec 32 := Scalar.addi c0_i32_585 v787
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_586 : BitVec 32 := 4#32
  let v789 : BitVec 32 := Scalar.muli v5 c4_i32_586
  let v790 : BitVec 32 := Scalar.addi v788 v789
  let c1_i32_583 : BitVec 32 := 1#32
  let c1_i32_587 : BitVec 32 := 1#32
  let v791 : BitVec 32 := Scalar.muli c1_i32_583 c1_i32_587
  let v792 : BitVec 32 := Scalar.addi v790 v791
  v792.toNat
def k0_dev267 (d0 : Dev nD) : Nat :=
  let c0_i32_596 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_595 : BitVec 32 := 8#32
  let v799 : BitVec 32 := Scalar.muli v2 c8_i32_595
  let v800 : BitVec 32 := Scalar.addi c0_i32_596 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_597 : BitVec 32 := 4#32
  let v801 : BitVec 32 := Scalar.muli v5 c4_i32_597
  let v802 : BitVec 32 := Scalar.addi v800 v801
  let c3_i32_594 : BitVec 32 := 3#32
  let c1_i32_598 : BitVec 32 := 1#32
  let v803 : BitVec 32 := Scalar.muli c3_i32_594 c1_i32_598
  let v804 : BitVec 32 := Scalar.addi v802 v803
  v804.toNat
def k0_dev268 (d0 : Dev nD) : Nat :=
  let c0_i32_630 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_629 : BitVec 32 := 8#32
  let v848 : BitVec 32 := Scalar.muli v10 c8_i32_629
  let v849 : BitVec 32 := Scalar.addi c0_i32_630 v848
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_631 : BitVec 32 := 4#32
  let v850 : BitVec 32 := Scalar.muli v5 c4_i32_631
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_632 : BitVec 32 := 1#32
  let v852 : BitVec 32 := Scalar.muli v8 c1_i32_632
  let v853 : BitVec 32 := Scalar.addi v851 v852
  v853.toNat
def k0_dev269 (d0 : Dev nD) : Nat :=
  let c0_i32_641 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_640 : BitVec 32 := 8#32
  let v860 : BitVec 32 := Scalar.muli v2 c8_i32_640
  let v861 : BitVec 32 := Scalar.addi c0_i32_641 v860
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_642 : BitVec 32 := 4#32
  let v862 : BitVec 32 := Scalar.muli v5 c4_i32_642
  let v863 : BitVec 32 := Scalar.addi v861 v862
  let c1_i32_639 : BitVec 32 := 1#32
  let c1_i32_643 : BitVec 32 := 1#32
  let v864 : BitVec 32 := Scalar.muli c1_i32_639 c1_i32_643
  let v865 : BitVec 32 := Scalar.addi v863 v864
  v865.toNat
def k0_dev270 (d0 : Dev nD) : Nat :=
  let c0_i32_652 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_651 : BitVec 32 := 8#32
  let v872 : BitVec 32 := Scalar.muli v2 c8_i32_651
  let v873 : BitVec 32 := Scalar.addi c0_i32_652 v872
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_653 : BitVec 32 := 4#32
  let v874 : BitVec 32 := Scalar.muli v5 c4_i32_653
  let v875 : BitVec 32 := Scalar.addi v873 v874
  let c3_i32_650 : BitVec 32 := 3#32
  let c1_i32_654 : BitVec 32 := 1#32
  let v876 : BitVec 32 := Scalar.muli c3_i32_650 c1_i32_654
  let v877 : BitVec 32 := Scalar.addi v875 v876
  v877.toNat
def k0_dev271 (d0 : Dev nD) : Nat :=
  let c0_i32_688 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_687 : BitVec 32 := 8#32
  let v921 : BitVec 32 := Scalar.muli v2 c8_i32_687
  let v922 : BitVec 32 := Scalar.addi c0_i32_688 v921
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_689 : BitVec 32 := 4#32
  let v923 : BitVec 32 := Scalar.muli v5 c4_i32_689
  let v924 : BitVec 32 := Scalar.addi v922 v923
  let c3_i32_686 : BitVec 32 := 3#32
  let c1_i32_690 : BitVec 32 := 1#32
  let v925 : BitVec 32 := Scalar.muli c3_i32_686 c1_i32_690
  let v926 : BitVec 32 := Scalar.addi v924 v925
  v926.toNat
def k0_dev272 (d0 : Dev nD) : Nat :=
  let c0_i32_724 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_723 : BitVec 32 := 8#32
  let v970 : BitVec 32 := Scalar.muli v2 c8_i32_723
  let v971 : BitVec 32 := Scalar.addi c0_i32_724 v970
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_725 : BitVec 32 := 4#32
  let v972 : BitVec 32 := Scalar.muli v5 c4_i32_725
  let v973 : BitVec 32 := Scalar.addi v971 v972
  let c3_i32_722 : BitVec 32 := 3#32
  let c1_i32_726 : BitVec 32 := 1#32
  let v974 : BitVec 32 := Scalar.muli c3_i32_722 c1_i32_726
  let v975 : BitVec 32 := Scalar.addi v973 v974
  v975.toNat
def k0_dev273 (d0 : Dev nD) : Nat :=
  let c0_i32_760 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_759 : BitVec 32 := 8#32
  let v1019 : BitVec 32 := Scalar.muli v2 c8_i32_759
  let v1020 : BitVec 32 := Scalar.addi c0_i32_760 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_761 : BitVec 32 := 4#32
  let v1021 : BitVec 32 := Scalar.muli v5 c4_i32_761
  let v1022 : BitVec 32 := Scalar.addi v1020 v1021
  let c3_i32_758 : BitVec 32 := 3#32
  let c1_i32_762 : BitVec 32 := 1#32
  let v1023 : BitVec 32 := Scalar.muli c3_i32_758 c1_i32_762
  let v1024 : BitVec 32 := Scalar.addi v1022 v1023
  v1024.toNat
def k0_dev274 (d0 : Dev nD) : Nat :=
  let c0_i32_796 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_795 : BitVec 32 := 8#32
  let v1068 : BitVec 32 := Scalar.muli v2 c8_i32_795
  let v1069 : BitVec 32 := Scalar.addi c0_i32_796 v1068
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_797 : BitVec 32 := 4#32
  let v1070 : BitVec 32 := Scalar.muli v5 c4_i32_797
  let v1071 : BitVec 32 := Scalar.addi v1069 v1070
  let c3_i32_794 : BitVec 32 := 3#32
  let c1_i32_798 : BitVec 32 := 1#32
  let v1072 : BitVec 32 := Scalar.muli c3_i32_794 c1_i32_798
  let v1073 : BitVec 32 := Scalar.addi v1071 v1072
  v1073.toNat
def k0_dev275 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v1117 : BitVec 32 := Scalar.muli v2 c8_i32_830
  let v1118 : BitVec 32 := Scalar.addi c0_i32_831 v1117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v1119 : BitVec 32 := Scalar.muli v5 c4_i32_832
  let v1120 : BitVec 32 := Scalar.addi v1118 v1119
  let c3_i32_829 : BitVec 32 := 3#32
  let c1_i32_833 : BitVec 32 := 1#32
  let v1121 : BitVec 32 := Scalar.muli c3_i32_829 c1_i32_833
  let v1122 : BitVec 32 := Scalar.addi v1120 v1121
  v1122.toNat
def k0_dev276 (d0 : Dev nD) : Nat :=
  let c0_i32_866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_865 : BitVec 32 := 8#32
  let v1166 : BitVec 32 := Scalar.muli v2 c8_i32_865
  let v1167 : BitVec 32 := Scalar.addi c0_i32_866 v1166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_867 : BitVec 32 := 4#32
  let v1168 : BitVec 32 := Scalar.muli v5 c4_i32_867
  let v1169 : BitVec 32 := Scalar.addi v1167 v1168
  let c3_i32_864 : BitVec 32 := 3#32
  let c1_i32_868 : BitVec 32 := 1#32
  let v1170 : BitVec 32 := Scalar.muli c3_i32_864 c1_i32_868
  let v1171 : BitVec 32 := Scalar.addi v1169 v1170
  v1171.toNat
def k0_dev277 (d0 : Dev nD) : Nat :=
  let c0_i32_901 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_900 : BitVec 32 := 8#32
  let v1215 : BitVec 32 := Scalar.muli v2 c8_i32_900
  let v1216 : BitVec 32 := Scalar.addi c0_i32_901 v1215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_902 : BitVec 32 := 4#32
  let v1217 : BitVec 32 := Scalar.muli v5 c4_i32_902
  let v1218 : BitVec 32 := Scalar.addi v1216 v1217
  let c3_i32_899 : BitVec 32 := 3#32
  let c1_i32_903 : BitVec 32 := 1#32
  let v1219 : BitVec 32 := Scalar.muli c3_i32_899 c1_i32_903
  let v1220 : BitVec 32 := Scalar.addi v1218 v1219
  v1220.toNat
def k0_dev278 (d0 : Dev nD) : Nat :=
  let c0_i32_936 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_935 : BitVec 32 := 8#32
  let v1264 : BitVec 32 := Scalar.muli v2 c8_i32_935
  let v1265 : BitVec 32 := Scalar.addi c0_i32_936 v1264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_937 : BitVec 32 := 4#32
  let v1266 : BitVec 32 := Scalar.muli v5 c4_i32_937
  let v1267 : BitVec 32 := Scalar.addi v1265 v1266
  let c3_i32_934 : BitVec 32 := 3#32
  let c1_i32_938 : BitVec 32 := 1#32
  let v1268 : BitVec 32 := Scalar.muli c3_i32_934 c1_i32_938
  let v1269 : BitVec 32 := Scalar.addi v1267 v1268
  v1269.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_27 : BitVec 32 := 0#32
  let v41 : BitVec 1 := Scalar.cmpi .eq v2 c0_i32_27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v42 : BitVec 1 := Scalar.cmpi .eq v8 c3_i32
  let v43 : BitVec 1 := Scalar.andi v41 v42
  let v44 : BitVec 32 := Scalar.extui v43
  let c0_i32_29 : BitVec 32 := 0#32
  let v45 : BitVec 1 := Scalar.cmpi .ne v44 c0_i32_29
  v45

def k0_dev279 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev280 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev281 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c2_i32_45 : BitVec 32 := 2#32
  let c1_i32_49 : BitVec 32 := 1#32
  let v68 : BitVec 32 := Scalar.muli c2_i32_45 c1_i32_49
  let v69 : BitVec 32 := Scalar.addi v67 v68
  v69.toNat
def k0_dev282 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v70 : BitVec 32 := Scalar.muli v2 c8_i32_53
  let v71 : BitVec 32 := Scalar.addi c0_i32_54 v70
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_55 : BitVec 32 := 4#32
  let v72 : BitVec 32 := Scalar.muli v9 c4_i32_55
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v74 : BitVec 32 := Scalar.muli v8 c1_i32_56
  let v75 : BitVec 32 := Scalar.addi v73 v74
  v75.toNat
def k0_dev283 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v84 : BitVec 32 := Scalar.muli v2 c8_i32_65
  let v85 : BitVec 32 := Scalar.addi c0_i32_66 v84
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_67 : BitVec 32 := 4#32
  let v86 : BitVec 32 := Scalar.muli v9 c4_i32_67
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v88 : BitVec 32 := Scalar.muli v8 c1_i32_68
  let v89 : BitVec 32 := Scalar.addi v87 v88
  v89.toNat
def k0_dev284 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v98 : BitVec 32 := Scalar.muli v2 c8_i32_76
  let v99 : BitVec 32 := Scalar.addi c0_i32_77 v98
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_78 : BitVec 32 := 4#32
  let v100 : BitVec 32 := Scalar.muli v9 c4_i32_78
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v102 : BitVec 32 := Scalar.muli v8 c1_i32_79
  let v103 : BitVec 32 := Scalar.addi v101 v102
  v103.toNat
def k0_dev285 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v112 : BitVec 32 := Scalar.muli v2 c8_i32_87
  let v113 : BitVec 32 := Scalar.addi c0_i32_88 v112
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_89 : BitVec 32 := 4#32
  let v114 : BitVec 32 := Scalar.muli v9 c4_i32_89
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v116 : BitVec 32 := Scalar.muli v8 c1_i32_90
  let v117 : BitVec 32 := Scalar.addi v115 v116
  v117.toNat
def k0_dev286 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v126 : BitVec 32 := Scalar.muli v2 c8_i32_98
  let v127 : BitVec 32 := Scalar.addi c0_i32_99 v126
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_100 : BitVec 32 := 4#32
  let v128 : BitVec 32 := Scalar.muli v9 c4_i32_100
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v130 : BitVec 32 := Scalar.muli v8 c1_i32_101
  let v131 : BitVec 32 := Scalar.addi v129 v130
  v131.toNat
def k0_dev287 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v140 : BitVec 32 := Scalar.muli v2 c8_i32_108
  let v141 : BitVec 32 := Scalar.addi c0_i32_109 v140
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_110 : BitVec 32 := 4#32
  let v142 : BitVec 32 := Scalar.muli v9 c4_i32_110
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v144 : BitVec 32 := Scalar.muli v8 c1_i32_111
  let v145 : BitVec 32 := Scalar.addi v143 v144
  v145.toNat
def k0_dev288 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v154 : BitVec 32 := Scalar.muli v2 c8_i32_118
  let v155 : BitVec 32 := Scalar.addi c0_i32_119 v154
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_120 : BitVec 32 := 4#32
  let v156 : BitVec 32 := Scalar.muli v9 c4_i32_120
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v158 : BitVec 32 := Scalar.muli v8 c1_i32_121
  let v159 : BitVec 32 := Scalar.addi v157 v158
  v159.toNat
def k0_dev289 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v168 : BitVec 32 := Scalar.muli v2 c8_i32_128
  let v169 : BitVec 32 := Scalar.addi c0_i32_129 v168
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_130 : BitVec 32 := 4#32
  let v170 : BitVec 32 := Scalar.muli v9 c4_i32_130
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v172 : BitVec 32 := Scalar.muli v8 c1_i32_131
  let v173 : BitVec 32 := Scalar.addi v171 v172
  v173.toNat
def k0_dev290 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v182 : BitVec 32 := Scalar.muli v2 c8_i32_139
  let v183 : BitVec 32 := Scalar.addi c0_i32_140 v182
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_141 : BitVec 32 := 4#32
  let v184 : BitVec 32 := Scalar.muli v9 c4_i32_141
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v186 : BitVec 32 := Scalar.muli v8 c1_i32_142
  let v187 : BitVec 32 := Scalar.addi v185 v186
  v187.toNat
def k0_dev291 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v196 : BitVec 32 := Scalar.muli v2 c8_i32_149
  let v197 : BitVec 32 := Scalar.addi c0_i32_150 v196
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_151 : BitVec 32 := 4#32
  let v198 : BitVec 32 := Scalar.muli v9 c4_i32_151
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v200 : BitVec 32 := Scalar.muli v8 c1_i32_152
  let v201 : BitVec 32 := Scalar.addi v199 v200
  v201.toNat
def k0_dev292 (d0 : Dev nD) : Nat :=
  let c0_i32_160 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_159 : BitVec 32 := 8#32
  let v210 : BitVec 32 := Scalar.muli v2 c8_i32_159
  let v211 : BitVec 32 := Scalar.addi c0_i32_160 v210
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_161 : BitVec 32 := 4#32
  let v212 : BitVec 32 := Scalar.muli v9 c4_i32_161
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v214 : BitVec 32 := Scalar.muli v8 c1_i32_162
  let v215 : BitVec 32 := Scalar.addi v213 v214
  v215.toNat
def k0_dev293 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v224 : BitVec 32 := Scalar.muli v2 c8_i32_169
  let v225 : BitVec 32 := Scalar.addi c0_i32_170 v224
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_171 : BitVec 32 := 4#32
  let v226 : BitVec 32 := Scalar.muli v9 c4_i32_171
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v228 : BitVec 32 := Scalar.muli v8 c1_i32_172
  let v229 : BitVec 32 := Scalar.addi v227 v228
  v229.toNat
def k0_dev294 (d0 : Dev nD) : Nat :=
  let c0_i32_180 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_179 : BitVec 32 := 8#32
  let v238 : BitVec 32 := Scalar.muli v2 c8_i32_179
  let v239 : BitVec 32 := Scalar.addi c0_i32_180 v238
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_181 : BitVec 32 := 4#32
  let v240 : BitVec 32 := Scalar.muli v9 c4_i32_181
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v242 : BitVec 32 := Scalar.muli v8 c1_i32_182
  let v243 : BitVec 32 := Scalar.addi v241 v242
  v243.toNat
def k0_dev295 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v252 : BitVec 32 := Scalar.muli v2 c8_i32_189
  let v253 : BitVec 32 := Scalar.addi c0_i32_190 v252
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_191 : BitVec 32 := 4#32
  let v254 : BitVec 32 := Scalar.muli v9 c4_i32_191
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v256 : BitVec 32 := Scalar.muli v8 c1_i32_192
  let v257 : BitVec 32 := Scalar.addi v255 v256
  v257.toNat
def k0_dev296 (d0 : Dev nD) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199 : BitVec 32 := 8#32
  let v266 : BitVec 32 := Scalar.muli v2 c8_i32_199
  let v267 : BitVec 32 := Scalar.addi c0_i32_200 v266
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_201 : BitVec 32 := 4#32
  let v268 : BitVec 32 := Scalar.muli v9 c4_i32_201
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v270 : BitVec 32 := Scalar.muli v8 c1_i32_202
  let v271 : BitVec 32 := Scalar.addi v269 v270
  v271.toNat
def k0_dev297 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v280 : BitVec 32 := Scalar.muli v2 c8_i32_209
  let v281 : BitVec 32 := Scalar.addi c0_i32_210 v280
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_211 : BitVec 32 := 4#32
  let v282 : BitVec 32 := Scalar.muli v9 c4_i32_211
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v284 : BitVec 32 := Scalar.muli v8 c1_i32_212
  let v285 : BitVec 32 := Scalar.addi v283 v284
  v285.toNat
def k0_dev298 (d0 : Dev nD) : Nat :=
  let c0_i32_245 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_244 : BitVec 32 := 8#32
  let v331 : BitVec 32 := Scalar.muli v10 c8_i32_244
  let v332 : BitVec 32 := Scalar.addi c0_i32_245 v331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v333 : BitVec 32 := Scalar.muli v5 c4_i32_246
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v335 : BitVec 32 := Scalar.muli v8 c1_i32_247
  let v336 : BitVec 32 := Scalar.addi v334 v335
  v336.toNat
def k0_dev299 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v343 : BitVec 32 := Scalar.muli v2 c8_i32_255
  let v344 : BitVec 32 := Scalar.addi c0_i32_256 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_257 : BitVec 32 := 4#32
  let v345 : BitVec 32 := Scalar.muli v5 c4_i32_257
  let v346 : BitVec 32 := Scalar.addi v344 v345
  let c2_i32_254 : BitVec 32 := 2#32
  let c1_i32_258 : BitVec 32 := 1#32
  let v347 : BitVec 32 := Scalar.muli c2_i32_254 c1_i32_258
  let v348 : BitVec 32 := Scalar.addi v346 v347
  v348.toNat
def k0_dev300 (d0 : Dev nD) : Nat :=
  let c0_i32_291 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_290 : BitVec 32 := 8#32
  let v392 : BitVec 32 := Scalar.muli v10 c8_i32_290
  let v393 : BitVec 32 := Scalar.addi c0_i32_291 v392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_292 : BitVec 32 := 4#32
  let v394 : BitVec 32 := Scalar.muli v5 c4_i32_292
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v396 : BitVec 32 := Scalar.muli v8 c1_i32_293
  let v397 : BitVec 32 := Scalar.addi v395 v396
  v397.toNat
def k0_dev301 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v404 : BitVec 32 := Scalar.muli v2 c8_i32_301
  let v405 : BitVec 32 := Scalar.addi c0_i32_302 v404
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v406 : BitVec 32 := Scalar.muli v5 c4_i32_303
  let v407 : BitVec 32 := Scalar.addi v405 v406
  let c2_i32_300 : BitVec 32 := 2#32
  let c1_i32_304 : BitVec 32 := 1#32
  let v408 : BitVec 32 := Scalar.muli c2_i32_300 c1_i32_304
  let v409 : BitVec 32 := Scalar.addi v407 v408
  v409.toNat
def k0_dev302 (d0 : Dev nD) : Nat :=
  let c0_i32_337 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_336 : BitVec 32 := 8#32
  let v453 : BitVec 32 := Scalar.muli v10 c8_i32_336
  let v454 : BitVec 32 := Scalar.addi c0_i32_337 v453
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_338 : BitVec 32 := 4#32
  let v455 : BitVec 32 := Scalar.muli v5 c4_i32_338
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v457 : BitVec 32 := Scalar.muli v8 c1_i32_339
  let v458 : BitVec 32 := Scalar.addi v456 v457
  v458.toNat
def k0_dev303 (d0 : Dev nD) : Nat :=
  let c0_i32_348 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_347 : BitVec 32 := 8#32
  let v465 : BitVec 32 := Scalar.muli v2 c8_i32_347
  let v466 : BitVec 32 := Scalar.addi c0_i32_348 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_349 : BitVec 32 := 4#32
  let v467 : BitVec 32 := Scalar.muli v5 c4_i32_349
  let v468 : BitVec 32 := Scalar.addi v466 v467
  let c2_i32_346 : BitVec 32 := 2#32
  let c1_i32_350 : BitVec 32 := 1#32
  let v469 : BitVec 32 := Scalar.muli c2_i32_346 c1_i32_350
  let v470 : BitVec 32 := Scalar.addi v468 v469
  v470.toNat
def k0_dev304 (d0 : Dev nD) : Nat :=
  let c0_i32_383 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_382 : BitVec 32 := 8#32
  let v514 : BitVec 32 := Scalar.muli v10 c8_i32_382
  let v515 : BitVec 32 := Scalar.addi c0_i32_383 v514
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_384 : BitVec 32 := 4#32
  let v516 : BitVec 32 := Scalar.muli v5 c4_i32_384
  let v517 : BitVec 32 := Scalar.addi v515 v516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v518 : BitVec 32 := Scalar.muli v8 c1_i32_385
  let v519 : BitVec 32 := Scalar.addi v517 v518
  v519.toNat
def k0_dev305 (d0 : Dev nD) : Nat :=
  let c0_i32_394 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_393 : BitVec 32 := 8#32
  let v526 : BitVec 32 := Scalar.muli v2 c8_i32_393
  let v527 : BitVec 32 := Scalar.addi c0_i32_394 v526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_395 : BitVec 32 := 4#32
  let v528 : BitVec 32 := Scalar.muli v5 c4_i32_395
  let v529 : BitVec 32 := Scalar.addi v527 v528
  let c2_i32_392 : BitVec 32 := 2#32
  let c1_i32_396 : BitVec 32 := 1#32
  let v530 : BitVec 32 := Scalar.muli c2_i32_392 c1_i32_396
  let v531 : BitVec 32 := Scalar.addi v529 v530
  v531.toNat
def k0_dev306 (d0 : Dev nD) : Nat :=
  let c0_i32_429 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_428 : BitVec 32 := 8#32
  let v575 : BitVec 32 := Scalar.muli v10 c8_i32_428
  let v576 : BitVec 32 := Scalar.addi c0_i32_429 v575
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_430 : BitVec 32 := 4#32
  let v577 : BitVec 32 := Scalar.muli v5 c4_i32_430
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_431 : BitVec 32 := 1#32
  let v579 : BitVec 32 := Scalar.muli v8 c1_i32_431
  let v580 : BitVec 32 := Scalar.addi v578 v579
  v580.toNat
def k0_dev307 (d0 : Dev nD) : Nat :=
  let c0_i32_440 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_439 : BitVec 32 := 8#32
  let v587 : BitVec 32 := Scalar.muli v2 c8_i32_439
  let v588 : BitVec 32 := Scalar.addi c0_i32_440 v587
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_441 : BitVec 32 := 4#32
  let v589 : BitVec 32 := Scalar.muli v5 c4_i32_441
  let v590 : BitVec 32 := Scalar.addi v588 v589
  let c2_i32_438 : BitVec 32 := 2#32
  let c1_i32_442 : BitVec 32 := 1#32
  let v591 : BitVec 32 := Scalar.muli c2_i32_438 c1_i32_442
  let v592 : BitVec 32 := Scalar.addi v590 v591
  v592.toNat
def k0_dev308 (d0 : Dev nD) : Nat :=
  let c0_i32_475 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_474 : BitVec 32 := 8#32
  let v636 : BitVec 32 := Scalar.muli v10 c8_i32_474
  let v637 : BitVec 32 := Scalar.addi c0_i32_475 v636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_476 : BitVec 32 := 4#32
  let v638 : BitVec 32 := Scalar.muli v5 c4_i32_476
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v640 : BitVec 32 := Scalar.muli v8 c1_i32_477
  let v641 : BitVec 32 := Scalar.addi v639 v640
  v641.toNat
def k0_dev309 (d0 : Dev nD) : Nat :=
  let c0_i32_486 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_485 : BitVec 32 := 8#32
  let v648 : BitVec 32 := Scalar.muli v2 c8_i32_485
  let v649 : BitVec 32 := Scalar.addi c0_i32_486 v648
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_487 : BitVec 32 := 4#32
  let v650 : BitVec 32 := Scalar.muli v5 c4_i32_487
  let v651 : BitVec 32 := Scalar.addi v649 v650
  let c2_i32_484 : BitVec 32 := 2#32
  let c1_i32_488 : BitVec 32 := 1#32
  let v652 : BitVec 32 := Scalar.muli c2_i32_484 c1_i32_488
  let v653 : BitVec 32 := Scalar.addi v651 v652
  v653.toNat
def k0_dev310 (d0 : Dev nD) : Nat :=
  let c0_i32_521 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_520 : BitVec 32 := 8#32
  let v697 : BitVec 32 := Scalar.muli v10 c8_i32_520
  let v698 : BitVec 32 := Scalar.addi c0_i32_521 v697
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_522 : BitVec 32 := 4#32
  let v699 : BitVec 32 := Scalar.muli v5 c4_i32_522
  let v700 : BitVec 32 := Scalar.addi v698 v699
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v701 : BitVec 32 := Scalar.muli v8 c1_i32_523
  let v702 : BitVec 32 := Scalar.addi v700 v701
  v702.toNat
def k0_dev311 (d0 : Dev nD) : Nat :=
  let c0_i32_532 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_531 : BitVec 32 := 8#32
  let v709 : BitVec 32 := Scalar.muli v2 c8_i32_531
  let v710 : BitVec 32 := Scalar.addi c0_i32_532 v709
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_533 : BitVec 32 := 4#32
  let v711 : BitVec 32 := Scalar.muli v5 c4_i32_533
  let v712 : BitVec 32 := Scalar.addi v710 v711
  let c2_i32_530 : BitVec 32 := 2#32
  let c1_i32_534 : BitVec 32 := 1#32
  let v713 : BitVec 32 := Scalar.muli c2_i32_530 c1_i32_534
  let v714 : BitVec 32 := Scalar.addi v712 v713
  v714.toNat
def k0_dev312 (d0 : Dev nD) : Nat :=
  let c0_i32_567 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_566 : BitVec 32 := 8#32
  let v758 : BitVec 32 := Scalar.muli v10 c8_i32_566
  let v759 : BitVec 32 := Scalar.addi c0_i32_567 v758
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_568 : BitVec 32 := 4#32
  let v760 : BitVec 32 := Scalar.muli v5 c4_i32_568
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v762 : BitVec 32 := Scalar.muli v8 c1_i32_569
  let v763 : BitVec 32 := Scalar.addi v761 v762
  v763.toNat
def k0_dev313 (d0 : Dev nD) : Nat :=
  let c0_i32_578 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_577 : BitVec 32 := 8#32
  let v770 : BitVec 32 := Scalar.muli v2 c8_i32_577
  let v771 : BitVec 32 := Scalar.addi c0_i32_578 v770
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_579 : BitVec 32 := 4#32
  let v772 : BitVec 32 := Scalar.muli v5 c4_i32_579
  let v773 : BitVec 32 := Scalar.addi v771 v772
  let c2_i32_576 : BitVec 32 := 2#32
  let c1_i32_580 : BitVec 32 := 1#32
  let v774 : BitVec 32 := Scalar.muli c2_i32_576 c1_i32_580
  let v775 : BitVec 32 := Scalar.addi v773 v774
  v775.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_30 : BitVec 32 := 1#32
  let v46 : BitVec 1 := Scalar.cmpi .eq v2 c1_i32_30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_31 : BitVec 32 := 3#32
  let v47 : BitVec 1 := Scalar.cmpi .eq v8 c3_i32_31
  let v48 : BitVec 1 := Scalar.andi v46 v47
  let v49 : BitVec 32 := Scalar.extui v48
  let c0_i32_33 : BitVec 32 := 0#32
  let v50 : BitVec 1 := Scalar.cmpi .ne v49 c0_i32_33
  v50

def k0_dev314 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v52 : BitVec 32 := Scalar.muli v2 c8_i32_35
  let v53 : BitVec 32 := Scalar.addi c0_i32_36 v52
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_37 : BitVec 32 := 4#32
  let v54 : BitVec 32 := Scalar.muli v9 c4_i32_37
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v56 : BitVec 32 := Scalar.muli v8 c1_i32_38
  let v57 : BitVec 32 := Scalar.addi v55 v56
  v57.toNat
def k0_dev315 (d0 : Dev nD) : Nat :=
  let c0_i32_41 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_40 : BitVec 32 := 8#32
  let v58 : BitVec 32 := Scalar.muli v10 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev316 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v64 : BitVec 32 := Scalar.muli v2 c8_i32_46
  let v65 : BitVec 32 := Scalar.addi c0_i32_47 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v66 : BitVec 32 := Scalar.muli v5 c4_i32_48
  let v67 : BitVec 32 := Scalar.addi v65 v66
  let c2_i32_45 : BitVec 32 := 2#32
  let c1_i32_49 : BitVec 32 := 1#32
  let v68 : BitVec 32 := Scalar.muli c2_i32_45 c1_i32_49
  let v69 : BitVec 32 := Scalar.addi v67 v68
  v69.toNat
def k0_dev317 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v70 : BitVec 32 := Scalar.muli v2 c8_i32_53
  let v71 : BitVec 32 := Scalar.addi c0_i32_54 v70
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_55 : BitVec 32 := 4#32
  let v72 : BitVec 32 := Scalar.muli v9 c4_i32_55
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v74 : BitVec 32 := Scalar.muli v8 c1_i32_56
  let v75 : BitVec 32 := Scalar.addi v73 v74
  v75.toNat
def k0_dev318 (d0 : Dev nD) : Nat :=
  let c0_i32_65 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_64 : BitVec 32 := 8#32
  let v84 : BitVec 32 := Scalar.muli v2 c8_i32_64
  let v85 : BitVec 32 := Scalar.addi c0_i32_65 v84
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_66 : BitVec 32 := 4#32
  let v86 : BitVec 32 := Scalar.muli v9 c4_i32_66
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v88 : BitVec 32 := Scalar.muli v8 c1_i32_67
  let v89 : BitVec 32 := Scalar.addi v87 v88
  v89.toNat
def k0_dev319 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v98 : BitVec 32 := Scalar.muli v2 c8_i32_74
  let v99 : BitVec 32 := Scalar.addi c0_i32_75 v98
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_76 : BitVec 32 := 4#32
  let v100 : BitVec 32 := Scalar.muli v9 c4_i32_76
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v102 : BitVec 32 := Scalar.muli v8 c1_i32_77
  let v103 : BitVec 32 := Scalar.addi v101 v102
  v103.toNat
def k0_dev320 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v112 : BitVec 32 := Scalar.muli v2 c8_i32_84
  let v113 : BitVec 32 := Scalar.addi c0_i32_85 v112
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_86 : BitVec 32 := 4#32
  let v114 : BitVec 32 := Scalar.muli v9 c4_i32_86
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v116 : BitVec 32 := Scalar.muli v8 c1_i32_87
  let v117 : BitVec 32 := Scalar.addi v115 v116
  v117.toNat
def k0_dev321 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v126 : BitVec 32 := Scalar.muli v2 c8_i32_94
  let v127 : BitVec 32 := Scalar.addi c0_i32_95 v126
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_96 : BitVec 32 := 4#32
  let v128 : BitVec 32 := Scalar.muli v9 c4_i32_96
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v130 : BitVec 32 := Scalar.muli v8 c1_i32_97
  let v131 : BitVec 32 := Scalar.addi v129 v130
  v131.toNat
def k0_dev322 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v140 : BitVec 32 := Scalar.muli v2 c8_i32_103
  let v141 : BitVec 32 := Scalar.addi c0_i32_104 v140
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_105 : BitVec 32 := 4#32
  let v142 : BitVec 32 := Scalar.muli v9 c4_i32_105
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v144 : BitVec 32 := Scalar.muli v8 c1_i32_106
  let v145 : BitVec 32 := Scalar.addi v143 v144
  v145.toNat
def k0_dev323 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v154 : BitVec 32 := Scalar.muli v2 c8_i32_112
  let v155 : BitVec 32 := Scalar.addi c0_i32_113 v154
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_114 : BitVec 32 := 4#32
  let v156 : BitVec 32 := Scalar.muli v9 c4_i32_114
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v158 : BitVec 32 := Scalar.muli v8 c1_i32_115
  let v159 : BitVec 32 := Scalar.addi v157 v158
  v159.toNat
def k0_dev324 (d0 : Dev nD) : Nat :=
  let c0_i32_122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_121 : BitVec 32 := 8#32
  let v168 : BitVec 32 := Scalar.muli v2 c8_i32_121
  let v169 : BitVec 32 := Scalar.addi c0_i32_122 v168
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_123 : BitVec 32 := 4#32
  let v170 : BitVec 32 := Scalar.muli v9 c4_i32_123
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v172 : BitVec 32 := Scalar.muli v8 c1_i32_124
  let v173 : BitVec 32 := Scalar.addi v171 v172
  v173.toNat
def k0_dev325 (d0 : Dev nD) : Nat :=
  let c0_i32_132 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_131 : BitVec 32 := 8#32
  let v182 : BitVec 32 := Scalar.muli v2 c8_i32_131
  let v183 : BitVec 32 := Scalar.addi c0_i32_132 v182
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_133 : BitVec 32 := 4#32
  let v184 : BitVec 32 := Scalar.muli v9 c4_i32_133
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v186 : BitVec 32 := Scalar.muli v8 c1_i32_134
  let v187 : BitVec 32 := Scalar.addi v185 v186
  v187.toNat
def k0_dev326 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v196 : BitVec 32 := Scalar.muli v2 c8_i32_140
  let v197 : BitVec 32 := Scalar.addi c0_i32_141 v196
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_142 : BitVec 32 := 4#32
  let v198 : BitVec 32 := Scalar.muli v9 c4_i32_142
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v200 : BitVec 32 := Scalar.muli v8 c1_i32_143
  let v201 : BitVec 32 := Scalar.addi v199 v200
  v201.toNat
def k0_dev327 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v210 : BitVec 32 := Scalar.muli v2 c8_i32_149
  let v211 : BitVec 32 := Scalar.addi c0_i32_150 v210
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_151 : BitVec 32 := 4#32
  let v212 : BitVec 32 := Scalar.muli v9 c4_i32_151
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v214 : BitVec 32 := Scalar.muli v8 c1_i32_152
  let v215 : BitVec 32 := Scalar.addi v213 v214
  v215.toNat
def k0_dev328 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v224 : BitVec 32 := Scalar.muli v2 c8_i32_158
  let v225 : BitVec 32 := Scalar.addi c0_i32_159 v224
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_160 : BitVec 32 := 4#32
  let v226 : BitVec 32 := Scalar.muli v9 c4_i32_160
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v228 : BitVec 32 := Scalar.muli v8 c1_i32_161
  let v229 : BitVec 32 := Scalar.addi v227 v228
  v229.toNat
def k0_dev329 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v238 : BitVec 32 := Scalar.muli v2 c8_i32_167
  let v239 : BitVec 32 := Scalar.addi c0_i32_168 v238
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_169 : BitVec 32 := 4#32
  let v240 : BitVec 32 := Scalar.muli v9 c4_i32_169
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v242 : BitVec 32 := Scalar.muli v8 c1_i32_170
  let v243 : BitVec 32 := Scalar.addi v241 v242
  v243.toNat
def k0_dev330 (d0 : Dev nD) : Nat :=
  let c0_i32_177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_176 : BitVec 32 := 8#32
  let v252 : BitVec 32 := Scalar.muli v2 c8_i32_176
  let v253 : BitVec 32 := Scalar.addi c0_i32_177 v252
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_178 : BitVec 32 := 4#32
  let v254 : BitVec 32 := Scalar.muli v9 c4_i32_178
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v256 : BitVec 32 := Scalar.muli v8 c1_i32_179
  let v257 : BitVec 32 := Scalar.addi v255 v256
  v257.toNat
def k0_dev331 (d0 : Dev nD) : Nat :=
  let c0_i32_186 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_185 : BitVec 32 := 8#32
  let v266 : BitVec 32 := Scalar.muli v2 c8_i32_185
  let v267 : BitVec 32 := Scalar.addi c0_i32_186 v266
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_187 : BitVec 32 := 4#32
  let v268 : BitVec 32 := Scalar.muli v9 c4_i32_187
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v270 : BitVec 32 := Scalar.muli v8 c1_i32_188
  let v271 : BitVec 32 := Scalar.addi v269 v270
  v271.toNat
def k0_dev332 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v280 : BitVec 32 := Scalar.muli v2 c8_i32_194
  let v281 : BitVec 32 := Scalar.addi c0_i32_195 v280
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_196 : BitVec 32 := 4#32
  let v282 : BitVec 32 := Scalar.muli v9 c4_i32_196
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v284 : BitVec 32 := Scalar.muli v8 c1_i32_197
  let v285 : BitVec 32 := Scalar.addi v283 v284
  v285.toNat
def k0_dev333 (d0 : Dev nD) : Nat :=
  let c0_i32_228 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_227 : BitVec 32 := 8#32
  let v331 : BitVec 32 := Scalar.muli v10 c8_i32_227
  let v332 : BitVec 32 := Scalar.addi c0_i32_228 v331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_229 : BitVec 32 := 4#32
  let v333 : BitVec 32 := Scalar.muli v5 c4_i32_229
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v335 : BitVec 32 := Scalar.muli v8 c1_i32_230
  let v336 : BitVec 32 := Scalar.addi v334 v335
  v336.toNat
def k0_dev334 (d0 : Dev nD) : Nat :=
  let c0_i32_239 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_238 : BitVec 32 := 8#32
  let v343 : BitVec 32 := Scalar.muli v2 c8_i32_238
  let v344 : BitVec 32 := Scalar.addi c0_i32_239 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_240 : BitVec 32 := 4#32
  let v345 : BitVec 32 := Scalar.muli v5 c4_i32_240
  let v346 : BitVec 32 := Scalar.addi v344 v345
  let c2_i32_237 : BitVec 32 := 2#32
  let c1_i32_241 : BitVec 32 := 1#32
  let v347 : BitVec 32 := Scalar.muli c2_i32_237 c1_i32_241
  let v348 : BitVec 32 := Scalar.addi v346 v347
  v348.toNat
def k0_dev335 (d0 : Dev nD) : Nat :=
  let c0_i32_273 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_272 : BitVec 32 := 8#32
  let v392 : BitVec 32 := Scalar.muli v10 c8_i32_272
  let v393 : BitVec 32 := Scalar.addi c0_i32_273 v392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_274 : BitVec 32 := 4#32
  let v394 : BitVec 32 := Scalar.muli v5 c4_i32_274
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v396 : BitVec 32 := Scalar.muli v8 c1_i32_275
  let v397 : BitVec 32 := Scalar.addi v395 v396
  v397.toNat
def k0_dev336 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v404 : BitVec 32 := Scalar.muli v2 c8_i32_283
  let v405 : BitVec 32 := Scalar.addi c0_i32_284 v404
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v406 : BitVec 32 := Scalar.muli v5 c4_i32_285
  let v407 : BitVec 32 := Scalar.addi v405 v406
  let c2_i32_282 : BitVec 32 := 2#32
  let c1_i32_286 : BitVec 32 := 1#32
  let v408 : BitVec 32 := Scalar.muli c2_i32_282 c1_i32_286
  let v409 : BitVec 32 := Scalar.addi v407 v408
  v409.toNat
def k0_dev337 (d0 : Dev nD) : Nat :=
  let c0_i32_318 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_317 : BitVec 32 := 8#32
  let v453 : BitVec 32 := Scalar.muli v10 c8_i32_317
  let v454 : BitVec 32 := Scalar.addi c0_i32_318 v453
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_319 : BitVec 32 := 4#32
  let v455 : BitVec 32 := Scalar.muli v5 c4_i32_319
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v457 : BitVec 32 := Scalar.muli v8 c1_i32_320
  let v458 : BitVec 32 := Scalar.addi v456 v457
  v458.toNat
def k0_dev338 (d0 : Dev nD) : Nat :=
  let c0_i32_329 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_328 : BitVec 32 := 8#32
  let v465 : BitVec 32 := Scalar.muli v2 c8_i32_328
  let v466 : BitVec 32 := Scalar.addi c0_i32_329 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_330 : BitVec 32 := 4#32
  let v467 : BitVec 32 := Scalar.muli v5 c4_i32_330
  let v468 : BitVec 32 := Scalar.addi v466 v467
  let c2_i32_327 : BitVec 32 := 2#32
  let c1_i32_331 : BitVec 32 := 1#32
  let v469 : BitVec 32 := Scalar.muli c2_i32_327 c1_i32_331
  let v470 : BitVec 32 := Scalar.addi v468 v469
  v470.toNat
def k0_dev339 (d0 : Dev nD) : Nat :=
  let c0_i32_363 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_362 : BitVec 32 := 8#32
  let v514 : BitVec 32 := Scalar.muli v10 c8_i32_362
  let v515 : BitVec 32 := Scalar.addi c0_i32_363 v514
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_364 : BitVec 32 := 4#32
  let v516 : BitVec 32 := Scalar.muli v5 c4_i32_364
  let v517 : BitVec 32 := Scalar.addi v515 v516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_365 : BitVec 32 := 1#32
  let v518 : BitVec 32 := Scalar.muli v8 c1_i32_365
  let v519 : BitVec 32 := Scalar.addi v517 v518
  v519.toNat
def k0_dev340 (d0 : Dev nD) : Nat :=
  let c0_i32_374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_373 : BitVec 32 := 8#32
  let v526 : BitVec 32 := Scalar.muli v2 c8_i32_373
  let v527 : BitVec 32 := Scalar.addi c0_i32_374 v526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_375 : BitVec 32 := 4#32
  let v528 : BitVec 32 := Scalar.muli v5 c4_i32_375
  let v529 : BitVec 32 := Scalar.addi v527 v528
  let c2_i32_372 : BitVec 32 := 2#32
  let c1_i32_376 : BitVec 32 := 1#32
  let v530 : BitVec 32 := Scalar.muli c2_i32_372 c1_i32_376
  let v531 : BitVec 32 := Scalar.addi v529 v530
  v531.toNat
def k0_dev341 (d0 : Dev nD) : Nat :=
  let c0_i32_408 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_407 : BitVec 32 := 8#32
  let v575 : BitVec 32 := Scalar.muli v10 c8_i32_407
  let v576 : BitVec 32 := Scalar.addi c0_i32_408 v575
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_409 : BitVec 32 := 4#32
  let v577 : BitVec 32 := Scalar.muli v5 c4_i32_409
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v579 : BitVec 32 := Scalar.muli v8 c1_i32_410
  let v580 : BitVec 32 := Scalar.addi v578 v579
  v580.toNat
def k0_dev342 (d0 : Dev nD) : Nat :=
  let c0_i32_419 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_418 : BitVec 32 := 8#32
  let v587 : BitVec 32 := Scalar.muli v2 c8_i32_418
  let v588 : BitVec 32 := Scalar.addi c0_i32_419 v587
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_420 : BitVec 32 := 4#32
  let v589 : BitVec 32 := Scalar.muli v5 c4_i32_420
  let v590 : BitVec 32 := Scalar.addi v588 v589
  let c2_i32_417 : BitVec 32 := 2#32
  let c1_i32_421 : BitVec 32 := 1#32
  let v591 : BitVec 32 := Scalar.muli c2_i32_417 c1_i32_421
  let v592 : BitVec 32 := Scalar.addi v590 v591
  v592.toNat
def k0_dev343 (d0 : Dev nD) : Nat :=
  let c0_i32_453 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_452 : BitVec 32 := 8#32
  let v636 : BitVec 32 := Scalar.muli v10 c8_i32_452
  let v637 : BitVec 32 := Scalar.addi c0_i32_453 v636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_454 : BitVec 32 := 4#32
  let v638 : BitVec 32 := Scalar.muli v5 c4_i32_454
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v640 : BitVec 32 := Scalar.muli v8 c1_i32_455
  let v641 : BitVec 32 := Scalar.addi v639 v640
  v641.toNat
def k0_dev344 (d0 : Dev nD) : Nat :=
  let c0_i32_464 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_463 : BitVec 32 := 8#32
  let v648 : BitVec 32 := Scalar.muli v2 c8_i32_463
  let v649 : BitVec 32 := Scalar.addi c0_i32_464 v648
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_465 : BitVec 32 := 4#32
  let v650 : BitVec 32 := Scalar.muli v5 c4_i32_465
  let v651 : BitVec 32 := Scalar.addi v649 v650
  let c2_i32_462 : BitVec 32 := 2#32
  let c1_i32_466 : BitVec 32 := 1#32
  let v652 : BitVec 32 := Scalar.muli c2_i32_462 c1_i32_466
  let v653 : BitVec 32 := Scalar.addi v651 v652
  v653.toNat
def k0_dev345 (d0 : Dev nD) : Nat :=
  let c0_i32_498 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_497 : BitVec 32 := 8#32
  let v697 : BitVec 32 := Scalar.muli v10 c8_i32_497
  let v698 : BitVec 32 := Scalar.addi c0_i32_498 v697
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_499 : BitVec 32 := 4#32
  let v699 : BitVec 32 := Scalar.muli v5 c4_i32_499
  let v700 : BitVec 32 := Scalar.addi v698 v699
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_500 : BitVec 32 := 1#32
  let v701 : BitVec 32 := Scalar.muli v8 c1_i32_500
  let v702 : BitVec 32 := Scalar.addi v700 v701
  v702.toNat
def k0_dev346 (d0 : Dev nD) : Nat :=
  let c0_i32_509 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_508 : BitVec 32 := 8#32
  let v709 : BitVec 32 := Scalar.muli v2 c8_i32_508
  let v710 : BitVec 32 := Scalar.addi c0_i32_509 v709
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_510 : BitVec 32 := 4#32
  let v711 : BitVec 32 := Scalar.muli v5 c4_i32_510
  let v712 : BitVec 32 := Scalar.addi v710 v711
  let c2_i32_507 : BitVec 32 := 2#32
  let c1_i32_511 : BitVec 32 := 1#32
  let v713 : BitVec 32 := Scalar.muli c2_i32_507 c1_i32_511
  let v714 : BitVec 32 := Scalar.addi v712 v713
  v714.toNat
def k0_dev347 (d0 : Dev nD) : Nat :=
  let c0_i32_543 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_542 : BitVec 32 := 8#32
  let v758 : BitVec 32 := Scalar.muli v10 c8_i32_542
  let v759 : BitVec 32 := Scalar.addi c0_i32_543 v758
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_544 : BitVec 32 := 4#32
  let v760 : BitVec 32 := Scalar.muli v5 c4_i32_544
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_545 : BitVec 32 := 1#32
  let v762 : BitVec 32 := Scalar.muli v8 c1_i32_545
  let v763 : BitVec 32 := Scalar.addi v761 v762
  v763.toNat
def k0_dev348 (d0 : Dev nD) : Nat :=
  let c0_i32_554 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_553 : BitVec 32 := 8#32
  let v770 : BitVec 32 := Scalar.muli v2 c8_i32_553
  let v771 : BitVec 32 := Scalar.addi c0_i32_554 v770
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_555 : BitVec 32 := 4#32
  let v772 : BitVec 32 := Scalar.muli v5 c4_i32_555
  let v773 : BitVec 32 := Scalar.addi v771 v772
  let c2_i32_552 : BitVec 32 := 2#32
  let c1_i32_556 : BitVec 32 := 1#32
  let v774 : BitVec 32 := Scalar.muli c2_i32_552 c1_i32_556
  let v775 : BitVec 32 := Scalar.addi v773 v774
  v775.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Tables.lean ====
/-
# The tables of the kernel: which device owns, sends and receives which rows

The sixteen devices stand at the points `(x, y, z)` of a 2×2×4 mesh, numbered `8x + 4y + z`. The 1024 rows are cut
in five intervals, each in eight chunks of 24 or 32 rows. A device computes two intervals (its own), and the other
three come from three neighbours: across `x`, and one step down or up `z`. The partner across `y` sends its half of
the sum for the device's own rows. `snd c δ k` is the `k`-th interval that device `c` sends in the direction `δ`.
-/
module

public import proofs.«01_k».proof.Proof.Gen.KernelIdeal

@[expose] public section

namespace Cert.KernelIdeal.Gather

open Cert.KernelIdeal Cert.KernelIdeal.Gen
open Idealize.ShloMosaic Idealize.SL.Sem

/-- The four directions: across `y`, across `x`, down `z`, up `z`. -/
inductive Dir | y | x | m | p
  deriving DecidableEq

instance : Fintype Dir := ⟨⟨(↑[Dir.y, Dir.x, Dir.m, Dir.p] : Multiset Dir), by decide⟩, fun δ => by cases δ <;> decide⟩

/-- The direction seen from the other end. -/
def Dir.opp : Dir → Dir
  | .y => .y | .x => .x | .m => .p | .p => .m

theorem Dir.opp_opp (δ : Dir) : δ.opp.opp = δ := by cases δ <;> rfl

/-! ## Rows -/

def ivLo : Fin 5 → ℕ
  | 0 => 0 | 1 => 208 | 2 => 408 | 3 => 616 | 4 => 816
def ivLen : Fin 5 → ℕ
  | 0 => 208 | 1 => 200 | 2 => 208 | 3 => 200 | 4 => 208

/-- The first row of chunk `h`, counted from the interval's first. -/
def cut (i : Fin 5) (h : ℕ) : ℕ := ivLen i * h / 8 / 8 * 8
def cLo (i : Fin 5) (h : Fin 8) : ℕ := ivLo i + cut i h.val
def cN (i : Fin 5) (h : Fin 8) : ℕ := cut i (h.val + 1) - cut i h.val
/-- The chunk's first row in the buffer the partner across `y` writes to, at the `k`-th own interval. -/
def cB (k : Fin 2) (i : Fin 5) (h : Fin 8) : ℕ := k.val * 208 + cut i h.val

theorem cN_cases (i : Fin 5) (h : Fin 8) : cN i h = 24 ∨ cN i h = 32 := by revert i h; decide
theorem cLo_le (i : Fin 5) (h : Fin 8) : cLo i h + cN i h ≤ 1024 := by revert i h; decide
theorem cB_le (k : Fin 2) (i : Fin 5) (h : Fin 8) : cB k i h + cN i h ≤ 416 := by revert k i h; decide

/-! ## Devices -/

/-- The neighbour in the direction `δ`; up and down `z` it is taken cyclically over all sixteen, so that every
    direction permutes the devices. The steps the kernel does not take have `has c δ = false`. -/
def nb (δ : Dir) (c : Dev nD) : Dev nD :=
  match δ with
  | .y => if c.val / 4 % 2 = 0 then ⟨(c.val + 4) % 16, Nat.mod_lt _ (by decide)⟩ else ⟨(c.val + 12) % 16, Nat.mod_lt _ (by decide)⟩
  | .x => ⟨(c.val + 8) % 16, Nat.mod_lt _ (by decide)⟩
  | .m => ⟨(c.val + 15) % 16, Nat.mod_lt _ (by decide)⟩
  | .p => ⟨(c.val + 1) % 16, Nat.mod_lt _ (by decide)⟩

theorem nb_opp_nb (δ : Dir) (c : Dev nD) : nb δ.opp (nb δ c) = c := by revert δ c; decide
theorem nb_nb_opp (δ : Dir) (c : Dev nD) : nb δ (nb δ.opp c) = c := by revert δ c; decide

/-- Whether the kernel talks to the neighbour in the direction `δ`. -/
def has (c : Dev nD) : Dir → Bool
  | .y => true | .x => true | .m => c.val % 4 != 0 | .p => c.val % 4 != 3

theorem has_opp (δ : Dir) (c : Dev nD) : has (nb δ c) δ.opp = has c δ := by revert δ c; decide

/-- What each device sends: by `(x, z)`, the two intervals it owns and the sends across `x`, down `z`, up `z`. -/
def rows : List (List (Option (Fin 5))) :=
  [[some 0, some 1, some 1, none, none, none, some 1, none],
   [some 2, some 4, some 2, none, some 2, some 4, some 2, none],
   [some 3, some 4, some 3, none, some 3, none, some 3, some 4],
   [some 0, some 1, some 0, none, some 0, none, none, none],
   [some 2, some 3, some 3, none, none, none, some 3, none],
   [some 0, some 4, some 0, none, some 0, some 4, some 0, none],
   [some 1, some 4, some 1, none, some 1, none, some 1, some 4],
   [some 2, some 3, some 2, none, some 2, none, none, none]]

def Dir.ix : Dir → ℕ
  | .y => 0 | .x => 1 | .m => 2 | .p => 3

def snd (c : Dev nD) (δ : Dir) (k : Fin 2) : Option (Fin 5) :=
  (rows.getD (c.val / 8 * 4 + c.val % 4) []).getD (δ.ix * 2 + k.val) none
/-- What device `c` receives from the direction `δ`: what the neighbour there sends towards it. -/
def rcv (c : Dev nD) (δ : Dir) (k : Fin 2) : Option (Fin 5) := snd (nb δ c) δ.opp k

/-- The `k`-th interval a device owns. -/
def own (c : Dev nD) (k : Fin 2) : Fin 5 := (snd c .y k).getD 0

theorem snd_y (c : Dev nD) (k : Fin 2) : snd c .y k = some (own c k) := by revert c k; decide
theorem own_nb_y (c : Dev nD) (k : Fin 2) : own (nb .y c) k = own c k := by revert c k; decide
theorem rcv_y (c : Dev nD) (k : Fin 2) : rcv c .y k = some (own c k) := by revert c k; decide
theorem snd_has (c : Dev nD) (δ : Dir) (k : Fin 2) : snd c δ k ≠ none → has c δ = true := by revert c δ k; decide

/-! ## The order of the loops -/

def hs : List (Fin 8) := [0, 1, 2, 3, 4, 5, 6, 7]
def ks : List (Fin 2) := [0, 1]
/-- The sends between results, in the order the kernel lists them. -/
def dks : List (Dir × Fin 2) := [(.x, 0), (.m, 0), (.m, 1), (.p, 0), (.p, 1)]

def dirs (c : Dev nD) : List Dir := [Dir.y, Dir.x, Dir.m, Dir.p].filter (has c)
/-- The sends of the interval `i`. -/
def flows (c : Dev nD) (i : Fin 5) : List (Dir × Fin 2) := dks.filter fun dk => snd c dk.1 dk.2 == some i
/-- The receives. -/
def gets (c : Dev nD) : List (Dir × Fin 2) := dks.filter fun dk => (rcv c dk.1 dk.2).isSome
/-- The chunks of the device's own intervals. -/
def khs : List (Fin 2 × Fin 8) := ks.flatMap fun k => hs.map fun h => (k, h)

/-- A transfer of a device: direction, place among the direction's intervals, interval, chunk. -/
structure Xf where
  δ : Dir
  k : Fin 2
  i : Fin 5
  h : Fin 8
  deriving DecidableEq

def ySends (c : Dev nD) : List Xf := khs.map fun kh => ⟨.y, kh.1, own c kh.1, kh.2⟩
def oSendsOf (c : Dev nD) (kh : Fin 2 × Fin 8) : List Xf :=
  (flows c (own c kh.1)).map fun dk => ⟨dk.1, dk.2, own c kh.1, kh.2⟩
def oSends (c : Dev nD) : List Xf := khs.flatMap (oSendsOf c)
def recvs (c : Dev nD) : List Xf := (gets c).flatMap fun dk => hs.map fun h => ⟨dk.1, dk.2, (rcv c dk.1 dk.2).getD 0, h⟩

end Cert.KernelIdeal.Gather
-- ==== Proof.Prog.lean ====
/-
# The body as loops over the tables

`body c` is what the printed body does on device `c`, written as loops over the tables. Each step takes its
continuation, so that a rule of the logic applies to it as it stands.
-/
module

public import proofs.«01_k».proof.Proof.Tables

@[expose] public section

noncomputable section

namespace Cert.KernelIdeal.Gather

open Cert.KernelIdeal Cert.KernelIdeal.Gen
open Idealize.ShloMosaic Idealize.ShloMosaic.TcCoe Idealize.SL.Sem

variable {F : FTy → Type} [FloatOps F]

/-! ## Shapes of a chunk -/

abbrev sh (n : ℕ) : Shape := ⟨2, ![n, 1024]⟩
abbrev sh1 (n : ℕ) : Shape := ⟨2, ![n, 1]⟩
abbrev sh0 (n : ℕ) : Shape := ⟨1, ![n]⟩

abbrev Ok (n : ℕ) : Prop := n = 24 ∨ n = 32

section
variable {n : ℕ} (hn : Ok n)
include hn

theorem sh_pos : 0 < (sh n).numel := by
  rcases hn with rfl | rfl
  · exact h_S24x1024
  · exact h_S32x1024
theorem sh_cast : (sh n).ShapeCasts (sh n) := by
  rcases hn with rfl | rfl
  · exact shapeCasts_S24x1024_S24x1024
  · exact shapeCasts_S32x1024_S32x1024
theorem sh_reduces : (sh n).Reduces [1] (sh0 n) := by
  rcases hn with rfl | rfl
  · exact reduces_S24x1024_S24
  · exact reduces_S32x1024_S32
theorem sh_cast1 : (sh0 n).ShapeCasts (sh1 n) := by
  rcases hn with rfl | rfl
  · exact shapeCasts_S24_S24x1
  · exact shapeCasts_S32_S32x1
theorem sh_bcast1 : (sh1 n).Broadcasts (sh n) := by
  rcases hn with rfl | rfl
  · exact broadcasts_S24x1_S24x1024
  · exact broadcasts_S32x1_S32x1024
theorem sh_bcast : S1x1024.Broadcasts (sh n) := by
  rcases hn with rfl | rfl
  · exact broadcasts_S1x1024_S24x1024
  · exact broadcasts_S1x1024_S32x1024
end

/-! ## What a chunk computes -/

/-- The sum of the two halves and the residual. -/
def sum3 {n : ℕ} (hn : Ok n) (p y r : Vec F (sh n) .f32) : FVec F (sh n) .f32 :=
  addf (addf (shapeCast (sh n) p (sh_cast hn)) y) (shapeCast (sh n) r (sh_cast hn))

/-- Each row's root mean square. -/
def rms {n : ℕ} (hn : Ok n) (s : FVec F (sh n) .f32) : FVec F (sh1 n) .f32 :=
  sqrt (addf (divf (shapeCast (sh1 n) (multiReduction .add [1] (sh0 n) (mulf s s) 0x00000000#32 (sh_reduces hn) (.inl rfl) rfl) (sh_cast1 hn))
    (broadcast (sh1 n) (Scalar.ofBits .f32 0x44800000#32))) (broadcast (sh1 n) (Scalar.ofBits .f32 0x358637BD#32)))

/-- The chunk's result. -/
def pay {n : ℕ} (hn : Ok n) (p y r : Vec F (sh n) .f32) (g : Vec F S1024 .f32) : FVec F (sh n) .f32 :=
  mulf (divf (sum3 hn p y r) (broadcastTo (sh n) (rms hn (sum3 hn p y r)) (sh_bcast1 hn)))
    (broadcastTo (sh n) (shapeCast S1x1024 (shapeCast S1024 g shapeCasts_S1024_S1024) shapeCasts_S1024_S1x1024) (sh_bcast hn))

/-! ## Memrefs and semaphores -/

abbrev p3M : Memref sig .tc .vmem S1x1024x1024 .f32 := Memref.whole cc0_stg0_0
abbrev rM : Memref sig .tc .vmem S1024x1024 .f32 := Memref.whole cc0_stg1_0
abbrev gM : Memref sig .tc .vmem S1024 .f32 := Memref.whole cc0_stg2_0
abbrev oM : Memref sig .tc .vmem S1024x1024 .f32 := Memref.whole cc0_stg3_0
abbrev yM : Memref sig .tc .vmem S416x1024 .f32 := Memref.whole cc0_scratch0

/-- The operand's one block as a matrix. -/
abbrev pM : Memref sig .tc .vmem S1024x1024 .f32 :=
  (p3M.slice (Rect.unit (s := S1x1024x1024) ![0, 0, 0] S1x1024x1024.size inb_S1x1024x1024_S1x1024x1024_0_0_0) (fun _ => rfl)).squeeze
    S1024x1024 squeezes_S1x1024x1024_S1024x1024

theorem inb_rows {a b n : ℕ} (h : b + n ≤ a) : ∀ ax, (![b, 0] : Fin 2 → Nat) ax + (sh n).size ax ≤ (⟨2, ![a, 1024]⟩ : Shape).size ax := by
  intro ax; match ax with
  | ⟨0, _⟩ => exact h
  | ⟨1, _⟩ => exact Nat.le_refl 1024
  | ⟨k + 2, hk⟩ => exact absurd hk (by simp)

/-- `n` rows from row `b` on. -/
abbrev rowsR (a b n : ℕ) (h : b + n ≤ a) : Rect (⟨2, ![a, 1024]⟩ : Shape) :=
  Rect.unit (s := (⟨2, ![a, 1024]⟩ : Shape)) ![b, 0] (sh n).size (inb_rows h)

abbrev oR (i : Fin 5) (h : Fin 8) : Rect S1024x1024 := rowsR 1024 (cLo i h) (cN i h) (cLo_le i h)
abbrev yR (k : Fin 2) (i : Fin 5) (h : Fin 8) : Rect S416x1024 := rowsR 416 (cB k i h) (cN i h) (cB_le k i h)
abbrev gR : Rect S1024 := Rect.unit (s := S1024) ![0] S1024.size inb_S1024_S1024_0

abbrev pC (i : Fin 5) (h : Fin 8) : Memref sig .tc .vmem (sh (cN i h)) .f32 := pM.slice (oR i h) (fun _ => rfl)
abbrev oC (i : Fin 5) (h : Fin 8) : Memref sig .tc .vmem (sh (cN i h)) .f32 := oM.slice (oR i h) (fun _ => rfl)
abbrev yC (k : Fin 2) (i : Fin 5) (h : Fin 8) : Memref sig .tc .vmem (sh (cN i h)) .f32 := yM.slice (yR k i h) (fun _ => rfl)

/-- The runtime's barrier semaphore. -/
abbrev barS : Sem sig := (SemArray.scalar (sig.barrier 0 rfl) : Sems sig S_).sem

def sBase : Dir → ℕ
  | .y => 4 | .x => 36 | .m => 52 | .p => 84
def rBase : Dir → ℕ
  | .y => 20 | .x => 44 | .m => 68 | .p => 100

/-- The semaphore that counts a send's departure; -/
def sS (δ : Dir) (k : Fin 2) (h : Fin 8) : DmaSem sig :=
  ⟨sBase δ + (8 * k.val + h.val), by have := k.isLt; have := h.isLt; cases δ <;> simp only [sBase] <;> omega⟩
/-- the one that counts an arrival from the direction `δ`. -/
def sR (δ : Dir) (k : Fin 2) (h : Fin 8) : DmaSem sig :=
  ⟨rBase δ + (8 * k.val + h.val), by have := k.isLt; have := h.isLt; cases δ <;> simp only [rBase] <;> omega⟩

/-! ## The steps -/

abbrev PP (F : FTy → Type) [FloatOps F] : Type 1 := Prog (TpuEff nD τ sig (Elt F) Λ₀ .tc) PUnit

/-- One after another. -/
def loop {α : Type} (l : List α) (f : α → PP F → PP F) (K : PP F) : PP F := match l with
  | [] => K
  | a :: l => f a (loop l f K)

def signal (d : Dev nD) (K : PP F) : PP F := .op (.semSignal (d, .tc) barS (BitVec.toInt 1#32)) fun _ => K
def await (n : BitVec 32) (K : PP F) : PP F := .op (.semWait barS n.toInt) fun _ => K

def sendY (c : Dev nD) (t : Xf) (K : PP F) : PP F :=
  .op (.enqueueDma (pC t.i t.h) (.remote (Dev.tc (nb t.δ c)) (yC t.k t.i t.h) (.dma (sS t.δ t.k t.h))) (.dma (sR t.δ.opp t.k t.h))
    (View.wordExact_bits rfl) (View.wordExact_bits rfl) ⟨⟨rfl, Or.inl rfl⟩, trivial⟩) fun _ => K
def sendO (c : Dev nD) (t : Xf) (K : PP F) : PP F :=
  .op (.enqueueDma (oC t.i t.h) (.remote (Dev.tc (nb t.δ c)) (oC t.i t.h) (.dma (sS t.δ t.k t.h))) (.dma (sR t.δ.opp t.k t.h))
    (View.wordExact_bits rfl) (View.wordExact_bits rfl) ⟨⟨rfl, Or.inl rfl⟩, trivial⟩) fun _ => K

def awaitY (k : Fin 2) (i : Fin 5) (h : Fin 8) (K : PP F) : PP F :=
  .op (.waitDma2 (sR .y k h) (pC i h) (yC k i h) (View.wordExact_bits rfl) (View.wordExact_bits rfl)) fun _ => K
def awaitO (t : Xf) (K : PP F) : PP F :=
  .op (.waitDma2 (sR t.δ t.k t.h) (oC t.i t.h) (oC t.i t.h) (View.wordExact_bits rfl) (View.wordExact_bits rfl)) fun _ => K
def doneY (t : Xf) (K : PP F) : PP F :=
  .op (.waitDma2 (sS t.δ t.k t.h) (yC t.k t.i t.h) (pC t.i t.h) (View.wordExact_bits rfl) (View.wordExact_bits rfl)) fun _ => K
def doneO (t : Xf) (K : PP F) : PP F :=
  .op (.waitDma2 (sS t.δ t.k t.h) (oC t.i t.h) (oC t.i t.h) (View.wordExact_bits rfl) (View.wordExact_bits rfl)) fun _ => K

/-- Read the operands' rows, compute, write the result's rows. -/
def compute (k : Fin 2) (i : Fin 5) (h : Fin 8) (K : PP F) : PP F :=
  .op (.load pM (oR i h).toLoadRect (View.loadsAt_vmem (sh_pos (cN_cases i h)))) fun p =>
  .op (.load yM (yR k i h).toLoadRect (View.loadsAt_vmem (sh_pos (cN_cases i h)))) fun y =>
  .op (.load rM (oR i h).toLoadRect (View.loadsAt_vmem (sh_pos (cN_cases i h)))) fun r =>
  .op (.load gM gR.toLoadRect (View.loadsAt_vmem h_S1024)) fun g =>
  .op (.load oM (oR i h).toLoadRect (View.loadsAt_vmem (sh_pos (cN_cases i h)))) fun _ =>
  .op (.store oM (oR i h) (pay (cN_cases i h) p y r g) Finset.univ (View.stores_vmem_bits_univ (sh_pos (cN_cases i h)) rfl) (.inl rfl)) fun _ => K

def chunk (c : Dev nD) (kh : Fin 2 × Fin 8) (K : PP F) : PP F :=
  awaitY kh.1 (own c kh.1) kh.2 (compute kh.1 (own c kh.1) kh.2 (loop (oSendsOf c kh) (sendO c) K))

def body (c : Dev nD) : PP F :=
  loop (dirs c) (fun δ => signal (nb δ c)) <|
  await (BitVec.ofNat 32 (dirs c).length) <|
  loop (ySends c) (sendY c) <|
  loop khs (chunk c) <|
  loop (recvs c) awaitO <|
  loop (ySends c) doneY <|
  loop (oSends c) doneO <|
  .ret ⟨⟩

/-- The rest of a program after it has asked which device it runs on. -/
def onDev {α : Type} (c : Dev nD) : Prog (TpuEff nD τ sig (Elt F) Λ₀ .tc) α → Prog (TpuEff nD τ sig (Elt F) Λ₀ .tc) α
  | .op .deviceId k => k c
  | P => P

abbrev printed : PP F :=
  cc0_body p3M (Memref.isWhole_whole _) rM (Memref.isWhole_whole _) gM (Memref.isWhole_whole _) oM (Memref.isWhole_whole _)
    yM (Memref.isWhole_whole _) cc0_scratch1 cc0_scratch2 cc0_scratch3 cc0_scratch4 cc0_scratch5 cc0_scratch6 cc0_scratch7 cc0_scratch8

end Cert.KernelIdeal.Gather
-- ==== Proof.Slots.lean ====
/-
# Slots: the transfers of a device as a finite set

A slot is a direction, a place among the intervals of that direction, and a chunk. Every transfer of a device is one
of its outgoing slots, and the same transfer seen from the other end is an incoming slot of the neighbour there.
-/
module

public import proofs.«01_k».proof.Proof.Prog

@[expose] public section

namespace Cert.KernelIdeal.Gather

open Cert.KernelIdeal Cert.KernelIdeal.Gen
open Idealize.ShloMosaic Idealize.ShloMosaic.TcCoe Idealize.SL.Sem

abbrev Slot : Type := Dir × Fin 2 × Fin 8

def Slot.opp (s : Slot) : Slot := (s.1.opp, s.2)
def Xf.slot (t : Xf) : Slot := (t.δ, t.k, t.h)

/-- The interval of an outgoing slot; -/
def iv (c : Dev nD) (δ : Dir) (k : Fin 2) : Fin 5 := (snd c δ k).getD 0
/-- of an incoming one. -/
def rv (c : Dev nD) (δ : Dir) (k : Fin 2) : Fin 5 := (rcv c δ k).getD 0

/-- Whether the slot is used: outgoing (`false`) or incoming (`true`). -/
def act (c : Dev nD) (b : Bool) (s : Slot) : Bool := match b with
  | false => (snd c s.1 s.2.1).isSome
  | true => (rcv c s.1 s.2.1).isSome

def semOf (b : Bool) (s : Slot) : DmaSem sig := match b with
  | false => sS s.1 s.2.1 s.2.2
  | true => sR s.1 s.2.1 s.2.2

theorem act_opp (c : Dev nD) (s : Slot) : act (nb s.1 c) true s.opp = act c false s := by
  show (snd (nb s.1.opp (nb s.1 c)) s.1.opp.opp s.2.1).isSome = _
  rw [nb_opp_nb, Dir.opp_opp]; rfl

theorem rv_opp (c : Dev nD) (δ : Dir) (k : Fin 2) : rv (nb δ c) δ.opp k = iv c δ k := by
  unfold rv rcv; rw [nb_opp_nb, Dir.opp_opp]; rfl

theorem act_has (c : Dev nD) (s : Slot) (h : act c false s = true) : has c s.1 = true :=
  snd_has c s.1 s.2.1 fun e => by unfold act at h; rw [e] at h; exact Bool.noConfusion h

theorem act_y (c : Dev nD) (b : Bool) (k : Fin 2) (h : Fin 8) : act c b (.y, k, h) = true := by
  cases b
  · show (snd c .y k).isSome = true; rw [snd_y]; rfl
  · show (rcv c .y k).isSome = true; rw [rcv_y]; rfl

theorem iv_y (c : Dev nD) (k : Fin 2) : iv c .y k = own c k := by unfold iv; rw [snd_y]; rfl
theorem rv_y (c : Dev nD) (k : Fin 2) : rv c .y k = own c k := by unfold rv; rw [rcv_y]; rfl

/-- Used slots have semaphores of their own. -/
theorem act_valid (c : Dev nD) (b : Bool) (δ : Dir) (k : Fin 2) (h : Fin 8) (ha : act c b (δ, k, h) = true) : δ = .x → k = 0 := by
  have : ∀ (c : Dev nD) (b : Bool) (k : Fin 2), (match b with | false => (snd c .x k).isSome | true => (rcv c .x k).isSome) = true → k = 0 := by
    decide
  rintro rfl
  exact this c b k ha

theorem semOf_inj (b b' : Bool) (s s' : Slot) (hv : s.1 = .x → s.2.1 = 0) (hv' : s'.1 = .x → s'.2.1 = 0)
    (h : semOf b s = semOf b' s') : b = b' ∧ s = s' := by
  obtain ⟨δ, k, h1⟩ := s; obtain ⟨δ', k', h1'⟩ := s'
  have e : (semOf b (δ, k, h1)).val = (semOf b' (δ', k', h1')).val := congrArg Fin.val h
  have hk := k.isLt; have hk' := k'.isLt; have hh := h1.isLt; have hh' := h1'.isLt
  have hx : δ = .x → k.val = 0 := fun e => congrArg Fin.val (hv e)
  have hx' : δ' = .x → k'.val = 0 := fun e => congrArg Fin.val (hv' e)
  have key : b = b' ∧ δ = δ' ∧ k.val = k'.val ∧ h1.val = h1'.val := by
    cases b <;> cases b' <;> cases δ <;> cases δ' <;> simp only [semOf, sS, sR, sBase, rBase] at e <;>
      simp at hx hx' ⊢ <;> omega
  obtain ⟨rfl, rfl, ek, eh⟩ := key
  rw [Fin.ext ek, Fin.ext eh]; exact ⟨rfl, rfl⟩

theorem semOf_ge (b : Bool) (s : Slot) : 4 ≤ (semOf b s).val := by
  obtain ⟨δ, k, h⟩ := s
  cases b <;> cases δ <;> simp only [semOf, sS, sR, sBase, rBase] <;> omega

/-- The outgoing and the incoming slots in use. -/
def slots (c : Dev nD) (b : Bool) : Finset Slot := Finset.univ.filter fun s => act c b s = true

/-! ## The loops' lists -/

theorem ySends_spec (c : Dev nD) (t : Xf) (h : t ∈ ySends c) : t.δ = .y ∧ t.i = own c t.k := by
  obtain ⟨kh, -, rfl⟩ := List.mem_map.mp h; exact ⟨rfl, rfl⟩

theorem own_inj (c : Dev nD) (k k' : Fin 2) (h : own c k = own c k') : k = k' := by revert c k k'; decide

theorem dks_ne_y (dk : Dir × Fin 2) (h : dk ∈ dks) : dk.1 ≠ .y := by revert dk; decide

theorem oSendsOf_spec (c : Dev nD) (kh : Fin 2 × Fin 8) (t : Xf) (h : t ∈ oSendsOf c kh) :
    t.δ ≠ .y ∧ t.i = own c kh.1 ∧ t.h = kh.2 ∧ snd c t.δ t.k = some t.i := by
  obtain ⟨dk, hd, rfl⟩ := List.mem_map.mp h
  have := List.mem_filter.mp hd
  exact ⟨dks_ne_y dk this.1, rfl, rfl, eq_of_beq this.2⟩

theorem oSends_spec (c : Dev nD) (t : Xf) (h : t ∈ oSends c) : t.δ ≠ .y ∧ snd c t.δ t.k = some t.i := by
  obtain ⟨kh, -, ht⟩ := List.mem_flatMap.mp h
  have := oSendsOf_spec c kh t ht; exact ⟨this.1, this.2.2.2⟩

theorem recvs_spec (c : Dev nD) (t : Xf) (h : t ∈ recvs c) : t.δ ≠ .y ∧ rcv c t.δ t.k = some t.i := by
  obtain ⟨dk, hd, ht⟩ := List.mem_flatMap.mp h
  obtain ⟨h, -, rfl⟩ := List.mem_map.mp ht
  have := List.mem_filter.mp hd
  refine ⟨dks_ne_y dk this.1, ?_⟩
  show rcv c dk.1 dk.2 = some ((rcv c dk.1 dk.2).getD 0)
  cases e : rcv c dk.1 dk.2 with
  | none => rw [e] at this; exact absurd this.2 (by simp)
  | some i => rfl

theorem mem_khs (kh : Fin 2 × Fin 8) : kh ∈ khs := by revert kh; decide
theorem khs_nodup : khs.Nodup := by decide

set_option maxRecDepth 20000 in
/-- The sends, listed, are the outgoing slots; -/
theorem outs_list (c : Dev nD) : ((ySends c ++ oSends c).map Xf.slot).Nodup ∧ ((ySends c ++ oSends c).map Xf.slot).toFinset = slots c false := by
  revert c; decide +kernel

set_option maxRecDepth 20000 in
/-- the receives the incoming ones. -/
theorem ins_list (c : Dev nD) : ((ySends c ++ recvs c).map Xf.slot).Nodup ∧ ((ySends c ++ recvs c).map Xf.slot).toFinset = slots c true := by
  revert c; decide +kernel

set_option maxRecDepth 20000 in
/-- What a device owns and what it receives is every chunk of every interval, once. -/
theorem all_list (c : Dev nD) : ((ySends c ++ recvs c).map fun t => (t.i, t.h)).Nodup
    ∧ ((ySends c ++ recvs c).map fun t => (t.i, t.h)).toFinset = Finset.univ := by
  revert c; decide +kernel

/-- An own chunk goes at most once in each direction. -/
theorem oSendsOf_nodup (c : Dev nD) (kh : Fin 2 × Fin 8) : ((oSendsOf c kh).map Xf.δ).Nodup := by
  revert c kh; decide +kernel

/-- The semaphores a device waits on, each once. -/
def sems (c : Dev nD) : List (DmaSem sig) :=
  (ySends c).map (fun t => semOf true t.slot) ++ ((recvs c).map (fun t => semOf true t.slot)
    ++ ((ySends c).map (fun t => semOf false t.slot) ++ (oSends c).map (fun t => semOf false t.slot)))

set_option maxRecDepth 20000 in
theorem sems_nodup (c : Dev nD) : (sems c).Nodup := by revert c; decide +kernel

end Cert.KernelIdeal.Gather
-- ==== Proof.Geom.lean ====
/-
# The chunks cut the arrays

The forty chunks are disjoint and cover the 1024 rows, and a device's sixteen chunks are disjoint in the buffer its
partner across `y` writes to.
-/
module

public import proofs.«01_k».proof.Proof.Slots

@[expose] public section

namespace Cert.KernelIdeal.Gather

open Cert.KernelIdeal Cert.KernelIdeal.Gen
open Idealize.ShloMosaic Idealize.ShloMosaic.TcCoe Idealize.SL.Sem

abbrev IH : Type := Fin 5 × Fin 8

theorem cN_pos (i : Fin 5) (h : Fin 8) : 0 < cN i h := by rcases cN_cases i h with e | e <;> rw [e] <;> decide

theorem rowsR_disjoint {a b n b' n' : ℕ} (h : b + n ≤ a) (h' : b' + n' ≤ a) (hs : b + n ≤ b' ∨ b' + n' ≤ b) :
    Disjoint (rowsR a b n h).set (rowsR a b' n' h').set := by
  refine Rect.disjoint_of_axis _ _ (0 : Fin 2) fun j hj j' hj' e => ?_
  have hj : j < n := hj
  have hj' : j' < n' := hj'
  have e : b + 1 * j = b' + 1 * j' := e
  omega

theorem mem_rowsR {a b n : ℕ} (h : b + n ≤ a) (x : (⟨2, ![a, 1024]⟩ : Shape).Idx) :
    x ∈ (rowsR a b n h).set ↔ b ≤ (x 0).val ∧ (x 0).val < b + n := by
  rw [LoadRect.mem_set]
  constructor
  · intro H
    obtain ⟨j, hj, e⟩ := H (0 : Fin 2)
    have hj : j < n := hj
    have e : (x 0).val = b + 1 * j := e
    omega
  · rintro ⟨h1, h2⟩ ax
    match ax with
    | ⟨0, _⟩ => exact ⟨(x 0).val - b, (by show _ < n; omega), (by show (x 0).val = b + 1 * _; omega)⟩
    | ⟨1, _⟩ => exact ⟨(x 1).val, (x 1).isLt, (by show (x 1).val = 0 + 1 * _; omega)⟩
    | ⟨k + 2, hk⟩ => exact absurd hk (by simp)

theorem cLo_sep (a b : IH) (h : a ≠ b) :
    cLo a.1 a.2 + cN a.1 a.2 ≤ cLo b.1 b.2 ∨ cLo b.1 b.2 + cN b.1 b.2 ≤ cLo a.1 a.2 := by
  revert a b; decide +kernel

theorem cB_sep (c : Dev nD) (a b : Fin 2 × Fin 8) (h : a ≠ b) :
    cB a.1 (own c a.1) a.2 + cN (own c a.1) a.2 ≤ cB b.1 (own c b.1) b.2
      ∨ cB b.1 (own c b.1) b.2 + cN (own c b.1) b.2 ≤ cB a.1 (own c a.1) a.2 := by
  revert c a b; decide +kernel

theorem oR_disjoint (a b : IH) (h : a ≠ b) : Disjoint (oR a.1 a.2).set (oR b.1 b.2).set :=
  rowsR_disjoint _ _ (cLo_sep a b h)

theorem yR_disjoint (c : Dev nD) (a b : Fin 2 × Fin 8) (h : a ≠ b) :
    Disjoint (yR a.1 (own c a.1) a.2).set (yR b.1 (own c b.1) b.2).set :=
  rowsR_disjoint _ _ (cB_sep c a b h)

/-- The chunk a row lies in. -/
theorem row_chunk (r : Fin 1024) : ∃ a : IH, cLo a.1 a.2 ≤ r.val ∧ r.val < cLo a.1 a.2 + cN a.1 a.2 := by
  revert r; decide +kernel

theorem oR_cover : Finset.univ.biUnion (fun a : IH => (oR a.1 a.2).set) = Finset.univ := by
  refine Finset.eq_univ_iff_forall.mpr fun x => ?_
  obtain ⟨a, ha⟩ := row_chunk (x 0)
  exact Finset.mem_biUnion.mpr ⟨a, Finset.mem_univ _, (mem_rowsR _ x).mpr ha⟩

end Cert.KernelIdeal.Gather
-- ==== Proof.Protocol.lean ====
/-
# The protocol of the transfers

What every chunk holds at each moment, what each semaphore's count hands over, and the levels that order the waits.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Writes
public import Idealize.ShloMosaic.Lib.Tactic

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A duty: outgoing (`false`) or incoming (`true`), and its slot. A barrier's duty is named by the slot's direction. -/
abbrev Duty : Type := Bool × Slot

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What the buffers hold -/

/-- A device's half of the sum, the residual and the scale, as the pipeline copied them in. -/
def pBuf (c : Dev nD) : (cc0_stg0_0 : Ref sig .tc).ty.Contents (Elt F) :=
  (win0_0.blk (0 : Fin 1)).view.read (Elt F) ((s₀ m ρ).mem ((c : Thread nD τ).loc main_arg0))
def rBuf (c : Dev nD) : (cc0_stg1_0 : Ref sig .tc).ty.Contents (Elt F) :=
  (win0_1.blk (0 : Fin 1)).view.read (Elt F) ((s₀ m ρ).mem ((c : Thread nD τ).loc main_arg1))
def gBuf (c : Dev nD) : (cc0_stg2_0 : Ref sig .tc).ty.Contents (Elt F) :=
  (win0_2.blk (0 : Fin 1)).view.read (Elt F) ((s₀ m ρ).mem ((c : Thread nD τ).loc main_arg2))

/-- The rows of a device's half. -/
def pRows (c : Dev nD) (i : Fin 5) (h : Fin 8) : Vec F (sh (cN i h)) .f32 := (pC i h).view.read (Elt F) (pBuf m ρ c)

/-- What device `c` computes for a chunk. -/
def val (c : Dev nD) (i : Fin 5) (h : Fin 8) : FVec F (sh (cN i h)) .f32 :=
  pay (cN_cases i h) (pRows m ρ c i h) (pRows m ρ (nb .y c) i h) (rM.view.readAt (Elt F) (oR i h).toLoadRect (rBuf m ρ c))
    (gM.view.readAt (Elt F) gR.toLoadRect (gBuf m ρ c))

def oBase : (cc0_stg3_0 : Ref sig .tc).ty.Contents (Elt F) := broadcast S1024x1024 (Scalar.ofBits .f32 0x00000000#32)
def yBase : (cc0_scratch0 : Ref sig .tc).ty.Contents (Elt F) := broadcast S416x1024 (Scalar.ofBits .f32 0x00000000#32)

/-- The result array at device `s`'s chunk; -/
def oF (s : Dev nD) (i : Fin 5) (h : Fin 8) : (cc0_stg3_0 : Ref sig .tc).ty.Contents (Elt F) :=
  (oC i h).view.write (Elt F) oBase (val m ρ s i h) Finset.univ
/-- the landing buffer at the partner's rows. -/
def yF (c : Dev nD) (k : Fin 2) (i : Fin 5) (h : Fin 8) : (cc0_scratch0 : Ref sig .tc).ty.Contents (Elt F) :=
  (yC k i h).view.write (Elt F) yBase (pRows m ρ (nb .y c) i h) Finset.univ

/-! ## Who holds what -/

def oPts (c : Dev nD) (i : Fin 5) (h : Fin 8) (q : PosShare TreeShare) (f : (cc0_stg3_0 : Ref sig .tc).ty.Contents (Elt F)) : sProp 𝕄 :=
  (oC i h).view.loc (c : Thread nD τ) ↦[(oC i h).view.set]{q} f
def yPts (c : Dev nD) (k : Fin 2) (i : Fin 5) (h : Fin 8) (f : (cc0_scratch0 : Ref sig .tc).ty.Contents (Elt F)) : sProp 𝕄 :=
  (yC k i h).view.loc (c : Thread nD τ) ↦[(yC k i h).view.set]{fullShare} f
def pPts (c : Dev nD) (i : Fin 5) (h : Fin 8) : sProp 𝕄 :=
  (pC i h).view.loc (c : Thread nD τ) ↦[(pC i h).view.set]{fullShare.right} pBuf m ρ c

/-- The four quarters a computed chunk is held in: one for each direction it may go in. -/
def quarter : Dir → PosShare TreeShare
  | .y => fullShare.left.left | .x => fullShare.left.right | .m => fullShare.right.left | .p => fullShare.right.right

/-- A slot's room at its receiver. -/
def room (c : Dev nD) (s : Slot) : sProp 𝕄 :=
  if s.1 = .y then iprop(∃ f, yPts c s.2.1 (rv c s.1 s.2.1) s.2.2 f) else iprop(∃ f, oPts c (rv c s.1 s.2.1) s.2.2 fullShare f)
/-- A slot arrived. -/
def landed (c : Dev nD) (s : Slot) : sProp 𝕄 :=
  if s.1 = .y then yPts c s.2.1 (rv c s.1 s.2.1) s.2.2 (yF m ρ c s.2.1 (rv c s.1 s.2.1) s.2.2)
  else oPts c (rv c s.1 s.2.1) s.2.2 fullShare (oF m ρ (nb s.1 c) (rv c s.1 s.2.1) s.2.2)
/-- A slot's source, lent while it is sent. -/
def lent (c : Dev nD) (s : Slot) : sProp 𝕄 :=
  if s.1 = .y then pPts m ρ c (iv c s.1 s.2.1) s.2.2
  else oPts c (iv c s.1 s.2.1) s.2.2 (quarter s.1) (oF m ρ c (iv c s.1 s.2.1) s.2.2)

/-- The rooms device `c` keeps for what comes from the direction `δ`. -/
def inbox (c : Dev nD) (δ : Dir) : sProp 𝕄 := bigSep ((slots c true).filter fun s => s.1 = δ) (room (F := F) c)

omit [FloatOps F] in
instance oPts_storable (c i h q) (f) : BI.Storable (upEmb : UEmb _ 𝕄) (oPts (F := F) c i h q f) := by unfold oPts; infer_instance
omit [FloatOps F] in
instance yPts_storable (c k i h) (f) : BI.Storable (upEmb : UEmb _ 𝕄) (yPts (F := F) c k i h f) := by unfold yPts; infer_instance
omit [FloatOps F] in
instance pPts_storable (c i h) : BI.Storable (upEmb : UEmb _ 𝕄) (pPts (F := F) m ρ c i h) := by unfold pPts; infer_instance
omit [FloatOps F] in
instance room_storable (c s) : BI.Storable (upEmb : UEmb _ 𝕄) (room (F := F) c s) := by unfold room; split <;> infer_instance
instance landed_storable (c s) : BI.Storable (upEmb : UEmb _ 𝕄) (landed (F := F) m ρ c s) := by unfold landed; split <;> infer_instance
instance lent_storable (c s) : BI.Storable (upEmb : UEmb _ 𝕄) (lent (F := F) m ρ c s) := by unfold lent; split <;> infer_instance
omit [FloatOps F] in
instance inbox_storable (c δ) : BI.Storable (upEmb : UEmb _ 𝕄) (inbox (F := F) c δ) := by unfold inbox; infer_instance

/-! ## The schedule -/

abbrev barCell (c : Dev nD) : GSem nD τ sig := ((c : Thread nD τ), .reg barS)
abbrev dCell (c : Dev nD) (n : DmaSem sig) : GSem nD τ sig := ((c : Thread nD τ), .dma n)

/-- The count one chunk's arrival adds. -/
def amt (i : Fin 5) (h : Fin 8) : ℕ := (oC i h).view.dmaCredit
theorem amt_pos (i : Fin 5) (h : Fin 8) : 0 < amt i h := View.dmaCredit_pos _ (sh_pos (cN_cases i h))

theorem dname_inj : Function.Injective (fun δ : Dir => ((false, (δ, 0, 0)) : Duty)) := fun a b h => congrArg (fun d : Duty => d.2.1) h

/-- A barrier's duties are the directions the device talks to; a transfer's semaphore has the duty of its slot, in use. -/
def dutiesOf (g : GSem nD τ sig) : Finset Duty :=
  match g.1.2, g.2 with
  | .tc, .reg sm => if sm = barS then (Finset.univ.filter fun δ => has g.1.1 δ = true).map ⟨_, dname_inj⟩ else ∅
  | .tc, .dma n => Finset.univ.filter fun d => semOf d.1 d.2 = n ∧ act g.1.1 d.1 d.2 = true
  | _, _ => ∅

def amountOf (g : GSem nD τ sig) (d : Duty) : ℕ := match g.2 with
  | .reg _ => 1
  | .dma _ => match d.1 with
    | false => amt (iv g.1.1 d.2.1 d.2.2.1) d.2.2.2
    | true => amt (rv g.1.1 d.2.1 d.2.2.1) d.2.2.2

def payOf (g : GSem nD τ sig) (d : Duty) : sProp 𝕄 := match g.2 with
  | .reg _ => inbox (nb d.2.1 g.1.1) d.2.1.opp
  | .dma _ => match d.1 with
    | false => lent m ρ g.1.1 d.2
    | true => landed m ρ g.1.1 d.2

/-- One round. -/
def rd : Rounds.Schedule (GSem nD τ sig) Duty 𝕄 where
  duties g r := if r = 0 then dutiesOf g else ∅
  unitless _ := False
  amount g _ d := amountOf g d
  payload g _ d := payOf m ρ g d
  amount_pos g _ d _ := by
    unfold amountOf
    split
    · exact Nat.one_pos
    · split <;> exact amt_pos _ _

instance rd_payload_storable (g : GSem nD τ sig) (r : ℕ) (d : Duty) :
    BI.Storable (upEmb : UEmb _ 𝕄) ((rd (F := F) m ρ).payload g r d) := by
  show BI.Storable upEmb (payOf m ρ g d)
  unfold payOf
  (repeat' split) <;> infer_instance

section Sched
variable (c : Dev nD)

omit [FloatOps F] in
theorem dutiesOf_bar : dutiesOf (barCell c) = (Finset.univ.filter fun δ => has c δ = true).map ⟨_, dname_inj⟩ := by
  dsimp only [dutiesOf]; exact if_pos rfl

omit [FloatOps F] in
theorem dutiesOf_dma (n : DmaSem sig) : dutiesOf (dCell c n) = Finset.univ.filter fun d : Duty => semOf d.1 d.2 = n ∧ act c d.1 d.2 = true := rfl

omit [FloatOps F] in
theorem dutiesOf_slot (b : Bool) (s : Slot) (ha : act c b s = true) : dutiesOf (dCell c (semOf b s)) = {(b, s)} := by
  rw [dutiesOf_dma]
  ext ⟨b', s'⟩
  rw [Finset.mem_filter, Finset.mem_singleton]
  constructor
  · rintro ⟨-, h1, h2⟩
    obtain ⟨rfl, rfl⟩ := semOf_inj _ _ _ _ (act_valid c _ _ _ _ h2) (act_valid c _ _ _ _ ha) h1
    rfl
  · intro h; cases h; exact ⟨Finset.mem_univ _, rfl, ha⟩

theorem duties_zero (g : GSem nD τ sig) : (rd (F := F) m ρ).duties g 0 = dutiesOf g := by dsimp only [rd]; exact if_pos rfl
theorem duties_later (g : GSem nD τ sig) : ∀ r, 1 ≤ r → (rd (F := F) m ρ).duties g r = ∅ :=
  fun r hr => by dsimp only [rd]; exact if_neg (by omega)

theorem expect_slot (b : Bool) (s : Slot) (ha : act c b s = true) :
    (rd (F := F) m ρ).expect (dCell c (semOf b s)) 0 = amountOf (dCell c (semOf b s)) (b, s) := by
  unfold Schedule.expect Schedule.amountOf
  rw [duties_zero, dutiesOf_slot c b s ha, Finset.sum_singleton]; rfl

theorem rest_slot (b : Bool) (s : Slot) (ha : act c b s = true) :
    bigSep ((rd (F := F) m ρ).duties (dCell c (semOf b s)) 0 \ ∅) (fun d => (rd (F := F) m ρ).payload (dCell c (semOf b s)) 0 d)
      = payOf m ρ (dCell c (semOf b s)) (b, s) := by
  rw [Finset.sdiff_empty, duties_zero, dutiesOf_slot c b s ha, bigSep_singleton]; rfl

/-- The number of directions the device talks to. -/
def nDirs : ℕ := (Finset.univ.filter fun δ => has c δ = true).card

theorem expect_bar : (rd (F := F) m ρ).expect (barCell c) 0 = nDirs c := by
  unfold Schedule.expect Schedule.amountOf nDirs
  rw [duties_zero, dutiesOf_bar, Finset.sum_map, Finset.card_eq_sum_ones]; rfl

theorem rest_bar :
    bigSep ((rd (F := F) m ρ).duties (barCell c) 0 \ ∅) (fun d => (rd (F := F) m ρ).payload (barCell c) 0 d)
      = bigSep (Finset.univ.filter fun δ => has c δ = true) fun δ => inbox (F := F) (nb δ c) δ.opp := by
  rw [Finset.sdiff_empty, duties_zero, dutiesOf_bar, bigSep_map]
  rfl

end Sched

/-! ## What a device owes, and the levels -/

/-- The arrival a slot's transfer owes its receiver. -/
def due (c : Dev nD) (s : Slot) : CellTallies nD τ sig Unit :=
  tallyAt (dCell (nb s.1 c) (semOf true s.opp)) () (amt (iv c s.1 s.2.1) s.2.2)

def owe (c : Dev nD) (l : List Xf) : CellTallies nD τ sig Unit := (l.map fun t => due c t.slot).sum
def oweBar (c : Dev nD) (l : List Dir) : CellTallies nD τ sig Unit := (l.map fun δ => tallyAt (barCell (nb δ c)) () 1).sum

def O₀ (c : Dev nD) : CellTallies nD τ sig Unit := oweBar c (dirs c) + (owe c (ySends c) + owe c (oSends c))

def L (g : GSem nD τ sig) : Finset Unit := if g.1.2 = .tc then {()} else ∅

abbrev IsY (n : DmaSem sig) : Prop := 20 ≤ n.val ∧ n.val < 36
abbrev IsO (n : DmaSem sig) : Prop := (44 ≤ n.val ∧ n.val < 52) ∨ (68 ≤ n.val ∧ n.val < 84) ∨ 100 ≤ n.val

/-- Barriers at 1, the partner's rows at 2, the results of others at 3, everything else at 0. -/
def lv (g : GSem nD τ sig) (_ : Unit) : ℕ := match g.2 with
  | .reg _ => 1
  | .dma n => if IsY n then 2 else if IsO n then 3 else 0

theorem L_of_ne (g : GSem nD τ sig) (h : g.1.2 ≠ .tc) : L g = ∅ := if_neg h
theorem L_tc (c : Dev nD) (sm : SemLoc sig) : L ((c : Thread nD τ), sm) = {()} := if_pos rfl

theorem isY_in (s : Slot) (h : s.1 = .y) : IsY (semOf true s) := by
  obtain ⟨δ, k, h1⟩ := s
  have hk := k.isLt; have hh := h1.isLt
  dsimp only at h; subst h
  dsimp only [IsY, semOf, sR, rBase]; omega

theorem isO_in (s : Slot) (hv : s.1 = .x → s.2.1 = 0) (hy : s.1 ≠ .y) : ¬ IsY (semOf true s) ∧ IsO (semOf true s) := by
  obtain ⟨δ, k, h⟩ := s
  have hx : δ = .x → k.val = 0 := fun e => congrArg Fin.val (hv e)
  have hk := k.isLt; have hh := h.isLt
  cases δ
  · exact absurd rfl hy
  · have := hx rfl
    dsimp only [IsY, IsO, semOf, sR, rBase]; omega
  · dsimp only [IsY, IsO, semOf, sR, rBase]; omega
  · dsimp only [IsY, IsO, semOf, sR, rBase]; omega

theorem sum_pos {α : Type} (f : α → CellTallies nD τ sig Unit) (l : List α) (g : GSem nD τ sig) (u : Unit)
    (h : 0 < (l.map f).sum g u) : ∃ a ∈ l, 0 < f a g u := by
  induction l with
  | nil => exact absurd h (Nat.lt_irrefl 0)
  | cons a l ih =>
    rw [List.map_cons, List.sum_cons, Pi.add_apply, Finsupp.add_apply] at h
    by_cases h0 : 0 < f a g u
    · exact ⟨a, List.mem_cons_self, h0⟩
    · obtain ⟨b, hb, h'⟩ := ih (by omega)
      exact ⟨b, List.mem_cons_of_mem _ hb, h'⟩

theorem due_pos {c : Dev nD} {s : Slot} {g : GSem nD τ sig} {u : Unit} (h : 0 < due c s g u) : g = dCell (nb s.1 c) (semOf true s.opp) :=
  (Pipeline.tallyAt_pos h).1

theorem owe_pos {c : Dev nD} {l : List Xf} {g : GSem nD τ sig} {u : Unit} (h : 0 < owe c l g u) :
    ∃ t ∈ l, g = dCell (nb t.δ c) (semOf true t.slot.opp) := by
  obtain ⟨t, ht, h⟩ := sum_pos _ _ _ _ h; exact ⟨t, ht, due_pos h⟩

theorem lv_out (c : Dev nD) (t : Xf) (ha : act c false t.slot = true) (u : Unit) :
    2 ≤ lv (dCell (nb t.δ c) (semOf true t.slot.opp)) u ∧ (t.δ ≠ .y → 3 ≤ lv (dCell (nb t.δ c) (semOf true t.slot.opp)) u) := by
  by_cases e : t.δ = .y
  · have : IsY (semOf true t.slot.opp) := isY_in _ (by show t.δ.opp = .y; rw [e]; rfl)
    exact ⟨by show 2 ≤ (if IsY _ then 2 else _); rw [if_pos this], fun h => absurd e h⟩
  · have hne : t.δ.opp ≠ .y := by revert e; cases t.δ <;> decide
    obtain ⟨h0, h1⟩ := isO_in t.slot.opp (act_valid (nb t.δ c) true _ _ _ ((act_opp c t.slot).trans ha)) hne
    have : lv (dCell (nb t.δ c) (semOf true t.slot.opp)) u = 3 := by
      show (if IsY _ then 2 else if IsO _ then 3 else 0) = 3
      rw [if_neg h0, if_pos h1]
    rw [this]; exact ⟨by decide, fun _ => le_rfl⟩

theorem act_of_mem (c : Dev nD) (t : Xf) (h : t ∈ ySends c ∨ t ∈ oSends c) : act c false t.slot = true := by
  rcases h with h | h
  · obtain ⟨e, -⟩ := ySends_spec c t h
    show (snd c t.δ t.k).isSome = true
    rw [e, snd_y]; rfl
  · show (snd c t.δ t.k).isSome = true
    rw [(oSends_spec c t h).2]; rfl

/-- A wait at level `n` may be taken while everything owed is above it. -/
theorem mayWait (c : Dev nD) (sm : SemLoc sig) (O : CellTallies nD τ sig Unit) (n : ℕ) (hs : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs) (fun g u hg => (hO g u hg).2)

theorem O₀_pos {c : Dev nD} {g : GSem nD τ sig} {u : Unit} (h : 0 < O₀ c g u) : g.1.2 = .tc ∧ 0 < lv g u := by
  unfold O₀ at h
  rw [Pi.add_apply, Finsupp.add_apply, Pi.add_apply, Finsupp.add_apply] at h
  have h : 0 < oweBar c (dirs c) g u ∨ 0 < owe c (ySends c) g u ∨ 0 < owe c (oSends c) g u := by omega
  rcases h with h | h | h
  · obtain ⟨δ, -, h⟩ := sum_pos _ _ _ _ h
    rw [(Pipeline.tallyAt_pos h).1]; exact ⟨rfl, Nat.one_pos⟩
  · obtain ⟨t, ht, rfl⟩ := owe_pos h
    exact ⟨rfl, lt_of_lt_of_le (by decide) (lv_out c t (act_of_mem c t (.inl ht)) u).1⟩
  · obtain ⟨t, ht, rfl⟩ := owe_pos h
    exact ⟨rfl, lt_of_lt_of_le (by decide) (lv_out c t (act_of_mem c t (.inr ht)) u).1⟩

end Cert.KernelIdeal.Gather
-- ==== Proof.Steps.lean ====
/-
# One step at a time

A rule for each step of the body: a signal, the barrier's wait, a send, a wait on a transfer, and the computation of
one chunk.
-/
module

public import proofs.«01_k».proof.Proof.Protocol

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and their invariants -/

/-- The semaphores of the protocol on one device: the barrier and the 112 of the transfers. -/
abbrev Cx : Type := Option (Fin 112)
def dsem (j : Fin 112) : DmaSem sig := ⟨4 + j.val, by have := j.isLt; show _ < 116; omega⟩
def csem : Cx → SemLoc sig
  | none => .reg barS
  | some j => .dma (dsem j)
def kcell (ck : Dev nD × Cx) : GSem nD τ sig := ((ck.1 : Thread nD τ), csem ck.2)

theorem csem_injective : Function.Injective csem := by
  rintro (_ | j) (_ | j') h
  · rfl
  · cases h
  · cases h
  · have h : (SemLoc.dma (dsem j) : SemLoc sig) = .dma (dsem j') := h
    have h1 : dsem j = dsem j' := by injection h
    have h2 : 4 + j.val = 4 + j'.val := congrArg Fin.val h1
    exact congrArg some (Fin.ext (by omega))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

theorem mem_bar (c : Dev nD) : barCell c ∈ ringCells := Finset.mem_map.mpr ⟨(c, none), Finset.mem_univ _, rfl⟩

theorem dsem_of (n : DmaSem sig) (h : 4 ≤ n.val) : ∃ j, dsem j = n :=
  ⟨⟨n.val - 4, by have : n.val < 116 := n.isLt; omega⟩, Fin.ext (by show 4 + (n.val - 4) = n.val; omega)⟩

theorem mem_slot (c : Dev nD) (b : Bool) (s : Slot) : dCell c (semOf b s) ∈ ringCells := by
  obtain ⟨j, hj⟩ := dsem_of (semOf b s) (semOf_ge b s)
  exact Finset.mem_map.mpr ⟨(c, some j), Finset.mem_univ _, by rw [← hj]; rfl⟩

/-- What every device knows: all the cells' invariants, and that each is at its first round. -/
def ctx (K : GSem nD τ sig → ℕ) : sProp 𝕄 :=
  bigSep ringCells fun g => iprop(cellInv ER (rd m ρ) (K g) g ∗ reached ER g 0)

instance ctx_persistent (K : GSem nD τ sig → ℕ) : BI.Persistent (ctx (F := F) m ρ K) := by unfold ctx; infer_instance

theorem ctx_at (K : GSem nD τ sig → ℕ) {g : GSem nD τ sig} (h : g ∈ ringCells) :
    ctx (F := F) m ρ K ⊢ iprop(cellInv ER (rd m ρ) (K g) g ∗ reached ER g 0) := bigSep_elim h

/-! ## Programs -/

abbrev 𝒱₀ : Variants := Variants.none

/-- The run of a program on device `c`, to what `Q` asks. -/
abbrev Run (c : Dev nD) (P : PP F) (Q : PUnit → sProp 𝕄) : sProp 𝕄 :=
  wp frame (wpE (defs₀ (F := F)) 𝒱₀ (c : Thread nD τ) none) Set.univ P Q

/-- A loop runs by its step: `J` is what passes from one turn to the next. -/
theorem run_loop (c : Dev nD) (Q : PUnit.{1} → sProp 𝕄) {α : Type} (f : α → PP F → PP F) (J : List α → sProp 𝕄) (pre post : α → sProp 𝕄) :
    ∀ (l : List α), (∀ a ∈ l, ∀ l' K, iprop(J (a :: l') ∗ pre a) ⊢ iprop((iprop(J l' ∗ post a) -∗ Run c K Q) -∗ Run c (f a K) Q)) →
      ∀ K, iprop(J l ∗ bigSepL l pre) ⊢ iprop((iprop(J [] ∗ bigSepL l post) -∗ Run c K Q) -∗ Run c (loop l f K) Q)
  | [], _, K => by
    show _ ⊢ iprop(_ -∗ Run c K Q)
    iintro ⟨HJ, Hl⟩ HK
    iapply HK
    isplitl [HJ]; · iexact HJ
    iexact Hl
  | a :: l, h, K => by
    rw [bigSepL_cons', bigSepL_cons']
    show _ ⊢ iprop(_ -∗ Run c (f a (loop l f K)) Q)
    iintro ⟨HJ, Ha, Hl⟩ HK
    iapply (h a List.mem_cons_self l (loop l f K)) $$ [HJ Ha]
    · isplitl [HJ] <;> iassumption
    iintro ⟨HJ, Hp⟩
    iapply (run_loop c Q f J pre post l (fun a ha => h a (List.mem_cons_of_mem _ ha)) K) $$ [HJ Hl]
    · isplitl [HJ] <;> iassumption
    iintro ⟨HJ, Hps⟩
    iapply HK
    isplitl [HJ]; · iexact HJ
    isplitl [Hp]; · iexact Hp
    iexact Hps

theorem signal_eq (d : Dev nD) (K : PP F) : signal d K = .op (.semSignal (d, .tc) barS ((1 : ℕ) : Int)) fun _ => K := rfl

theorem nDirs_eq (c : Dev nD) : (BitVec.ofNat 32 (dirs c).length).toInt = ((nDirs c : ℕ) : Int) := by revert c; decide

/-! ## The steps -/

section Steps
variable (K : GSem nD τ sig → ℕ) (c : Dev nD) (P : PP F)

theorem signal_step (Q : PUnit → sProp 𝕄) (δ : Dir) (hd : has c δ = true) (O : CellTallies nD τ sig Unit) (W : Waits sig Unit) :
    iprop(ctx m ρ K ∗ owes (c : Thread nD τ) (tallyAt (barCell (nb δ c)) () 1 + O) W
        ∗ dutyTok ER (barCell (nb δ c)) 0 ((false, (δ.opp, 0, 0)) : Duty) ∗ inbox c δ)
      ⊢ iprop((owes (c : Thread nD τ) O W -∗ Run c P Q) -∗ Run c (signal (nb δ c) P) Q) := by
  rw [signal_eq]
  iintro ⟨#Hc, HO, Ht, Hb⟩ HK
  ihave #Hi := (ctx_at m ρ K (mem_bar (nb δ c))) $$ Hc
  icases Hi with ⟨Hi, Hr⟩
  iapply (Rounds.wp_signal 𝒱₀ ER (rd m ρ) (c : Thread nD τ) none (dst := (nb δ c : Thread nD τ)) (κ := K (barCell (nb δ c)))
      (d := (false, (δ.opp, 0, 0))) (by
        rw [duties_zero, dutiesOf_bar]
        exact Finset.mem_map.mpr ⟨δ.opp, Finset.mem_filter.mpr ⟨Finset.mem_univ _, (has_opp δ c).trans hd⟩, rfl⟩)
      (show (rd (F := F) m ρ).amount (barCell (nb δ c)) 0 (false, (δ.opp, 0, 0)) = 1 from rfl) () O (add_comm _ _)) $$ [HO Ht Hb]
  · isplitr; · iexact Hi
    isplitl [HO]; · iexact HO
    isplitl [Ht]; · iexact Ht
    isplitl [Hb]
    · have e : (rd (F := F) m ρ).payload (barCell (nb δ c)) 0 (false, (δ.opp, 0, 0)) = inbox c δ := by
        show inbox (nb δ.opp (nb δ c)) δ.opp.opp = _
        rw [nb_opp_nb, Dir.opp_opp]
      rw [e]; iexact Hb
    iexact Hr
  iexact HK

theorem await_step (Q : PUnit → sProp 𝕄) (O : CellTallies nD τ sig Unit) (W : Waits sig Unit) :
    iprop(ctx m ρ K ∗ cred (tallyAt (barCell c) () (nDirs c)) ∗ owes (c : Thread nD τ) O W
        ∗ MayWait (c : Thread nD τ) (.reg barS) () O ∗ atPos ER (barCell c) 0 ∅ 0)
      ⊢ iprop((iprop((∃ W', owes (c : Thread nD τ) O W') ∗ semVal (barCell c) 0
            ∗ bigSep (Finset.univ.filter fun δ => has c δ = true) fun δ => inbox (nb δ c) δ.opp) -∗ Run c P Q)
          -∗ Run c (await (BitVec.ofNat 32 (dirs c).length) P) Q) := by
  have e : await (F := F) (BitVec.ofNat 32 (dirs c).length) P = .op (.semWait barS ((nDirs c : ℕ) : Int)) fun _ => P := by
    unfold await; rw [nDirs_eq]
  rw [e]
  iintro ⟨#Hc, Hcr, HO, HM, Hat⟩ HK
  ihave #Hi := (ctx_at m ρ K (mem_bar c)) $$ Hc
  icases Hi with ⟨Hi, -⟩
  iapply (Rounds.wp_wait_rest_token 𝒱₀ ER (rd m ρ) (c : Thread nD τ) none (κ := K (barCell c))
      (wpE_semWait_eq 𝒱₀ (c : Thread nD τ) none Set.univ) (Set.mem_univ _) () (O := O) (W := W) (R := 0) (m := 0) (T := ∅)
      (by rw [expect_bar, Nat.zero_add])) $$ [Hcr HO HM Hat]
  · isplitr; · iexact Hi
    isplitl [Hcr]; · iexact Hcr
    isplitl [HO]; · iexact HO
    isplitl [HM] <;> iassumption
  iintro ⟨HO, Hat, -, Hpay⟩
  ihave Hp := (Entails.of_eq (rest_bar m ρ c)) $$ Hpay
  imod (Rounds.cell_close ER (rd m ρ) (Set.mem_univ (K (barCell c))) (fun h => h) (R := 0 + 1) (duties_later m ρ (barCell c))) $$ [Hat] with Hz
  · isplitr; · iexact Hi
    iexact Hat
  iapply HK
  isplitl [HO]; · iexists _; iexact HO
  isplitl [Hz] <;> iassumption

/-- A wait on a slot's semaphore: what its transfer hands over, and the semaphore back at zero. -/
theorem wait_step (Q : PUnit → sProp 𝕄) (b : Bool) (s : Slot) (ha : act c b s = true) {sp sp' : Space} {sh₁ sh₂ : Shape} {e₁ e₂ : EltTy}
    (src : Memref sig .tc sp' sh₁ e₁) (dst : Memref sig .tc sp sh₂ e₂) (h₁ : src.view.WordExact) (h₂ : dst.view.WordExact)
    (hN : dst.view.dmaCredit = amountOf (dCell c (semOf b s)) (b, s)) (O : CellTallies nD τ sig Unit) (W : Waits sig Unit) :
    iprop(ctx m ρ K ∗ cred (tallyAt (dCell c (semOf b s)) () dst.view.dmaCredit) ∗ owes (c : Thread nD τ) O W
        ∗ MayWait (c : Thread nD τ) (.dma (semOf b s)) () O ∗ atPos ER (dCell c (semOf b s)) 0 ∅ 0)
      ⊢ iprop((iprop((∃ W', owes (c : Thread nD τ) O W') ∗ semVal (dCell c (semOf b s)) 0 ∗ payOf m ρ (dCell c (semOf b s)) (b, s)) -∗ Run c P Q)
          -∗ Run c (.op (.waitDma2 (semOf b s) src dst h₁ h₂) fun _ => P) Q) := by
  iintro ⟨#Hc, Hcr, HO, HM, Hat⟩ HK
  ihave #Hi := (ctx_at m ρ K (mem_slot c b s)) $$ Hc
  icases Hi with ⟨Hi, -⟩
  iapply (Rounds.wp_wait_rest_token 𝒱₀ ER (rd m ρ) (c : Thread nD τ) none (κ := K (dCell c (semOf b s)))
      (wpE_waitDma2_eq 𝒱₀ (c : Thread nD τ) none Set.univ) (Set.mem_univ _) () (O := O) (W := W) (R := 0) (m := 0) (T := ∅)
      (by rw [expect_slot m ρ c b s ha, Nat.zero_add, hN])) $$ [Hcr HO HM Hat]
  · isplitr; · iexact Hi
    isplitl [Hcr]; · iexact Hcr
    isplitl [HO]; · iexact HO
    isplitl [HM] <;> iassumption
  iintro ⟨HO, Hat, -, Hpay⟩
  ihave Hp := (Entails.of_eq (rest_slot m ρ c b s ha)) $$ Hpay
  imod (Rounds.cell_close ER (rd m ρ) (Set.mem_univ (K (dCell c (semOf b s)))) (fun h => h) (R := 0 + 1) (duties_later m ρ (dCell c (semOf b s)))) $$ [Hat] with Hz
  · isplitr; · iexact Hi
    iexact Hat
  iapply HK
  isplitl [HO]; · iexists _; iexact HO
  isplitl [Hz] <;> iassumption

/-- The two tokens a send pays with. -/
def toks (t : Xf) : sProp 𝕄 :=
  iprop(dutyTok ER (dCell c (semOf false t.slot)) 0 ((false, t.slot) : Duty)
    ∗ dutyTok ER (dCell (nb t.δ c) (semOf true t.slot.opp)) 0 ((true, t.slot.opp) : Duty))
def sent (t : Xf) : sProp 𝕄 := cred (tallyAt (dCell c (semOf false t.slot)) () (amt t.i t.h))

theorem act_of_eq (t : Xf) (hi : snd c t.δ t.k = some t.i) : act c false t.slot = true ∧ iv c t.δ t.k = t.i :=
  ⟨by show (snd c t.δ t.k).isSome = true; rw [hi]; rfl, by unfold iv; rw [hi]; rfl⟩

theorem sendY_step (Q : PUnit → sProp 𝕄) (t : Xf) (hy : t.δ = .y) (hi : snd c t.δ t.k = some t.i) (O : CellTallies nD τ sig Unit) (W : Waits sig Unit) :
    iprop(ctx m ρ K ∗ owes (c : Thread nD τ) (due c t.slot + O) W ∗ toks c t ∗ room (nb t.δ c) t.slot.opp ∗ lent m ρ c t.slot)
      ⊢ iprop((iprop(owes (c : Thread nD τ) O W ∗ sent c t) -∗ Run c P Q) -∗ Run c (sendY c t P) Q) := by
  obtain ⟨ha, hv⟩ := act_of_eq c t hi
  obtain ⟨δ, k, i, h⟩ := t
  dsimp only at hy hi hv
  subst hy; subst hv
  have eroom : room (F := F) (nb .y c) (Slot.opp (.y, k, h)) = iprop(∃ f, yPts (nb .y c) k (iv c .y k) h f) := by
    unfold room; rw [if_pos (by rfl : (Slot.opp (.y, k, h)).1 = .y), show rv (nb .y c) (Slot.opp (.y, k, h)).1 (Slot.opp (.y, k, h)).2.1 = iv c .y k from rv_opp c .y k]
    rfl
  have elent : lent (F := F) m ρ c (.y, k, h) = pPts m ρ c (iv c .y k) h := by unfold lent; rw [if_pos rfl]
  have eland : landed (F := F) m ρ (nb .y c) (Slot.opp (.y, k, h)) = yPts (nb .y c) k (iv c .y k) h (yF m ρ (nb .y c) k (iv c .y k) h) := by
    unfold landed; rw [if_pos (by rfl : (Slot.opp (.y, k, h)).1 = .y), show rv (nb .y c) (Slot.opp (.y, k, h)).1 (Slot.opp (.y, k, h)).2.1 = iv c .y k from rv_opp c .y k]
    rfl
  show iprop(ctx m ρ K ∗ owes (c : Thread nD τ) (due c (.y, k, h) + O) W ∗ _ ∗ room (F := F) (nb .y c) (Slot.opp (.y, k, h)) ∗ lent (F := F) m ρ c (.y, k, h)) ⊢ _
  rw [eroom, elent]
  unfold toks sent yPts pPts
  iintro ⟨#Hc, HO, ⟨Ht, Ht'⟩, ⟨%f, Hy⟩, Hp⟩ HK
  ihave #Hi := (ctx_at m ρ K (mem_slot c false (.y, k, h))) $$ Hc
  icases Hi with ⟨Hi, Hr⟩
  ihave #Hi' := (ctx_at m ρ K (mem_slot (nb .y c) true (Slot.opp (.y, k, h)))) $$ Hc
  icases Hi' with ⟨Hi', Hr'⟩
  iapply (Rounds.wp_send_pointsTo 𝒱₀ ER (rd m ρ) (c : Thread nD τ) none (c' := (nb .y c : Thread nD τ)) (κ₁ := K (dCell c (semOf false (.y, k, h))))
    (κ₂ := K (dCell (nb .y c) (semOf true (Slot.opp (.y, k, h)))))
    (r₁ := 0) (r₂ := 0) (d₁ := (false, (.y, k, h))) (d₂ := (true, Slot.opp (.y, k, h))) (fd := f)
    (by rw [duties_zero]; exact (dutiesOf_slot c false _ ha).symm ▸ Finset.mem_singleton_self _)
    (by rw [duties_zero]; exact (dutiesOf_slot (nb .y c) true _ ((act_opp c (.y, k, h)).trans ha)).symm ▸ Finset.mem_singleton_self _)
    () () (amt (iv c .y k) h) rfl rfl
    (by show amt (rv (nb .y c) (Dir.opp .y) k) h = _; rw [rv_opp]) O (add_comm _ _) (W := W)
    (by show _ ⊢ lent m ρ c (.y, k, h); rw [elent]; exact BI.Entails.refl _)
    (by
      show _ ⊢ landed m ρ (nb .y c) (Slot.opp (.y, k, h))
      rw [eland]; unfold yPts yF
      rw [show nb .y (nb .y c) = c from nb_opp_nb .y c]
      exact Entails.of_eq (View.pointsTo_write_univ_congr _ _ _ _ _ _))) $$ [HO Ht Ht' Hy Hp]
  · isplitr; · iexact Hi
    isplitr; · iexact Hi'
    isplitl [Hp]; · iexact Hp
    isplitl [Hy]; · iexact Hy
    isplitl [HO]; · iexact HO
    isplitl [Ht]; · iexact Ht
    isplitr; · iexact Hr
    isplitl [Ht']; · iexact Ht'
    iexact Hr'
  iintro ⟨Hcr, HO⟩
  iapply HK
  isplitl [HO]; · iexact HO
  iexact Hcr

theorem sendO_step (Q : PUnit → sProp 𝕄) (t : Xf) (hy : t.δ ≠ .y) (hi : snd c t.δ t.k = some t.i) (O : CellTallies nD τ sig Unit) (W : Waits sig Unit) :
    iprop(ctx m ρ K ∗ owes (c : Thread nD τ) (due c t.slot + O) W ∗ toks c t ∗ room (nb t.δ c) t.slot.opp
        ∗ oPts c t.i t.h (quarter t.δ) (oF m ρ c t.i t.h))
      ⊢ iprop((iprop(owes (c : Thread nD τ) O W ∗ sent c t) -∗ Run c P Q) -∗ Run c (sendO c t P) Q) := by
  obtain ⟨ha, hv⟩ := act_of_eq c t hi
  obtain ⟨δ, k, i, h⟩ := t
  dsimp only at hy hi hv
  subst hv
  have hy' : δ.opp ≠ .y := by revert hy; cases δ <;> decide
  have eroom : room (F := F) (nb δ c) (Slot.opp (δ, k, h)) = iprop(∃ f, oPts (nb δ c) (iv c δ k) h fullShare f) := by
    unfold room; rw [if_neg (show ¬(Slot.opp (δ, k, h)).1 = .y from hy'), show rv (nb δ c) (Slot.opp (δ, k, h)).1 (Slot.opp (δ, k, h)).2.1 = iv c δ k from rv_opp c δ k]
    rfl
  have elent : lent (F := F) m ρ c (δ, k, h) = oPts c (iv c δ k) h (quarter δ) (oF m ρ c (iv c δ k) h) := by unfold lent; rw [if_neg hy]
  have eland : landed (F := F) m ρ (nb δ c) (Slot.opp (δ, k, h)) = oPts (nb δ c) (iv c δ k) h fullShare (oF m ρ c (iv c δ k) h) := by
    unfold landed; rw [if_neg (show ¬(Slot.opp (δ, k, h)).1 = .y from hy'), show rv (nb δ c) (Slot.opp (δ, k, h)).1 (Slot.opp (δ, k, h)).2.1 = iv c δ k from rv_opp c δ k]
    show oPts (nb δ c) (iv c δ k) h fullShare (oF m ρ (nb δ.opp (nb δ c)) (iv c δ k) h) = _
    rw [nb_opp_nb]
  show iprop(ctx m ρ K ∗ owes (c : Thread nD τ) (due c (δ, k, h) + O) W ∗ _ ∗ room (F := F) (nb δ c) (Slot.opp (δ, k, h)) ∗ _) ⊢ _
  rw [eroom]
  unfold toks sent oPts
  iintro ⟨#Hc, HO, ⟨Ht, Ht'⟩, ⟨%f, Hy⟩, Hp⟩ HK
  ihave #Hi := (ctx_at m ρ K (mem_slot c false (δ, k, h))) $$ Hc
  icases Hi with ⟨Hi, Hr⟩
  ihave #Hi' := (ctx_at m ρ K (mem_slot (nb δ c) true (Slot.opp (δ, k, h)))) $$ Hc
  icases Hi' with ⟨Hi', Hr'⟩
  iapply (Rounds.wp_send_pointsTo 𝒱₀ ER (rd m ρ) (c : Thread nD τ) none (c' := (nb δ c : Thread nD τ)) (κ₁ := K (dCell c (semOf false (δ, k, h))))
    (κ₂ := K (dCell (nb δ c) (semOf true (Slot.opp (δ, k, h)))))
    (r₁ := 0) (r₂ := 0) (d₁ := (false, (δ, k, h))) (d₂ := (true, Slot.opp (δ, k, h))) (fd := f)
    (by rw [duties_zero]; exact (dutiesOf_slot c false _ ha).symm ▸ Finset.mem_singleton_self _)
    (by rw [duties_zero]; exact (dutiesOf_slot (nb δ c) true _ ((act_opp c (δ, k, h)).trans ha)).symm ▸ Finset.mem_singleton_self _)
    () () (amt (iv c δ k) h) rfl rfl
    (by show amt (rv (nb δ c) (Dir.opp δ) k) h = _; rw [rv_opp]) O (add_comm _ _) (W := W)
    (by show _ ⊢ lent m ρ c (δ, k, h); rw [elent]; exact BI.Entails.refl _)
    (by
      show _ ⊢ landed m ρ (nb δ c) (Slot.opp (δ, k, h))
      rw [eland]; unfold oPts oF
      rw [View.read_write_univ]
      exact Entails.of_eq (View.pointsTo_write_univ_congr _ _ _ _ _ _))) $$ [HO Ht Ht' Hy Hp]
  · isplitr; · iexact Hi
    isplitr; · iexact Hi'
    isplitl [Hp]; · iexact Hp
    isplitl [Hy]; · iexact Hy
    isplitl [HO]; · iexact HO
    isplitl [Ht]; · iexact Ht
    isplitr; · iexact Hr
    isplitl [Ht']; · iexact Ht'
    iexact Hr'
  iintro ⟨Hcr, HO⟩
  iapply HK
  isplitl [HO]; · iexact HO
  iexact Hcr

/-! ### The computation of a chunk -/

/-- The operands, held to be read: half of this device's rows of the sum (the other half is lent out), the residual, the scale. -/
def operands : sProp 𝕄 :=
  iprop(((c : Thread nD τ).loc cc0_stg0_0 ↦{fullShare.left} pBuf m ρ c) ∗ ((c : Thread nD τ).loc cc0_stg1_0 ↦{fullShare} rBuf m ρ c)
    ∗ ((c : Thread nD τ).loc cc0_stg2_0 ↦{fullShare} gBuf m ρ c))

theorem compute_step (Q : PUnit → sProp 𝕄) (k : Fin 2) (i : Fin 5) (h : Fin 8) :
    iprop(operands m ρ c ∗ yPts c k i h (yF m ρ c k i h) ∗ ∃ f, oPts c i h fullShare f)
      ⊢ iprop((iprop(operands m ρ c ∗ yPts c k i h (yF m ρ c k i h) ∗ oPts c i h fullShare (oF m ρ c i h)) -∗ Run c P Q)
          -∗ Run c (compute k i h P) Q) := by
  unfold operands yPts oPts compute
  iintro ⟨⟨Hp, Hr, Hg⟩, Hy, ⟨%f, Ho⟩⟩ HK
  iapply (wp_load 𝒱₀ (c : Thread nD τ) none Set.univ (m := pM) (Finset.subset_univ _)) $$ Hp; iintro Hp
  iapply (wp_load 𝒱₀ (c : Thread nD τ) none Set.univ (m := yM) (S := (yC k i h).view.set) (by rw [View.set_slice]; exact subset_rfl)) $$ Hy; iintro Hy
  iapply (wp_load 𝒱₀ (c : Thread nD τ) none Set.univ (m := rM) (Finset.subset_univ _)) $$ Hr; iintro Hr
  iapply (wp_load 𝒱₀ (c : Thread nD τ) none Set.univ (m := gM) (Finset.subset_univ _)) $$ Hg; iintro Hg
  iapply (wp_load 𝒱₀ (c : Thread nD τ) none Set.univ (m := oM) (S := (oC i h).view.set) (by rw [View.set_slice]; exact subset_rfl)) $$ Ho; iintro Ho
  iapply (wp_store 𝒱₀ (c : Thread nD τ) none Set.univ (m := oM) (r := oR i h) (Mk := Finset.univ) (S := (oC i h).view.set) (View.setOn_subset_set _ _)) $$ Ho; iintro Ho
  have ey : yM.view.readAt (Elt F) (yR k i h).toLoadRect (yF m ρ c k i h) = pRows m ρ (nb .y c) i h :=
    View.read_write_univ (v := (yC k i h).view) _ _
  rw [ey]
  iapply HK
  isplitl [Hp Hr Hg]
  · isplitl [Hp]; · iexact Hp
    isplitl [Hr] <;> iassumption
  isplitl [Hy]; · iexact Hy
  iapply (Entails.of_eq (View.pointsTo_write_univ_congr (c : Thread nD τ) (oC i h).view fullShare f oBase (val m ρ c i h)))
  iexact Ho

end Steps

end Cert.KernelIdeal.Gather
-- ==== Proof.Body.lean ====
/-
# The body

The body run from its phases: signals, the barrier, the partner's rows, the chunks, and the waits for what was sent
and what is received.
-/
module

public import proofs.«01_k».proof.Proof.Steps

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem eq_of_both {A B : sProp 𝕄} (h : A ⊢ B) (h' : B ⊢ A) : A = B := Entails.antisymm h h'

/-! ## Lists of resources -/

section Lists
variable {α β : Type}

omit [FloatOps F] in
theorem bigSepL_nil' (p : α → sProp 𝕄) : bigSepL [] p = iprop(emp) := rfl

omit [FloatOps F] in
theorem bigSepL_sep (l : List α) (p q : α → sProp 𝕄) : bigSepL l (fun a => iprop(p a ∗ q a)) = iprop(bigSepL l p ∗ bigSepL l q) := by
  induction l with
  | nil => exact (equiv_iff.mp sep_emp).symm
  | cons a l ih =>
    rw [bigSepL_cons', bigSepL_cons', bigSepL_cons', ih]
    refine eq_of_both ?_ ?_
    · iintro ⟨⟨H1, H2⟩, H3, H4⟩
      isplitl [H1 H3]
      · isplitl [H1]; · iexact H1
        iexact H3
      · isplitl [H2]; · iexact H2
        iexact H4
    · iintro ⟨⟨H1, H3⟩, H2, H4⟩
      isplitl [H1 H2]
      · isplitl [H1]; · iexact H1
        iexact H2
      · isplitl [H3]; · iexact H3
        iexact H4

omit [FloatOps F] in
theorem bigSepL_flatMap (l : List α) (f : α → List β) (p : β → sProp 𝕄) :
    bigSepL (l.flatMap f) p = bigSepL l fun a => bigSepL (f a) p := by
  induction l with
  | nil => rfl
  | cons a l ih => rw [List.flatMap_cons, bigSepL_append, bigSepL_cons', ih]

omit [FloatOps F] in
theorem bigSepL_congr (l : List α) {p q : α → sProp 𝕄} (h : ∀ a ∈ l, p a = q a) : bigSepL l p = bigSepL l q := by
  induction l with
  | nil => rfl
  | cons a l ih => rw [bigSepL_cons', bigSepL_cons', h a List.mem_cons_self, ih fun b hb => h b (List.mem_cons_of_mem _ hb)]

end Lists

theorem owe_append (c : Dev nD) (l l' : List Xf) : owe c (l ++ l') = owe c l + owe c l' := by
  unfold owe; rw [List.map_append, List.sum_append]

variable (m : (ℓ : Loc nD τ sig) → Buf (Elt F) ℓ) (ρ : Dev nD → PrngReg)
variable (K : GSem nD τ sig → ℕ) (c : Dev nD)

/-! ## Shares of a computed chunk -/

theorem quarters (i : Fin 5) (h : Fin 8) (f : (cc0_stg3_0 : Ref sig .tc).ty.Contents (Elt F)) :
    oPts (F := F) c i h fullShare f = bigSep Finset.univ fun δ => oPts c i h (quarter δ) f := by
  have hs (q : PosShare TreeShare) : oPts (F := F) c i h q f = iprop(oPts c i h q.left f ∗ oPts c i h q.right f) :=
    eq_of_both (pointsTo_share (PosShare.mem_left_op_right q)).1 (pointsTo_share (PosShare.mem_left_op_right q)).2
  rw [hs, hs fullShare.left, hs fullShare.right,
    bigSep_eq_bigSepL_of_eq (l := [Dir.y, Dir.x, Dir.m, Dir.p]) (S := Finset.univ) (by decide) (by decide)]
  simp only [bigSepL_cons', bigSepL_nil']
  refine eq_of_both ?_ ?_
  · iintro ⟨⟨H1, H2⟩, H3, H4⟩
    isplitl [H1]; · iexact H1
    isplitl [H2]; · iexact H2
    isplitl [H3]; · iexact H3
    isplitl [H4]; · iexact H4
    itrivial
  · iintro ⟨H1, H2, H3, H4, -⟩
    isplitl [H1 H2]
    · isplitl [H1]; · iexact H1
      iexact H2
    isplitl [H3]; · iexact H3
    iexact H4

/-- The directions an own chunk is sent in. -/
def used (kh : Fin 2 × Fin 8) : Finset Dir := ((oSendsOf c kh).map Xf.δ).toFinset

/-- The shares of an own chunk that are not lent. -/
def kept (kh : Fin 2 × Fin 8) : sProp 𝕄 :=
  bigSep (Finset.univ \ used c kh) fun δ => oPts c (own c kh.1) kh.2 (quarter δ) (oF m ρ c (own c kh.1) kh.2)

theorem chunk_shares (kh : Fin 2 × Fin 8) :
    oPts c (own c kh.1) kh.2 fullShare (oF m ρ c (own c kh.1) kh.2)
      = iprop(bigSepL (oSendsOf c kh) (fun t => lent m ρ c t.slot) ∗ kept m ρ c kh) := by
  rw [quarters, bigSep_sdiff_split (Finset.subset_univ (used c kh)), show used c kh = ((oSendsOf c kh).map Xf.δ).toFinset from rfl,
    bigSep_eq_bigSepL _ (oSendsOf_nodup c kh), bigSepL_map, bigSepL_congr (oSendsOf c kh) (q := fun t => lent m ρ c t.slot)]
  · rfl
  · intro t ht
    obtain ⟨hy, hi, hh, hs⟩ := oSendsOf_spec c kh t ht
    unfold lent
    rw [if_neg (show ¬t.slot.1 = .y from hy), show iv c t.slot.1 t.slot.2.1 = own c kh.1 from (act_of_eq c t hs).2.trans hi,
      show t.slot.2.2 = kh.2 from hh]
    rfl

/-! ## The phases -/

section Phases
variable (P : PP F)

theorem phase_signals (Q : PUnit → sProp 𝕄) (l : List Dir) (hl : ∀ δ ∈ l, has c δ = true) (O : CellTallies nD τ sig Unit) (W : Waits sig Unit) :
    iprop(ctx m ρ K ∗ owes (c : Thread nD τ) (oweBar c l + O) W
        ∗ bigSepL l fun δ => iprop(dutyTok ER (barCell (nb δ c)) 0 ((false, (δ.opp, 0, 0)) : Duty) ∗ inbox c δ))
      ⊢ iprop((owes (c : Thread nD τ) O W -∗ Run c P Q) -∗ Run c (loop l (fun δ => signal (nb δ c)) P) Q) := by
  iintro ⟨#Hc, HO, Hl⟩ HK
  iapply (run_loop c Q (fun δ => signal (nb δ c)) (fun l => iprop(ctx m ρ K ∗ owes (c : Thread nD τ) (oweBar c l + O) W))
    (fun δ => iprop(dutyTok ER (barCell (nb δ c)) 0 ((false, (δ.opp, 0, 0)) : Duty) ∗ inbox c δ))
    (fun _ => iprop(emp)) l (fun δ hδ l' P => by
      iintro ⟨⟨#Hc, HO⟩, Ht, Hb⟩ HK
      rw [show oweBar c (δ :: l') + O = tallyAt (barCell (nb δ c)) () 1 + (oweBar c l' + O) from by
        unfold oweBar; rw [List.map_cons, List.sum_cons, add_assoc]]
      iapply (signal_step m ρ K c P Q δ (hl δ hδ) (oweBar c l' + O) W) $$ [HO Ht Hb]
      · isplitr; · iexact Hc
        isplitl [HO]; · iexact HO
        isplitl [Ht]; · iexact Ht
        iexact Hb
      iintro HO
      iapply HK
      isplitl [HO]
      · isplitr; · iexact Hc
        iexact HO
      itrivial) P) $$ [HO Hl]
  · isplitl [HO]
    · isplitr; · iexact Hc
      iexact HO
    iexact Hl
  rw [show oweBar c [] + O = O from zero_add O]
  iintro ⟨⟨-, HO⟩, -⟩
  iapply HK
  iexact HO

theorem phase_sendY (Q : PUnit → sProp 𝕄) (l : List Xf) (hl : ∀ t ∈ l, t ∈ ySends c) (O : CellTallies nD τ sig Unit) (W : Waits sig Unit) :
    iprop(ctx m ρ K ∗ owes (c : Thread nD τ) (owe c l + O) W
        ∗ bigSepL l fun t => iprop(toks c t ∗ room (nb t.δ c) t.slot.opp ∗ lent m ρ c t.slot))
      ⊢ iprop((iprop(owes (c : Thread nD τ) O W ∗ bigSepL l (sent c)) -∗ Run c P Q) -∗ Run c (loop l (sendY c) P) Q) := by
  iintro ⟨#Hc, HO, Hl⟩ HK
  iapply (run_loop c Q (sendY c) (fun l => iprop(ctx m ρ K ∗ owes (c : Thread nD τ) (owe c l + O) W))
    (fun t => iprop(toks c t ∗ room (nb t.δ c) t.slot.opp ∗ lent m ρ c t.slot)) (sent c) l (fun t ht l' P => by
      obtain ⟨hy, hi⟩ := ySends_spec c t (hl t ht)
      iintro ⟨⟨#Hc, HO⟩, Ht, Hr, Hb⟩ HK
      rw [show owe c (t :: l') + O = due c t.slot + (owe c l' + O) from by
        unfold owe; rw [List.map_cons, List.sum_cons, add_assoc]]
      iapply (sendY_step m ρ K c P Q t hy (by rw [hy, hi, snd_y]) (owe c l' + O) W) $$ [HO Ht Hr Hb]
      · isplitr; · iexact Hc
        isplitl [HO]; · iexact HO
        isplitl [Ht]; · iexact Ht
        isplitl [Hr]; · iexact Hr
        iexact Hb
      iintro ⟨HO, Hs⟩
      iapply HK
      isplitl [HO]
      · isplitr; · iexact Hc
        iexact HO
      iexact Hs) P) $$ [HO Hl]
  · isplitl [HO]
    · isplitr; · iexact Hc
      iexact HO
    iexact Hl
  rw [show owe c [] + O = O from zero_add O]
  iintro ⟨⟨-, HO⟩, Hs⟩
  iapply HK
  isplitl [HO]; · iexact HO
  iexact Hs

theorem phase_sendO (Q : PUnit → sProp 𝕄) (kh : Fin 2 × Fin 8) (O : CellTallies nD τ sig Unit) (W : Waits sig Unit) :
    iprop(ctx m ρ K ∗ owes (c : Thread nD τ) (owe c (oSendsOf c kh) + O) W
        ∗ bigSepL (oSendsOf c kh) fun t => iprop(iprop(toks c t ∗ room (nb t.δ c) t.slot.opp) ∗ lent m ρ c t.slot))
      ⊢ iprop((iprop(owes (c : Thread nD τ) O W ∗ bigSepL (oSendsOf c kh) (sent c)) -∗ Run c P Q) -∗ Run c (loop (oSendsOf c kh) (sendO c) P) Q) := by
  iintro ⟨#Hc, HO, Hl⟩ HK
  iapply (run_loop c Q (sendO c) (fun l => iprop(ctx m ρ K ∗ owes (c : Thread nD τ) (owe c l + O) W))
    (fun t => iprop(iprop(toks c t ∗ room (nb t.δ c) t.slot.opp) ∗ lent m ρ c t.slot)) (sent c) (oSendsOf c kh) (fun t ht l' P => by
      obtain ⟨hy, hi, hh, hs⟩ := oSendsOf_spec c kh t ht
      rw [show lent (F := F) m ρ c t.slot = oPts c t.i t.h (quarter t.δ) (oF m ρ c t.i t.h) from by
        unfold lent
        rw [if_neg (show ¬t.slot.1 = .y from hy), show iv c t.slot.1 t.slot.2.1 = t.i from (act_of_eq c t hs).2]; rfl]
      iintro ⟨⟨#Hc, HO⟩, ⟨Ht, Hr⟩, Hb⟩ HK
      rw [show owe c (t :: l') + O = due c t.slot + (owe c l' + O) from by
        unfold owe; rw [List.map_cons, List.sum_cons, add_assoc]]
      iapply (sendO_step m ρ K c P Q t hy hs (owe c l' + O) W) $$ [HO Ht Hr Hb]
      · isplitr; · iexact Hc
        isplitl [HO]; · iexact HO
        isplitl [Ht]; · iexact Ht
        isplitl [Hr]; · iexact Hr
        iexact Hb
      iintro ⟨HO, Hs⟩
      iapply HK
      isplitl [HO]
      · isplitr; · iexact Hc
        iexact HO
      iexact Hs) P) $$ [HO Hl]
  · isplitl [HO]
    · isplitr; · iexact Hc
      iexact HO
    iexact Hl
  rw [show owe c [] + O = O from zero_add O]
  iintro ⟨⟨-, HO⟩, Hs⟩
  iapply HK
  isplitl [HO]; · iexact HO
  iexact Hs

/-- The claim on a slot's semaphore a device starts with: its first round, and the count it will be given. -/
def claim (b : Bool) (t : Xf) : sProp 𝕄 :=
  iprop(atPos ER (dCell c (semOf b t.slot)) 0 ∅ 0 ∗ cred (tallyAt (dCell c (semOf b t.slot)) () (amt t.i t.h)))
def zero (b : Bool) (t : Xf) : sProp 𝕄 := semVal (dCell c (semOf b t.slot)) 0

def yX (kh : Fin 2 × Fin 8) : Xf := ⟨.y, kh.1, own c kh.1, kh.2⟩

theorem chunk_step (Q : PUnit → sProp 𝕄) (kh : Fin 2 × Fin 8) (O : CellTallies nD τ sig Unit) (W : Waits sig Unit)
    (hO : ∀ g u, 0 < O g u → g.1.2 = .tc ∧ 2 < lv g u) :
    iprop(ctx m ρ K ∗ levAts L lv ∗ operands m ρ c ∗ owes (c : Thread nD τ) (owe c (oSendsOf c kh) + O) W
        ∗ claim c true (yX c kh) ∗ (∃ f, oPts c (own c kh.1) kh.2 fullShare f)
        ∗ bigSepL (oSendsOf c kh) fun t => iprop(toks c t ∗ room (nb t.δ c) t.slot.opp))
      ⊢ iprop((iprop(operands m ρ c ∗ (∃ W', owes (c : Thread nD τ) O W') ∗ zero c true (yX c kh)
            ∗ yPts c kh.1 (own c kh.1) kh.2 (yF m ρ c kh.1 (own c kh.1) kh.2) ∗ kept m ρ c kh ∗ bigSepL (oSendsOf c kh) (sent c)) -∗ Run c P Q)
          -∗ Run c (chunk c kh P) Q) := by
  unfold chunk claim zero
  iintro ⟨#Hc, #HL, Hop, HO, ⟨Hat, Hcr⟩, Ho, Hl⟩ HK
  have hOs : ∀ g u, 0 < (owe c (oSendsOf c kh) + O) g u → g.1.2 = .tc ∧ 2 < lv g u := by
    intro g u h
    rw [Pi.add_apply, Finsupp.add_apply] at h
    by_cases h0 : 0 < O g u
    · exact hO g u h0
    · obtain ⟨t, ht, rfl⟩ := owe_pos (show 0 < owe c (oSendsOf c kh) g u by omega)
      exact ⟨rfl, (lv_out c t (act_of_mem c t (.inr (List.mem_flatMap.mpr ⟨kh, mem_khs kh, ht⟩))) u).2 (oSendsOf_spec c kh t ht).1⟩
  ihave #HM := (mayWait c (.dma (semOf true (yX c kh).slot)) (owe c (oSendsOf c kh) + O) 2
    (by show (if IsY _ then 2 else _) ≤ 2; rw [if_pos (isY_in _ rfl)]) hOs) $$ HL
  iapply (wait_step m ρ K c _ Q true (yX c kh).slot (act_y c true kh.1 kh.2) (pC (own c kh.1) kh.2) (yC kh.1 (own c kh.1) kh.2)
    (View.wordExact_bits rfl) (View.wordExact_bits rfl) (by
      show _ = amt (rv c .y kh.1) kh.2; rw [rv_y]; rfl) (owe c (oSendsOf c kh) + O) W) $$ [Hat Hcr HO]
  · isplitr; · iexact Hc
    isplitl [Hcr]; · iexact Hcr
    isplitl [HO]; · iexact HO
    isplitr; · iexact HM
    iexact Hat
  rw [show payOf (F := F) m ρ (dCell c (semOf true (yX c kh).slot)) (true, (yX c kh).slot)
      = yPts c kh.1 (own c kh.1) kh.2 (yF m ρ c kh.1 (own c kh.1) kh.2) from by
    show landed m ρ c (.y, kh.1, kh.2) = _
    unfold landed; rw [if_pos rfl]; rw [show rv c (Dir.y, kh.1, kh.2).1 (Dir.y, kh.1, kh.2).2.1 = own c kh.1 from rv_y c kh.1]]
  iintro ⟨⟨%W', HO⟩, Hz, Hy⟩
  iapply (compute_step m ρ c _ Q kh.1 (own c kh.1) kh.2) $$ [Hop Hy Ho]
  · isplitl [Hop]; · iexact Hop
    isplitl [Hy]; · iexact Hy
    iexact Ho
  rw [chunk_shares m ρ c kh]
  iintro ⟨Hop, Hy, Hlent, Hkept⟩
  iapply (phase_sendO m ρ K c P Q kh O W') $$ [HO Hl Hlent]
  · rw [bigSepL_sep _ (fun t => iprop(toks c t ∗ room (nb t.δ c) t.slot.opp))]
    isplitr; · iexact Hc
    isplitl [HO]; · iexact HO
    isplitl [Hl]; · iexact Hl
    iexact Hlent
  iintro ⟨HO, Hs⟩
  iapply HK
  isplitl [Hop]; · iexact Hop
  isplitl [HO]; · iexists _; iexact HO
  isplitl [Hz]; · iexact Hz
  isplitl [Hy]; · iexact Hy
  isplitl [Hkept]; · iexact Hkept
  iexact Hs

/-- What a chunk needs, and what it leaves. -/
def chunkPre (kh : Fin 2 × Fin 8) : sProp 𝕄 :=
  iprop(claim c true (yX c kh) ∗ (∃ f, oPts c (own c kh.1) kh.2 fullShare f)
    ∗ bigSepL (oSendsOf c kh) fun t => iprop(toks c t ∗ room (nb t.δ c) t.slot.opp))
def chunkPost (kh : Fin 2 × Fin 8) : sProp 𝕄 :=
  iprop(zero c true (yX c kh) ∗ yPts c kh.1 (own c kh.1) kh.2 (yF m ρ c kh.1 (own c kh.1) kh.2) ∗ kept m ρ c kh ∗ bigSepL (oSendsOf c kh) (sent c))

theorem phase_chunks (Q : PUnit → sProp 𝕄) (l : List (Fin 2 × Fin 8)) (W : Waits sig Unit) :
    iprop(ctx m ρ K ∗ levAts L lv ∗ operands m ρ c ∗ owes (c : Thread nD τ) (owe c (l.flatMap (oSendsOf c))) W ∗ bigSepL l (chunkPre c))
      ⊢ iprop((iprop(operands m ρ c ∗ (∃ W', owes (c : Thread nD τ) 0 W') ∗ bigSepL l (chunkPost m ρ c)) -∗ Run c P Q)
          -∗ Run c (loop l (chunk c) P) Q) := by
  iintro ⟨#Hc, #HL, Hop, HO, Hl⟩ HK
  iapply (run_loop c Q (chunk c)
    (fun l => iprop(iprop(ctx m ρ K ∗ levAts L lv) ∗ operands m ρ c ∗ ∃ W', owes (c : Thread nD τ) (owe c (l.flatMap (oSendsOf c))) W'))
    (chunkPre c) (chunkPost m ρ c) l (fun kh _ l' P => by
      unfold chunkPre chunkPost
      iintro ⟨⟨⟨#Hc, #HL⟩, Hop, ⟨%W, HO⟩⟩, Hcl, Ho, Hl⟩ HK
      rw [List.flatMap_cons, owe_append]
      iapply (chunk_step m ρ K c P Q kh (owe c (l'.flatMap (oSendsOf c))) W (fun g u h => by
        obtain ⟨t, ht, rfl⟩ := owe_pos h
        obtain ⟨kh', -, ht⟩ := List.mem_flatMap.mp ht
        exact ⟨rfl, (lv_out c t (act_of_mem c t (.inr (List.mem_flatMap.mpr ⟨kh', mem_khs kh', ht⟩))) u).2 (oSendsOf_spec c kh' t ht).1⟩)) $$ [Hop HO Hcl Ho Hl]
      · isplitr; · iexact Hc
        isplitr; · iexact HL
        isplitl [Hop]; · iexact Hop
        isplitl [HO]; · iexact HO
        isplitl [Hcl]; · iexact Hcl
        isplitl [Ho]; · iexact Ho
        iexact Hl
      iintro ⟨Hop, HO, Hpost⟩
      iapply HK
      isplitl [Hop HO]
      · isplitr
        · isplitr; · iexact Hc
          iexact HL
        isplitl [Hop]; · iexact Hop
        iexact HO
      iexact Hpost) P) $$ [Hop HO Hl]
  · isplitl [Hop HO]
    · isplitr
      · isplitr; · iexact Hc
        iexact HL
      isplitl [Hop]; · iexact Hop
      iexists _; iexact HO
    iexact Hl
  rw [show owe c (([] : List (Fin 2 × Fin 8)).flatMap (oSendsOf c)) = 0 from rfl]
  iintro ⟨⟨-, Hop, HO⟩, Hs⟩
  iapply HK
  isplitl [Hop]; · iexact Hop
  isplitl [HO]; · iexact HO
  iexact Hs

/-- A wait that owes nothing. -/
theorem wait_last (Q : PUnit → sProp 𝕄) (b : Bool) (t : Xf) (ha : act c b t.slot = true) {sp sp' : Space} {sh₁ sh₂ : Shape} {e₁ e₂ : EltTy}
    (src : Memref sig .tc sp' sh₁ e₁) (dst : Memref sig .tc sp sh₂ e₂) (h₁ : src.view.WordExact) (h₂ : dst.view.WordExact)
    (hN : dst.view.dmaCredit = amt t.i t.h) (hA : amountOf (dCell c (semOf b t.slot)) (b, t.slot) = amt t.i t.h) :
    iprop(iprop(ctx m ρ K ∗ ∃ W, owes (c : Thread nD τ) 0 W) ∗ claim c b t)
      ⊢ iprop((iprop(iprop(ctx m ρ K ∗ ∃ W, owes (c : Thread nD τ) 0 W) ∗ zero c b t ∗ payOf m ρ (dCell c (semOf b t.slot)) (b, t.slot)) -∗ Run c P Q)
          -∗ Run c (.op (.waitDma2 (semOf b t.slot) src dst h₁ h₂) fun _ => P) Q) := by
  unfold claim zero
  iintro ⟨⟨#Hc, ⟨%W, HO⟩⟩, Hat, Hcr⟩ HK
  iapply (wait_step m ρ K c P Q b t.slot ha src dst h₁ h₂ (hN.trans hA.symm) 0 W) $$ [HO Hat Hcr]
  · isplitr; · iexact Hc
    isplitl [Hcr]; · rw [hN]; iexact Hcr
    isplitl [HO]; · iexact HO
    isplitr
    · rw [MayWait_zero]; iempintro
    iexact Hat
  iintro ⟨HO, Hz, Hp⟩
  iapply HK
  isplitl [HO]
  · isplitr; · iexact Hc
    iexact HO
  isplitl [Hz]; · iexact Hz
  iexact Hp

theorem phase_recvs (Q : PUnit → sProp 𝕄) :
    iprop(iprop(ctx m ρ K ∗ ∃ W, owes (c : Thread nD τ) 0 W) ∗ bigSepL (recvs c) (claim c true))
      ⊢ iprop((iprop(iprop(ctx m ρ K ∗ ∃ W, owes (c : Thread nD τ) 0 W) ∗ bigSepL (recvs c) fun t => iprop(zero c true t ∗ landed m ρ c t.slot)) -∗ Run c P Q)
          -∗ Run c (loop (recvs c) awaitO P) Q) :=
  run_loop c Q awaitO (fun _ => iprop(ctx m ρ K ∗ ∃ W, owes (c : Thread nD τ) 0 W)) (claim c true) _ (recvs c) (fun t ht l' P =>
    wait_last m ρ K c P Q true t (by show (rcv c t.δ t.k).isSome = true; rw [(recvs_spec c t ht).2]; rfl) (oC t.i t.h) (oC t.i t.h) (View.wordExact_bits rfl)
      (View.wordExact_bits rfl) rfl (by show amt ((rcv c t.δ t.k).getD 0) t.h = _; rw [(recvs_spec c t ht).2]; rfl)) P

theorem phase_doneY (Q : PUnit → sProp 𝕄) :
    iprop(iprop(ctx m ρ K ∗ ∃ W, owes (c : Thread nD τ) 0 W) ∗ bigSepL (ySends c) (claim c false))
      ⊢ iprop((iprop(iprop(ctx m ρ K ∗ ∃ W, owes (c : Thread nD τ) 0 W) ∗ bigSepL (ySends c) fun t => iprop(zero c false t ∗ lent m ρ c t.slot)) -∗ Run c P Q)
          -∗ Run c (loop (ySends c) doneY P) Q) :=
  run_loop c Q doneY (fun _ => iprop(ctx m ρ K ∗ ∃ W, owes (c : Thread nD τ) 0 W)) (claim c false) _ (ySends c) (fun t ht l' P =>
    wait_last m ρ K c P Q false t (act_of_mem c t (.inl ht)) (yC t.k t.i t.h) (pC t.i t.h) (View.wordExact_bits rfl)
      (View.wordExact_bits rfl) rfl (by
        show amt ((snd c t.δ t.k).getD 0) t.h = _
        obtain ⟨h1, h2⟩ := ySends_spec c t ht
        rw [h1, h2, snd_y]; rfl)) P

theorem phase_doneO (Q : PUnit → sProp 𝕄) :
    iprop(iprop(ctx m ρ K ∗ ∃ W, owes (c : Thread nD τ) 0 W) ∗ bigSepL (oSends c) (claim c false))
      ⊢ iprop((iprop(iprop(ctx m ρ K ∗ ∃ W, owes (c : Thread nD τ) 0 W) ∗ bigSepL (oSends c) fun t => iprop(zero c false t ∗ lent m ρ c t.slot)) -∗ Run c P Q)
          -∗ Run c (loop (oSends c) doneO P) Q) :=
  run_loop c Q doneO (fun _ => iprop(ctx m ρ K ∗ ∃ W, owes (c : Thread nD τ) 0 W)) (claim c false) _ (oSends c) (fun t ht l' P =>
    wait_last m ρ K c P Q false t (act_of_mem c t (.inr ht)) (oC t.i t.h) (oC t.i t.h) (View.wordExact_bits rfl)
      (View.wordExact_bits rfl) rfl (by show amt ((snd c t.δ t.k).getD 0) t.h = _; rw [(oSends_spec c t ht).2]; rfl)) P

end Phases

/-! ## The whole body -/

/-- What the barrier's signals need; what the sends to the partner need, apart from the rooms; -/
def sigPre (δ : Dir) : sProp 𝕄 := iprop(dutyTok ER (barCell (nb δ c)) 0 ((false, (δ.opp, 0, 0)) : Duty) ∗ inbox c δ)
/-- an own chunk's start. -/
def ownPre (kh : Fin 2 × Fin 8) : sProp 𝕄 := iprop(claim c true (yX c kh) ∗ ∃ f, oPts c (own c kh.1) kh.2 fullShare f)

/-- A device at its body's start, every list in the order of the loops. -/
def start : sProp 𝕄 :=
  iprop(operands m ρ c ∗ iprop(cred (tallyAt (barCell c) () (nDirs c)) ∗ atPos ER (barCell c) 0 ∅ 0) ∗ bigSepL (dirs c) (sigPre c)
    ∗ bigSepL (ySends c) (fun t => iprop(toks c t ∗ lent m ρ c t.slot)) ∗ bigSepL (oSends c) (toks c)
    ∗ bigSepL khs (ownPre c) ∗ bigSepL (recvs c) (claim c true)
    ∗ bigSepL (ySends c) (fun t => atPos ER (dCell c (semOf false t.slot)) 0 ∅ 0) ∗ bigSepL (oSends c) (fun t => atPos ER (dCell c (semOf false t.slot)) 0 ∅ 0))

/-- A device at its body's end. -/
def stop : sProp 𝕄 :=
  iprop(operands m ρ c ∗ semVal (barCell c) 0
    ∗ bigSepL khs (fun kh => iprop(zero c true (yX c kh) ∗ yPts c kh.1 (own c kh.1) kh.2 (yF m ρ c kh.1 (own c kh.1) kh.2) ∗ kept m ρ c kh))
    ∗ bigSepL (recvs c) (fun t => iprop(zero c true t ∗ landed m ρ c t.slot))
    ∗ bigSepL (ySends c) (fun t => iprop(zero c false t ∗ lent m ρ c t.slot))
    ∗ bigSepL (oSends c) (fun t => iprop(zero c false t ∗ lent m ρ c t.slot)))

/-- The rooms of the neighbours, once their signals have come, are the rooms of the sends. -/
theorem rooms_out : bigSep (Finset.univ.filter fun δ => has c δ = true) (fun δ => inbox (F := F) (nb δ c) δ.opp)
    ⊢ iprop(bigSepL (ySends c) (fun t => room (nb t.δ c) t.slot.opp) ∗ bigSepL (oSends c) (fun t => room (nb t.δ c) t.slot.opp)) := by
  have e (δ : Dir) : inbox (F := F) (nb δ c) δ.opp = bigSep ((slots c false).filter fun s => s.1 = δ) fun s => room (nb s.1 c) s.opp := by
    unfold inbox
    have hinj : Function.Injective Slot.opp := fun a b h => by
      have := congrArg Slot.opp h
      simpa only [Slot.opp, Dir.opp_opp] using this
    rw [show (slots (nb δ c) true).filter (fun s => s.1 = δ.opp) = ((slots c false).filter fun s => s.1 = δ).map ⟨Slot.opp, hinj⟩ from ?_, bigSep_map]
    · refine bigSep_congr fun s hs => ?_
      rw [(Finset.mem_filter.mp hs).2]; rfl
    · ext s
      simp only [Finset.mem_filter, Finset.mem_map, Function.Embedding.coeFn_mk, slots, Finset.mem_univ, _root_.true_and]
      constructor
      · rintro ⟨h1, h2⟩
        refine ⟨s.opp, ⟨?_, by show s.1.opp = δ; rw [h2, Dir.opp_opp]⟩, by simp only [Slot.opp, Dir.opp_opp]⟩
        rw [← act_opp, show s.opp.opp = s by simp only [Slot.opp, Dir.opp_opp], show s.opp.1 = δ by show s.1.opp = δ; rw [h2, Dir.opp_opp]]
        exact h1
      · rintro ⟨t, ⟨h1, h2⟩, rfl⟩
        refine ⟨?_, by show t.1.opp = _; rw [h2]⟩
        rw [← h2, act_opp]; exact h1
  have hl := outs_list c
  rw [bigSep_congr fun δ _ => e δ]
  refine (bigSep_biUnion _ _).trans ?_
  rw [show (Finset.univ.filter fun δ => has c δ = true).biUnion (fun δ => (slots c false).filter fun s => s.1 = δ) = slots c false from ?_]
  · rw [bigSep_eq_bigSepL_of_eq _ hl.2.symm hl.1, List.map_append, bigSepL_append, bigSepL_map, bigSepL_map]
    exact BI.Entails.refl _
  · ext s
    simp only [Finset.mem_biUnion, Finset.mem_filter, Finset.mem_univ, _root_.true_and]
    constructor
    · rintro ⟨δ, -, h, -⟩; exact h
    · intro h
      exact ⟨s.1, act_has c s (Finset.mem_filter.mp h).2, h, rfl⟩

theorem chunkPosts_eq : bigSepL khs (chunkPost (F := F) m ρ c) = iprop(bigSepL khs (fun kh => iprop(zero c true (yX c kh)
      ∗ yPts c kh.1 (own c kh.1) kh.2 (yF m ρ c kh.1 (own c kh.1) kh.2) ∗ kept m ρ c kh)) ∗ bigSepL (oSends c) (sent c)) := by
  unfold oSends
  rw [bigSepL_flatMap, ← bigSepL_sep]
  refine bigSepL_congr khs fun kh _ => ?_
  unfold chunkPost
  refine eq_of_both ?_ ?_
  · iintro ⟨H1, H2, H3, H4⟩
    isplitl [H1 H2 H3]
    · isplitl [H1]; · iexact H1
      isplitl [H2]; · iexact H2
      iexact H3
    iexact H4
  · iintro ⟨⟨H1, H2, H3⟩, H4⟩
    isplitl [H1]; · iexact H1
    isplitl [H2]; · iexact H2
    isplitl [H3]; · iexact H3
    iexact H4

theorem body_run (Q : PUnit → sProp 𝕄) (W : Waits sig Unit) :
    iprop(ctx m ρ K ∗ levAts L lv ∗ owes (c : Thread nD τ) (O₀ c) W ∗ start m ρ c)
      ⊢ iprop((iprop((∃ W', owes (c : Thread nD τ) 0 W') ∗ stop m ρ c) -∗ Q ⟨⟩) -∗ Run c (body c) Q) := by
  unfold start body
  iintro ⟨#Hc, #HL, HO, Hop, ⟨Hcr, Hbat⟩, Hsig, Hys, Hos, Hown, Hrec, Hya, Hoa⟩ HK
  unfold O₀
  iapply (phase_signals m ρ K c _ Q (dirs c) (fun δ h => (List.mem_filter.mp h).2) (owe c (ySends c) + owe c (oSends c)) W) $$ [HO Hsig]
  · isplitr; · iexact Hc
    isplitl [HO]; · iexact HO
    iexact Hsig
  iintro HO
  ihave #HM := (mayWait c (.reg barS) (owe c (ySends c) + owe c (oSends c)) 1 (le_refl 1) (by
    intro g u h
    rw [Pi.add_apply, Finsupp.add_apply] at h
    rcases (show 0 < owe c (ySends c) g u ∨ 0 < owe c (oSends c) g u by omega) with h | h
    · obtain ⟨t, ht, rfl⟩ := owe_pos h
      exact ⟨rfl, (lv_out c t (act_of_mem c t (.inl ht)) u).1⟩
    · obtain ⟨t, ht, rfl⟩ := owe_pos h
      exact ⟨rfl, (lv_out c t (act_of_mem c t (.inr ht)) u).1⟩)) $$ HL
  iapply (await_step m ρ K c _ Q (owe c (ySends c) + owe c (oSends c)) W) $$ [HO Hcr Hbat]
  · isplitr; · iexact Hc
    isplitl [Hcr]; · iexact Hcr
    isplitl [HO]; · iexact HO
    isplitr; · iexact HM
    iexact Hbat
  iintro ⟨⟨%W₁, HO⟩, Hbar, Hin⟩
  ihave ⟨Hyr, Hor⟩ := (rooms_out c) $$ Hin
  ihave ⟨Hyt, Hyl⟩ := (Entails.of_eq (bigSepL_sep (ySends c) (toks c) (fun t => lent m ρ c t.slot))) $$ Hys
  iapply (phase_sendY m ρ K c _ Q (ySends c) (fun _ h => h) (owe c (oSends c)) W₁) $$ [HO Hyr Hyt Hyl]
  · rw [bigSepL_sep (ySends c) (toks c) (fun t => iprop(room (nb t.δ c) t.slot.opp ∗ lent m ρ c t.slot)),
      bigSepL_sep (ySends c) (fun t => room (nb t.δ c) t.slot.opp) (fun t => lent m ρ c t.slot)]
    isplitr; · iexact Hc
    isplitl [HO]; · iexact HO
    isplitl [Hyt]; · iexact Hyt
    isplitl [Hyr]; · iexact Hyr
    iexact Hyl
  iintro ⟨HO, Hysent⟩
  iapply (phase_chunks m ρ K c _ Q khs W₁) $$ [HO Hop Hown Hos Hor]
  · rw [show bigSepL khs (chunkPre (F := F) c) = iprop(bigSepL khs (ownPre c) ∗ bigSepL (oSends c) (toks c)
        ∗ bigSepL (oSends c) fun t => room (nb t.δ c) t.slot.opp) from ?_]
    · isplitr; · iexact Hc
      isplitr; · iexact HL
      isplitl [Hop]; · iexact Hop
      isplitl [HO]; · iexact HO
      isplitl [Hown]; · iexact Hown
      isplitl [Hos]; · iexact Hos
      iexact Hor
    · unfold oSends
      rw [← bigSepL_sep, bigSepL_flatMap, ← bigSepL_sep]
      refine bigSepL_congr khs fun kh _ => ?_
      unfold chunkPre ownPre
      refine eq_of_both ?_ ?_
      · iintro ⟨H1, H2, H3⟩
        isplitl [H1 H2]
        · isplitl [H1]; · iexact H1
          iexact H2
        iexact H3
      · iintro ⟨⟨H1, H2⟩, H3⟩
        isplitl [H1]; · iexact H1
        isplitl [H2]; · iexact H2
        iexact H3
  iintro ⟨Hop, HO, Hpost⟩
  ihave ⟨Hown, Hosent⟩ := (Entails.of_eq (chunkPosts_eq m ρ c)) $$ Hpost
  iapply (phase_recvs m ρ K c _ Q) $$ [HO Hrec]
  · isplitl [HO]
    · isplitr; · iexact Hc
      iexact HO
    iexact Hrec
  iintro ⟨⟨-, HO⟩, Hrec⟩
  iapply (phase_doneY m ρ K c _ Q) $$ [HO Hya Hysent]
  · isplitl [HO]
    · isplitr; · iexact Hc
      iexact HO
    unfold claim
    rw [bigSepL_sep]
    isplitl [Hya]; · iexact Hya
    iexact Hysent
  iintro ⟨⟨-, HO⟩, Hys⟩
  iapply (phase_doneO m ρ K c _ Q) $$ [HO Hoa Hosent]
  · isplitl [HO]
    · isplitr; · iexact Hc
      iexact HO
    unfold claim
    rw [bigSepL_sep]
    isplitl [Hoa]; · iexact Hoa
    iexact Hosent
  iintro ⟨⟨-, HO⟩, Hos⟩
  unfold Run; rw [wp_ret]
  imodintro
  iapply HK
  isplitl [HO]; · iexact HO
  unfold stop
  isplitl [Hop]; · iexact Hop
  isplitl [Hbar]; · iexact Hbar
  isplitl [Hown]; · iexact Hown
  isplitl [Hrec]; · iexact Hrec
  isplitl [Hys]; · iexact Hys
  iexact Hos

end Cert.KernelIdeal.Gather
-- ==== Proof.Whole.lean ====
/-
# Whole buffers and their chunks

The operands, the landing buffer and the result, cut in chunks at the body's start and joined again at its end.
-/
module

public import proofs.«01_k».proof.Proof.Body

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The chunks' cells -/

omit [FloatOps F] in
theorem oSet_disjoint (a b : IH) (h : a ≠ b) : Disjoint (oC a.1 a.2).view.set (oC b.1 b.2).view.set := by
  rw [View.set_slice, View.set_slice]; exact (Finset.disjoint_map _).mpr (oR_disjoint a b h)
theorem pSet_disjoint (a b : IH) (h : a ≠ b) : Disjoint (pC a.1 a.2).view.set (pC b.1 b.2).view.set := by
  rw [View.set_slice, View.set_slice]; exact (Finset.disjoint_map _).mpr (oR_disjoint a b h)
theorem ySet_disjoint (a b : Fin 2 × Fin 8) (h : a ≠ b) :
    Disjoint (yC a.1 (own c a.1) a.2).view.set (yC b.1 (own c b.1) b.2).view.set := by
  rw [View.set_slice, View.set_slice]; exact (Finset.disjoint_map _).mpr (yR_disjoint c a b h)

theorem mem_oSet (a : IH) (x : S1024x1024.Idx) : x ∈ (oC a.1 a.2).view.set ↔ cLo a.1 a.2 ≤ (x 0).val ∧ (x 0).val < cLo a.1 a.2 + cN a.1 a.2 := by
  rw [View.set_slice, ← mem_rowsR (cLo_le a.1 a.2) x]
  constructor
  · intro h
    obtain ⟨y, hy, e⟩ := Finset.mem_map.mp h
    have e : y = x := e
    rw [← e]; exact hy
  · intro h; exact Finset.mem_map.mpr ⟨x, h, rfl⟩

def oSet (a : IH) : Finset S1024x1024.Idx := (oC a.1 a.2).view.set

theorem oSet_cover : Finset.univ.biUnion oSet = Finset.univ := by
  refine Finset.eq_univ_iff_forall.mpr fun x => ?_
  obtain ⟨a, ha⟩ := row_chunk (x 0)
  exact Finset.mem_biUnion.mpr ⟨a, Finset.mem_univ _, (mem_oSet a x).mpr ha⟩

/-! ## The result array -/

/-- The chunk a row lies in, -/
def rowOf (r : Fin 1024) : IH := (row_chunk r).choose
theorem rowOf_eq (a : IH) (r : Fin 1024) (h : cLo a.1 a.2 ≤ r.val) (h' : r.val < cLo a.1 a.2 + cN a.1 a.2) : rowOf r = a := by
  by_contra hne
  have h1 := (row_chunk r).choose_spec
  have h2 := cLo_sep (rowOf r) a hne
  unfold rowOf at h2
  omega

/-- and the device that computes the interval for device `c`: itself or a neighbour. -/
def srcOf (i : Fin 5) : Dev nD := ((dks.find? fun dk => rcv c dk.1 dk.2 == some i).map fun dk => nb dk.1 c).getD c
theorem srcOf_own (k : Fin 2) : srcOf c (own c k) = c := by revert c k; decide
theorem srcOf_rcv (δ : Dir) (k : Fin 2) (i : Fin 5) (hy : δ ≠ .y) (h : rcv c δ k = some i) : srcOf c i = nb δ c := by
  revert c δ k i; decide

/-- The whole result on device `c`. -/
def outB : (cc0_stg3_0 : Ref sig .tc).ty.Contents (Elt F) := fun x =>
  oF m ρ (srcOf c (rowOf (x 0)).1) (rowOf (x 0)).1 (rowOf (x 0)).2 x

theorem oPts_outB (a : IH) : oPts c a.1 a.2 fullShare (oF m ρ (srcOf c a.1) a.1 a.2) = oPts c a.1 a.2 fullShare (outB m ρ c) := by
  unfold oPts
  refine pointsTo_congr fun x hx => ?_
  have hx := (mem_oSet a x).mp hx
  have e : rowOf ((show S1024x1024.Idx from x) 0) = a := rowOf_eq a _ hx.1 hx.2
  unfold outB
  rw [e]

theorem oWhole (f : (cc0_stg3_0 : Ref sig .tc).ty.Contents (Elt F)) :
    (((c : Thread nD τ).loc cc0_stg3_0 ↦{fullShare} f) : sProp 𝕄)
      = bigSepL (ySends c ++ recvs c) fun t => oPts c t.i t.h fullShare f := by
  have h := pointsTo_biUnion (Ix := Unit) (Name := ℕ) (U := UU) (Lvl := ℕ) (ℓ := (c : Thread nD τ).loc cc0_stg3_0) (q := fullShare) (f := f)
    Finset.univ oSet (fun a _ b _ h => oSet_disjoint a b h)
  rw [oSet_cover] at h
  rw [h, bigSep_eq_bigSepL_of_eq _ (all_list c).2.symm (all_list c).1, bigSepL_map]
  rfl

/-- Own chunks computed and the others received: the whole result. -/
theorem out_join :
    iprop(bigSepL (ySends c) (fun t => oPts c t.i t.h fullShare (oF m ρ c t.i t.h)) ∗ bigSepL (recvs c) (fun t => landed m ρ c t.slot))
      = (((c : Thread nD τ).loc cc0_stg3_0 ↦{fullShare} outB m ρ c) : sProp 𝕄) := by
  rw [oWhole, bigSepL_append]
  congr 1
  · refine bigSepL_congr _ fun t ht => ?_
    rw [← oPts_outB m ρ c (t.i, t.h)]
    show _ = oPts c t.i t.h fullShare (oF m ρ (srcOf c t.i) t.i t.h)
    rw [show srcOf c t.i = c from by rw [(ySends_spec c t ht).2, srcOf_own]]
  · refine bigSepL_congr _ fun t ht => ?_
    obtain ⟨hy, hr⟩ := recvs_spec c t ht
    rw [← oPts_outB m ρ c (t.i, t.h)]
    show _ = oPts c t.i t.h fullShare (oF m ρ (srcOf c t.i) t.i t.h)
    rw [srcOf_rcv c t.δ t.k t.i hy hr]
    unfold landed
    rw [if_neg (show ¬t.slot.1 = .y from hy), show rv c t.slot.1 t.slot.2.1 = t.i from by
      show (rcv c t.δ t.k).getD 0 = _; rw [hr]; rfl]
    rfl

/-! ## The landing buffer -/

def ySet : Finset S416x1024.Idx := Finset.univ.biUnion fun kh : Fin 2 × Fin 8 => (yC kh.1 (own c kh.1) kh.2).view.set

/-- The rest of the landing buffer: the rows no chunk takes. -/
def yRest (f : (cc0_scratch0 : Ref sig .tc).ty.Contents (Elt F)) : sProp 𝕄 :=
  (c : Thread nD τ).loc cc0_scratch0 ↦[Finset.univ \ ySet c]{fullShare} f

omit [FloatOps F] in
theorem khs_univ (Φ : Fin 2 × Fin 8 → sProp 𝕄) : bigSep Finset.univ Φ = bigSepL khs Φ :=
  bigSep_univ_eq_bigSepL khs (by decide) (by decide) Φ

theorem y_split (f : (cc0_scratch0 : Ref sig .tc).ty.Contents (Elt F)) :
    (((c : Thread nD τ).loc cc0_scratch0 ↦{fullShare} f) : sProp 𝕄)
      ⊢ iprop(bigSepL khs (fun kh => yPts c kh.1 (own c kh.1) kh.2 f) ∗ yRest c f) := by
  refine (pointsTo_split_subset (Finset.subset_univ (ySet c))).1.trans ?_
  unfold yRest
  refine sep_mono_left (Entails.of_eq ?_)
  rw [← khs_univ]
  exact pointsTo_biUnion Finset.univ _ fun a _ b _ h => ySet_disjoint c a b h

theorem y_join (fs : Fin 2 × Fin 8 → (cc0_scratch0 : Ref sig .tc).ty.Contents (Elt F)) (f : (cc0_scratch0 : Ref sig .tc).ty.Contents (Elt F)) :
    iprop(bigSepL khs (fun kh => yPts c kh.1 (own c kh.1) kh.2 (fs kh)) ∗ yRest c f)
      ⊢ iprop(∃ g, (((c : Thread nD τ).loc cc0_scratch0 ↦{fullShare} g) : sProp 𝕄)) := by
  rw [← khs_univ]
  unfold yRest
  show iprop((bigSep Finset.univ fun kh : Fin 2 × Fin 8 => ((c : Thread nD τ).loc cc0_scratch0 ↦[(yC kh.1 (own c kh.1) kh.2).view.set]{fullShare} fs kh)) ∗ _) ⊢ _
  iintro ⟨H, Hr⟩
  ihave H := (pointsTo_biUnion_join (Ix := Unit) (Name := ℕ) (U := UU) (Lvl := ℕ) (ℓ := (c : Thread nD τ).loc cc0_scratch0) (q := fullShare) Finset.univ
    (fun kh : Fin 2 × Fin 8 => (yC kh.1 (own c kh.1) kh.2).view.set) fs f fun a _ b _ h => ySet_disjoint c a b h) $$ H
  icases H with ⟨%g, -, H⟩
  iexists _
  iapply (pointsTo_join_subset (Finset.subset_univ (ySet c)))
  isplitl [H]; · iexact H
  iexact Hr

/-! ## The rows lent to the sends -/

def pSet : Finset S1x1024x1024.Idx := Finset.univ.biUnion fun kh : Fin 2 × Fin 8 => (pC (own c kh.1) kh.2).view.set

def pRest : sProp 𝕄 := (c : Thread nD τ).loc cc0_stg0_0 ↦[Finset.univ \ pSet c]{fullShare.right} pBuf m ρ c

theorem lentY : bigSepL (ySends c) (fun t => lent m ρ c t.slot) = bigSepL khs (fun kh => pPts m ρ c (own c kh.1) kh.2) := by
  unfold ySends
  rw [bigSepL_map]
  refine bigSepL_congr khs fun kh _ => ?_
  unfold lent
  rw [if_pos (by rfl)]
  show pPts m ρ c (iv c .y kh.1) kh.2 = _
  rw [iv_y]

theorem p_split : (((c : Thread nD τ).loc cc0_stg0_0 ↦{fullShare} pBuf m ρ c) : sProp 𝕄)
    = iprop(((c : Thread nD τ).loc cc0_stg0_0 ↦{fullShare.left} pBuf m ρ c) ∗ bigSepL (ySends c) (fun t => lent m ρ c t.slot) ∗ pRest m ρ c) := by
  have h1 := pointsTo_share (Ix := Unit) (Name := ℕ) (U := UU) (Lvl := ℕ) (ℓ := (c : Thread nD τ).loc cc0_stg0_0) (I := Finset.univ) (f := pBuf m ρ c)
    (PosShare.mem_left_op_right fullShare)
  have h2 := pointsTo_split_subset (Ix := Unit) (Name := ℕ) (U := UU) (Lvl := ℕ) (ℓ := (c : Thread nD τ).loc cc0_stg0_0) (q := fullShare.right) (f := pBuf m ρ c)
    (Finset.subset_univ (pSet c))
  have h3 : (((c : Thread nD τ).loc cc0_stg0_0 ↦[pSet c]{fullShare.right} pBuf m ρ c) : sProp 𝕄) = bigSepL (ySends c) (fun t => lent m ρ c t.slot) := by
    rw [lentY, ← khs_univ]
    exact pointsTo_biUnion Finset.univ _ fun a _ b _ h => pSet_disjoint (own c a.1, a.2) (own c b.1, b.2) fun e => h (Prod.ext (own_inj c _ _ (congrArg (fun x : IH => x.1) e)) (show a.2 = b.2 from congrArg (fun x : IH => x.2) e))
  rw [eq_of_both h1.1 h1.2, eq_of_both h2.1 h2.2, h3]
  unfold pRest
  rfl

/-! ## The rooms for what comes in -/

omit [FloatOps F] in
/-- A set of resources by their fibres. -/
theorem bigSep_fibres {α β : Type} [DecidableEq α] [DecidableEq β] (S : Finset α) (g : α → β) (T : Finset β) (Φ : α → sProp 𝕄) :
    bigSep (S.filter fun a => g a ∈ T) Φ = bigSep T fun b => bigSep (S.filter fun a => g a = b) Φ := by
  induction T using Finset.induction_on with
  | empty => rw [bigSep_empty, Finset.filter_false_of_mem (fun a _ h => absurd h (Finset.notMem_empty _)), bigSep_empty]
  | insert b T hb ih =>
    rw [bigSep_insert hb, ← ih, ← bigSep_union]
    · congr 1
      ext a
      simp only [Finset.mem_filter, Finset.mem_insert, Finset.mem_union]
      tauto
    · refine Finset.disjoint_left.mpr fun a h h' => hb ?_
      rw [← (Finset.mem_filter.mp h).2]; exact (Finset.mem_filter.mp h').2

theorem dirs_nodup : (dirs c).Nodup := by revert c; decide

theorem inboxes : iprop(bigSepL (ySends c) (fun t => room (F := F) c t.slot) ∗ bigSepL (recvs c) (fun t => room c t.slot)) ⊢ bigSepL (dirs c) (inbox c) := by
  have hl := ins_list c
  have e : iprop(bigSepL (ySends c) (fun t => room (F := F) c t.slot) ∗ bigSepL (recvs c) (fun t => room c t.slot)) = bigSep (slots c true) (room c) := by
    rw [bigSep_eq_bigSepL_of_eq _ hl.2.symm hl.1, List.map_append, bigSepL_append, bigSepL_map, bigSepL_map]
  have hd := dirs_nodup c
  have hs := bigSep_fibres (slots c true) (fun s : Slot => s.1) Finset.univ (room (F := F) c)
  rw [Finset.filter_true_of_mem fun _ _ => Finset.mem_univ _] at hs
  rw [e, hs]
  refine (bigSep_subset (Finset.subset_univ (dirs c).toFinset)).trans ?_
  rw [bigSep_eq_bigSepL _ hd]
  exact BI.Entails.refl _

theorem yRooms (f : (cc0_scratch0 : Ref sig .tc).ty.Contents (Elt F)) :
    bigSepL khs (fun kh => yPts c kh.1 (own c kh.1) kh.2 f) ⊢ bigSepL (ySends c) (fun t => room (F := F) c t.slot) := by
  unfold ySends
  rw [bigSepL_map]
  refine bigSepL_mono fun kh _ => ?_
  unfold room
  rw [if_pos (by rfl)]
  show _ ⊢ iprop(∃ f, yPts c kh.1 (rv c .y kh.1) kh.2 f)
  rw [rv_y]
  iintro H; iexists f; iexact H

theorem oRooms (f : (cc0_stg3_0 : Ref sig .tc).ty.Contents (Elt F)) :
    bigSepL (recvs c) (fun t => oPts c t.i t.h fullShare f) ⊢ bigSepL (recvs c) (fun t => room (F := F) c t.slot) := by
  refine bigSepL_mono fun t ht => ?_
  obtain ⟨hy, hr⟩ := recvs_spec c t ht
  unfold room
  rw [if_neg (show ¬t.slot.1 = .y from hy), show rv c t.slot.1 t.slot.2.1 = t.i from by show (rcv c t.δ t.k).getD 0 = _; rw [hr]; rfl]
  iintro H; iexists f; iexact H

end Cert.KernelIdeal.Gather
-- ==== Proof.Ghost.lean ====
/-
# What the launch deals

The tokens of the duties, dealt to the devices that pay them; the counts that the neighbours' debts put on a device's
semaphores; and the semaphores a device uses among all.
-/
module

public import proofs.«01_k».proof.Proof.Whole

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Listed slots -/

omit [FloatOps F] in
theorem outs_bigSep (c : Dev nD) (Φ : Slot → sProp 𝕄) :
    bigSep (slots c false) Φ = iprop(bigSepL (ySends c) (fun t => Φ t.slot) ∗ bigSepL (oSends c) fun t => Φ t.slot) := by
  have hl := outs_list c
  rw [bigSep_eq_bigSepL_of_eq _ hl.2.symm hl.1, List.map_append, bigSepL_append, bigSepL_map, bigSepL_map]

/-! ## The semaphores in use -/

theorem dsem_injective : Function.Injective dsem := fun a b h => by
  have h2 : 4 + a.val = 4 + b.val := congrArg Fin.val h
  exact Fin.ext (by omega)

def dSems : Finset (DmaSem sig) := Finset.univ.map ⟨dsem, dsem_injective⟩
def spare (c : Dev nD) : Finset (DmaSem sig) := dSems \ (sems c).toFinset

theorem sems_sub (c : Dev nD) : (sems c).toFinset ⊆ dSems := by
  intro n hn
  have hn := List.mem_toFinset.mp hn
  have : ∃ b s, n = semOf b s := by
    unfold sems at hn
    rw [List.mem_append, List.mem_append, List.mem_append] at hn
    rcases hn with h | h | h | h <;> obtain ⟨t, -, e⟩ := List.mem_map.mp h <;> exact ⟨_, _, e.symm⟩
  obtain ⟨b, s, rfl⟩ := this
  obtain ⟨j, hj⟩ := dsem_of (semOf b s) (semOf_ge b s)
  exact Finset.mem_map.mpr ⟨j, Finset.mem_univ _, hj⟩

theorem mem_sems (c : Dev nD) (b : Bool) (s : Slot) (h : act c b s = true) : semOf b s ∈ sems c := by
  have hs : s ∈ slots c b := Finset.mem_filter.mpr ⟨Finset.mem_univ _, h⟩
  unfold sems
  simp only [List.mem_append]
  cases b
  · rw [← (outs_list c).2, List.mem_toFinset] at hs
    obtain ⟨t, ht, rfl⟩ := List.mem_map.mp hs
    rcases List.mem_append.mp ht with ht | ht
    · exact .inr (.inr (.inl (List.mem_map.mpr ⟨t, ht, rfl⟩)))
    · exact .inr (.inr (.inr (List.mem_map.mpr ⟨t, ht, rfl⟩)))
  · rw [← (ins_list c).2, List.mem_toFinset] at hs
    obtain ⟨t, ht, rfl⟩ := List.mem_map.mp hs
    rcases List.mem_append.mp ht with ht | ht
    · exact .inl (List.mem_map.mpr ⟨t, ht, rfl⟩)
    · exact .inr (.inl (List.mem_map.mpr ⟨t, ht, rfl⟩))

/-- A spare semaphore has no duty. -/
theorem duties_spare (c : Dev nD) (n : DmaSem sig) (h : n ∈ spare c) : ∀ r, 0 ≤ r → (rd (F := F) m ρ).duties (dCell c n) r = ∅ := by
  intro r _
  rcases Nat.eq_zero_or_pos r with rfl | hr
  · rw [duties_zero, dutiesOf_dma, Finset.filter_eq_empty_iff]
    rintro ⟨b, s⟩ - ⟨rfl, ha⟩
    exact (Finset.mem_sdiff.mp h).2 (List.mem_toFinset.mpr (mem_sems c b s ha))
  · exact duties_later m ρ _ r hr

/-- A resource of every cell of a device: the barrier's and the others'. -/
theorem cells_split (c : Dev nD) (Φ : GSem nD τ sig → sProp 𝕄) :
    bigSep Finset.univ (fun k : Cx => Φ (kcell (c, k))) = iprop(Φ (barCell c) ∗ bigSep dSems fun n => Φ (dCell c n)) := by
  rw [bigSep_univ_split none, show (Finset.univ.erase (none : Cx)) = Finset.univ.map Function.Embedding.some from ?_, bigSep_map]
  · unfold dSems; rw [bigSep_map]; rfl
  · ext k
    cases k <;> simp

/-- The others: the used ones in the loops' order and the spare ones. -/
theorem cells_list (c : Dev nD) (Φ : GSem nD τ sig → sProp 𝕄) :
    bigSep Finset.univ (fun k : Cx => Φ (kcell (c, k)))
      = iprop(Φ (barCell c) ∗ iprop(bigSepL (ySends c) (fun t => Φ (dCell c (semOf true t.slot))) ∗ bigSepL (recvs c) (fun t => Φ (dCell c (semOf true t.slot)))
          ∗ bigSepL (ySends c) (fun t => Φ (dCell c (semOf false t.slot))) ∗ bigSepL (oSends c) (fun t => Φ (dCell c (semOf false t.slot))))
        ∗ bigSep (spare c) fun n => Φ (dCell c n)) := by
  rw [cells_split, bigSep_sdiff_split (sems_sub c), bigSep_eq_bigSepL _ (sems_nodup c)]
  unfold sems
  rw [bigSepL_append, bigSepL_append, bigSepL_append, bigSepL_map, bigSepL_map, bigSepL_map, bigSepL_map]
  rfl

/-! ## The duty tokens -/

abbrev Tx : Type := Dir ⊕ (Bool × Slot)
def tokOf (cj : Dev nD × Tx) : GSem nD τ sig × ℕ × Duty := match cj.2 with
  | .inl δ => (barCell cj.1, 0, (false, (δ, 0, 0)))
  | .inr d => (dCell cj.1 (semOf d.1 d.2), 0, d)

theorem tokOf_injective : Function.Injective tokOf := by
  rintro ⟨c, j⟩ ⟨c', j'⟩ h
  rcases j with δ | d <;> rcases j' with δ' | d'
  · have h1 : c = c' := congrArg (fun x : GSem nD τ sig × ℕ × Duty => x.1.1.1) h
    have h2 : δ = δ' := congrArg (fun x : GSem nD τ sig × ℕ × Duty => x.2.2.2.1) h
    rw [h1, h2]
  · have h0 : (SemLoc.reg barS : SemLoc sig) = .dma _ := congrArg (fun x : GSem nD τ sig × ℕ × Duty => x.1.2) h
    cases h0
  · have h0 : (SemLoc.dma _ : SemLoc sig) = .reg barS := congrArg (fun x : GSem nD τ sig × ℕ × Duty => x.1.2) h
    cases h0
  · have h1 : c = c' := congrArg (fun x : GSem nD τ sig × ℕ × Duty => x.1.1.1) h
    have h2 : d = d' := congrArg (fun x : GSem nD τ sig × ℕ × Duty => x.2.2) h
    rw [h1, h2]
def ringToks : Finset (GSem nD τ sig × ℕ × Duty) := Finset.univ.map ⟨tokOf, tokOf_injective⟩

/-- The tokens of a device's own cells, -/
def mint (c : Dev nD) : sProp 𝕄 :=
  iprop((bigSep Finset.univ fun δ : Dir => dutyTok ER (barCell c) 0 ((false, (δ, 0, 0)) : Duty))
    ∗ (bigSep Finset.univ fun s : Slot => dutyTok ER (dCell c (semOf false s)) 0 ((false, s) : Duty))
    ∗ bigSep Finset.univ fun s : Slot => dutyTok ER (dCell c (semOf true s)) 0 ((true, s) : Duty))
/-- and those of the duties it pays. -/
def payToks (c : Dev nD) : sProp 𝕄 :=
  iprop(bigSepL (dirs c) (fun δ => dutyTok ER (barCell (nb δ c)) 0 ((false, (δ.opp, 0, 0)) : Duty))
    ∗ bigSepL (ySends c) (toks (F := F) c) ∗ bigSepL (oSends c) (toks c))

omit [FloatOps F] in
theorem bigSep_bool (Φ : Bool → sProp 𝕄) : bigSep Finset.univ Φ = iprop(Φ false ∗ Φ true) :=
  bigSep_univ_eq_bigSepL [false, true] (by decide) (by decide) Φ

omit [FloatOps F] in
theorem mint_eq : bigSep ringToks (fun x => (dutyTok ER x.1 x.2.1 x.2.2 : sProp 𝕄)) = bigSep Finset.univ fun c : Dev nD => mint c := by
  unfold ringToks
  rw [bigSep_map, bigSep_univ_prod]
  refine bigSep_congr fun c _ => ?_
  rw [bigSep_univ_sum, bigSep_univ_prod (α := Bool), bigSep_bool]
  rfl

/-- A device and a direction, seen from the other end. -/
def turnD : Dev nD × Dir ≃ Dev nD × Dir where
  toFun p := (nb p.2 p.1, p.2.opp)
  invFun p := (nb p.2 p.1, p.2.opp)
  left_inv p := Prod.ext (nb_opp_nb p.2 p.1) (Dir.opp_opp p.2)
  right_inv p := Prod.ext (nb_opp_nb p.2 p.1) (Dir.opp_opp p.2)
/-- A device and a slot, seen from the other end. -/
def turnS : Dev nD × Slot ≃ Dev nD × Slot where
  toFun p := (nb p.2.1 p.1, p.2.opp)
  invFun p := (nb p.2.1 p.1, p.2.opp)
  left_inv p := Prod.ext (nb_opp_nb p.2.1 p.1) (Prod.ext (Dir.opp_opp p.2.1) rfl)
  right_inv p := Prod.ext (nb_opp_nb p.2.1 p.1) (Prod.ext (Dir.opp_opp p.2.1) rfl)

omit [FloatOps F] in
theorem toks_around : (bigSep Finset.univ fun c : Dev nD => (mint c : sProp 𝕄)) ⊢ bigSep Finset.univ fun c : Dev nD => payToks c := by
  have e1 := bigSep_univ_equiv turnD (fun p : Dev nD × Dir => (dutyTok ER (barCell p.1) 0 ((false, (p.2, 0, 0)) : Duty) : sProp 𝕄))
  have e2 := bigSep_univ_equiv turnS (fun p : Dev nD × Slot => (dutyTok ER (dCell p.1 (semOf true p.2)) 0 ((true, p.2) : Duty) : sProp 𝕄))
  rw [bigSep_univ_prod, bigSep_univ_prod] at e1 e2
  unfold mint payToks
  rw [bigSep_sep', bigSep_sep', bigSep_sep', bigSep_sep', e1, e2]
  have h3 : iprop((bigSep Finset.univ fun c : Dev nD => bigSep Finset.univ fun s : Slot => (dutyTok ER (dCell c (semOf false s)) 0 ((false, s) : Duty) : sProp 𝕄))
        ∗ bigSep Finset.univ fun c : Dev nD => bigSep Finset.univ fun s : Slot =>
            (dutyTok ER (dCell (nb s.1 c) (semOf true s.opp)) 0 ((true, s.opp) : Duty) : sProp 𝕄))
      ⊢ iprop((bigSep Finset.univ fun c : Dev nD => bigSepL (ySends c) (toks (F := F) c)) ∗ bigSep Finset.univ fun c : Dev nD => bigSepL (oSends c) (toks c)) := by
    rw [← bigSep_sep', ← bigSep_sep']
    refine bigSep_mono fun c _ => ?_
    rw [← bigSep_sep']
    refine (bigSep_subset (Finset.subset_univ (slots c false))).trans ?_
    rw [outs_bigSep]
    exact BI.Entails.refl _
  refine Idealize.SL.BI.sep_mono (bigSep_mono fun c _ => ?_) h3
  refine (bigSep_subset (Finset.subset_univ (dirs c).toFinset)).trans ?_
  rw [bigSep_eq_bigSepL _ (dirs_nodup c)]
  exact BI.Entails.refl _

/-! ## The counts due at launch -/

theorem slot_ne_bar (c d : Dev nD) (n : DmaSem sig) : dCell c n ≠ barCell d := fun h => by
  have h0 : (SemLoc.dma n : SemLoc sig) = .reg barS := congrArg Prod.snd h
  cases h0

theorem sum_apply {α : Type} (f : α → CellTallies nD τ sig Unit) (l : List α) (g : GSem nD τ sig) :
    (l.map f).sum g () = (l.map fun a => f a g ()).sum := by
  induction l with
  | nil => rfl
  | cons a l ih => rw [List.map_cons, List.sum_cons, List.map_cons, List.sum_cons, ← ih]; rfl

theorem owe_bar (d c : Dev nD) (l : List Xf) : owe d l (barCell c) () = 0 := by
  by_contra h
  obtain ⟨t, -, e⟩ := owe_pos (Nat.pos_of_ne_zero h)
  exact slot_ne_bar _ _ _ e.symm

theorem bar_eq_iff (a b : Dev nD) : barCell a = barCell b ↔ a = b :=
  ⟨fun h => congrArg (fun g : GSem nD τ sig => g.1.1) h, fun h => h ▸ rfl⟩

theorem owed_bar (d c : Dev nD) : O₀ d (barCell c) () = ((dirs d).map fun δ => if nb δ d = c then 1 else 0).sum := by
  unfold O₀
  rw [Pi.add_apply, Finsupp.add_apply, Pi.add_apply, Finsupp.add_apply, owe_bar, owe_bar, Nat.add_zero]
  unfold oweBar
  rw [sum_apply]
  refine congrArg List.sum (List.map_congr_left fun δ _ => ?_)
  rw [tallyAt_apply]
  by_cases h : nb δ d = c
  · rw [if_pos ⟨((bar_eq_iff _ _).mpr h).symm, rfl⟩, if_pos h]
  · rw [if_neg (fun h' => h ((bar_eq_iff _ _).mp h'.1).symm), if_neg h]

theorem bars (c : Dev nD) : (∑ d : Dev nD, ((dirs d).map fun δ => if nb δ d = c then 1 else 0).sum) = nDirs c := by
  revert c; decide +kernel

theorem launch_bar (c : Dev nD) :
    tallyOn (barCell c) (launchCredit (Pipeline.owing O₀) 0 (barCell c)) = (tallyAt (barCell c) () (nDirs c) : CellTallies nD τ sig Unit) := by
  unfold tallyAt; refine congrArg _ (Finsupp.ext fun u => ?_); cases u
  rw [Pipeline.launchCredit_owing, Finsupp.single_eq_same, Finset.sum_congr rfl fun d _ => owed_bar d c, bars]

theorem oweBar_slot (d c : Dev nD) (n : DmaSem sig) (l : List Dir) : oweBar d l (dCell c n) () = 0 := by
  by_contra h
  obtain ⟨δ, -, h⟩ := sum_pos _ _ _ _ (Nat.pos_of_ne_zero h)
  exact slot_ne_bar _ _ _ (Pipeline.tallyAt_pos h).1

theorem owed_slot (d : Dev nD) (c : Dev nD) (n : DmaSem sig) :
    O₀ d (dCell c n) () = ∑ s ∈ slots d false, due d s (dCell c n) () := by
  unfold O₀
  rw [Pi.add_apply, Finsupp.add_apply, oweBar_slot, Nat.zero_add, ← owe_append]
  unfold owe
  have hl := outs_list d
  rw [sum_apply, ← hl.2, List.sum_toFinset _ hl.1, List.map_map]
  rfl

/-- A used receive semaphore is due exactly its one transfer. -/
theorem owed_in (c : Dev nD) (s : Slot) (ha : act c true s = true) :
    (∑ d : Dev nD, O₀ d (dCell c (semOf true s)) ()) = amt (rv c s.1 s.2.1) s.2.2 := by
  have hs : s.opp.opp = s := by simp only [Slot.opp, Dir.opp_opp]
  have hnb : nb s.opp.1 (nb s.1 c) = c := nb_opp_nb s.1 c
  have hmem : s.opp ∈ slots (nb s.1 c) false := by
    refine Finset.mem_filter.mpr ⟨Finset.mem_univ _, ?_⟩
    rw [← act_opp, hs, hnb]; exact ha
  have key : ∀ d, ∀ s' ∈ slots d false, due d s' (dCell c (semOf true s)) () ≠ 0 → d = nb s.1 c ∧ s' = s.opp := by
    intro d s' hs' h
    have e := due_pos (Nat.pos_of_ne_zero h)
    have hc : c = nb s'.1 d := congrArg (fun g : GSem nD τ sig => g.1.1) e
    have hn : semOf true s = semOf true s'.opp := by
      have h0 : (SemLoc.dma (semOf true s) : SemLoc sig) = .dma (semOf true s'.opp) := congrArg Prod.snd e
      injection h0
    have ha' := (act_opp d s').trans (Finset.mem_filter.mp hs').2
    obtain ⟨-, e2⟩ := semOf_inj _ _ _ _ (act_valid c true s.1 s.2.1 s.2.2 ha)
      (act_valid (nb s'.1 d) true s'.opp.1 s'.opp.2.1 s'.opp.2.2 ha') hn
    have e3 : s' = s.opp := by rw [e2]; simp only [Slot.opp, Dir.opp_opp]
    refine ⟨?_, e3⟩
    have e4 : nb s.1 c = nb s'.opp.1 (nb s'.1 d) := by rw [← hc, ← e2]
    rw [e4]; exact (nb_opp_nb s'.1 d).symm
  rw [Finset.sum_congr rfl fun d _ => owed_slot d c (semOf true s), Finset.sum_eq_single (nb s.1 c)]
  · rw [Finset.sum_eq_single s.opp]
    · unfold due
      rw [hs, hnb, tallyAt_self]
      rfl
    · intro s' hs' hne
      by_contra h
      exact hne (key _ s' hs' h).2
    · intro h; exact absurd hmem h
  · intro d _ hne
    refine Finset.sum_eq_zero fun s' hs' => ?_
    by_contra h
    exact hne (key d s' hs' h).1
  · intro h; exact absurd (Finset.mem_univ _) h

theorem launch_in (c : Dev nD) (s : Slot) (ha : act c true s = true) :
    tallyOn (dCell c (semOf true s)) (launchCredit (Pipeline.owing O₀) 0 (dCell c (semOf true s)))
      = (tallyAt (dCell c (semOf true s)) () (amt (rv c s.1 s.2.1) s.2.2) : CellTallies nD τ sig Unit) := by
  unfold tallyAt; refine congrArg _ (Finsupp.ext fun u => ?_); cases u
  rw [Pipeline.launchCredit_owing, Finsupp.single_eq_same, owed_in c s ha]

/-- The counts a device starts with: its barrier's and its receives'. -/
def counts (c : Dev nD) : sProp 𝕄 :=
  iprop(cred (tallyAt (barCell c) () (nDirs c))
    ∗ bigSepL (ySends c) (fun t => cred (tallyAt (dCell c (semOf true t.slot)) () (amt t.i t.h)))
    ∗ bigSepL (recvs c) fun t => cred (tallyAt (dCell c (semOf true t.slot)) () (amt t.i t.h)))

theorem inSems_nodup (c : Dev nD) : ((ySends c ++ recvs c).map fun t => (SemLoc.dma (semOf true t.slot) : SemLoc sig)).Nodup := by
  have h := sems_nodup c
  unfold sems at h
  rw [← List.append_assoc, ← List.map_append] at h
  have h := (List.nodup_append.mp h).1
  have := h.map (f := fun n : DmaSem sig => (SemLoc.dma n : SemLoc sig)) (fun a b e => by injection e)
  rw [List.map_map] at this
  exact this

theorem launch_y (c : Dev nD) (t : Xf) (ht : t ∈ ySends c) :
    tallyOn (dCell c (semOf true t.slot)) (launchCredit (Pipeline.owing O₀) 0 (dCell c (semOf true t.slot)))
      = (tallyAt (dCell c (semOf true t.slot)) () (amt t.i t.h) : CellTallies nD τ sig Unit) := by
  obtain ⟨hy, hi⟩ := ySends_spec c t ht
  have ha : act c true t.slot = true := by show (rcv c t.δ t.k).isSome = true; rw [hy, rcv_y]; rfl
  have hv : rv c t.slot.1 t.slot.2.1 = t.i := by show rv c t.δ t.k = _; rw [hy, rv_y, hi]
  have h := launch_in c t.slot ha
  rw [hv] at h
  exact h

theorem launch_r (c : Dev nD) (t : Xf) (ht : t ∈ recvs c) :
    tallyOn (dCell c (semOf true t.slot)) (launchCredit (Pipeline.owing O₀) 0 (dCell c (semOf true t.slot)))
      = (tallyAt (dCell c (semOf true t.slot)) () (amt t.i t.h) : CellTallies nD τ sig Unit) := by
  obtain ⟨hy, hr⟩ := recvs_spec c t ht
  have ha : act c true t.slot = true := by show (rcv c t.δ t.k).isSome = true; rw [hr]; rfl
  have hv : rv c t.slot.1 t.slot.2.1 = t.i := by show (rcv c t.δ t.k).getD 0 = _; rw [hr]; rfl
  have h := launch_in c t.slot ha
  rw [hv] at h
  exact h

def inSet (c : Dev nD) : Finset (SemLoc sig) := ((ySends c ++ recvs c).map fun t => (SemLoc.dma (semOf true t.slot) : SemLoc sig)).toFinset

theorem inSet_sub (c : Dev nD) : inSet c ⊆ Finset.univ.erase (SemLoc.reg barS) := by
  intro g hg
  obtain ⟨t, -, rfl⟩ := List.mem_map.mp (List.mem_toFinset.mp hg)
  exact Finset.mem_erase.mpr ⟨(by intro h; cases h), Finset.mem_univ _⟩

omit [FloatOps F] in
theorem inSet_list (c : Dev nD) (Φ : SemLoc sig → sProp 𝕄) :
    bigSep (inSet c) Φ = iprop(bigSepL (ySends c) (fun t => Φ (.dma (semOf true t.slot))) ∗ bigSepL (recvs c) fun t => Φ (.dma (semOf true t.slot))) := by
  unfold inSet
  rw [bigSep_eq_bigSepL _ (inSems_nodup c), bigSepL_map, bigSepL_append]

omit [FloatOps F] in
theorem locs_split (c : Dev nD) (Φ : SemLoc sig → sProp 𝕄) :
    bigSep Finset.univ Φ ⊢ iprop(Φ (.reg barS) ∗ bigSepL (ySends c) (fun t => Φ (.dma (semOf true t.slot)))
      ∗ bigSepL (recvs c) fun t => Φ (.dma (semOf true t.slot))) := by
  rw [bigSep_univ_at Φ (SemLoc.reg barS), ← inSet_list]
  have h := inSet_sub c
  generalize inSet c = T at h ⊢
  generalize Finset.univ.erase (SemLoc.reg barS : SemLoc sig) = S at h ⊢
  exact sep_mono_right (bigSep_subset h)

omit [FloatOps F] in
theorem counts_intro (c : Dev nD) : (Pipeline.launchCred O₀ c : sProp 𝕄) ⊢ counts c := by
  unfold Pipeline.launchCred counts
  refine (locs_split c _).trans ?_
  rw [launch_bar]
  rw [bigSepL_congr (ySends c) fun t ht => congrArg cred (launch_y c t ht)]
  rw [bigSepL_congr (recvs c) fun t ht => congrArg cred (launch_r c t ht)]

end Cert.KernelIdeal.Gather
-- ==== Proof.Entry.lean ====
/-
# From the launch to the body and back

What a device holds as the kernel is entered, put in the order of the body's loops; what the loops leave, put together
again into whole buffers and counters at zero.
-/
module

public import proofs.«01_k».proof.Proof.Ghost

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : GSem nD τ sig → ℕ) (c : Dev nD)

/-- What the protocol gives a device: what all know, its positions, the tokens of the duties it pays. -/
def ghost : sProp 𝕄 :=
  iprop(ctx m ρ K ∗ bigSep Finset.univ (fun k : Cx => atPos ER (kcell (c, k)) 0 ∅ 0) ∗ payToks c)

/-- The four operands' buffers and the landing buffer, whole. -/
def held (o : (cc0_stg3_0 : Ref sig .tc).ty.Contents (Elt F)) : sProp 𝕄 :=
  iprop(((c : Thread nD τ).loc cc0_stg0_0 ↦{fullShare} pBuf m ρ c) ∗ ((c : Thread nD τ).loc cc0_stg1_0 ↦{fullShare} rBuf m ρ c)
    ∗ ((c : Thread nD τ).loc cc0_stg2_0 ↦{fullShare} gBuf m ρ c) ∗ ((c : Thread nD τ).loc cc0_stg3_0 ↦{fullShare} o))
def scratch (f : (cc0_scratch0 : Ref sig .tc).ty.Contents (Elt F)) : sProp 𝕄 := (c : Thread nD τ).loc cc0_scratch0 ↦{fullShare} f

/-- What the body does not touch. -/
def aside : sProp 𝕄 :=
  iprop(pRest m ρ c ∗ (∃ f, yRest c f) ∗ bigSep (spare c) fun n => atPos ER (dCell c n) 0 ∅ 0)

omit [FloatOps F] in
theorem ySends_list (Φ : Xf → sProp 𝕄) : bigSepL (ySends c) Φ = bigSepL khs fun kh => Φ (yX c kh) := by
  unfold ySends; rw [bigSepL_map]; rfl

theorem entry (f : (cc0_scratch0 : Ref sig .tc).ty.Contents (Elt F)) (o : (cc0_stg3_0 : Ref sig .tc).ty.Contents (Elt F)) :
    iprop(ghost m ρ K c ∗ counts c ∗ scratch c f ∗ held m ρ c o) ⊢ iprop(ctx m ρ K ∗ start m ρ c ∗ aside m ρ c) := by
  unfold ghost counts scratch held payToks start aside operands
  rw [cells_list c (fun g => atPos ER g 0 ∅ 0), p_split, oWhole, bigSepL_append]
  iintro ⟨⟨Hc, ⟨HaB, ⟨Ha1, Ha2, Ha3, Ha4⟩, Hsp⟩, Ht1, Ht2, Ht3⟩, ⟨HcB, Hc1, Hc2⟩, Hy, ⟨Hpl, Hlent, HpR⟩, Hr, Hg, Ho1, Ho2⟩
  ihave ⟨Hyk, HyR⟩ := (y_split c f) $$ Hy
  ihave HrY := (yRooms c f) $$ Hyk
  ihave HrO := (oRooms c o) $$ Ho2
  ihave Hin := (inboxes (F := F) c) $$ [HrY HrO]
  · isplitl [HrY]; · iexact HrY
    iexact HrO
  isplitl [Hc]; · iexact Hc
  isplitr [HpR HyR Hsp]
  · isplitl [Hpl Hr Hg]
    · isplitl [Hpl]; · iexact Hpl
      isplitl [Hr]; · iexact Hr
      iexact Hg
    isplitl [HcB HaB]
    · isplitl [HcB]; · iexact HcB
      iexact HaB
    isplitl [Ht1 Hin]
    · rw [show sigPre (F := F) c = fun δ => iprop(dutyTok ER (barCell (nb δ c)) 0 ((false, (δ.opp, 0, 0)) : Duty) ∗ inbox c δ) from rfl, bigSepL_sep]
      isplitl [Ht1]; · iexact Ht1
      iexact Hin
    isplitl [Ht2 Hlent]
    · rw [bigSepL_sep]
      isplitl [Ht2]; · iexact Ht2
      iexact Hlent
    isplitl [Ht3]; · iexact Ht3
    isplitl [Ha1 Hc1 Ho1]
    · rw [show ownPre (F := F) c = fun kh => iprop(iprop(atPos ER (dCell c (semOf true (yX c kh).slot)) 0 ∅ 0
          ∗ cred (tallyAt (dCell c (semOf true (yX c kh).slot)) () (amt (yX c kh).i (yX c kh).h))) ∗ ∃ f, oPts c (own c kh.1) kh.2 fullShare f) from rfl,
        bigSepL_sep, bigSepL_sep]
      isplitl [Ha1 Hc1]
      · isplitl [Ha1]
        · iapply (Entails.of_eq (ySends_list c fun t => atPos ER (dCell c (semOf true t.slot)) 0 ∅ 0)); iexact Ha1
        iapply (Entails.of_eq (ySends_list (F := F) c fun t => cred (tallyAt (dCell c (semOf true t.slot)) () (amt t.i t.h)))); iexact Hc1
      · iapply (bigSepL_mono (l := khs) (Φ := fun kh => oPts (F := F) c (own c kh.1) kh.2 fullShare o)
          (Ψ := fun kh => iprop(∃ f, oPts c (own c kh.1) kh.2 fullShare f)) fun kh _ => by iintro H; iexists o; iexact H)
        iapply (Entails.of_eq (ySends_list c fun t => oPts c t.i t.h fullShare o)); iexact Ho1
    isplitl [Ha2 Hc2]
    · rw [show claim (F := F) c true = fun t => iprop(atPos ER (dCell c (semOf true t.slot)) 0 ∅ 0
          ∗ cred (tallyAt (dCell c (semOf true t.slot)) () (amt t.i t.h))) from rfl, bigSepL_sep]
      isplitl [Ha2]; · iexact Ha2
      iexact Hc2
    isplitl [Ha3]; · iexact Ha3
    iexact Ha4
  isplitl [HpR]; · iexact HpR
  isplitl [HyR]; · iexists f; iexact HyR
  iexact Hsp

/-- The spare semaphores close as they are. -/
theorem close_spare : iprop(ctx m ρ K ∗ bigSep (spare c) fun n => atPos ER (dCell c n) 0 ∅ 0) ⊢ (|={Set.univ}=> bigSep (spare c) fun n => semVal (dCell c n) 0 : sProp 𝕄) := by
  refine (bigSep_with_persistent fun n hn => ?_).trans (bigSep_fupd _ _)
  have hmem : dCell c n ∈ ringCells := by
    obtain ⟨j, -, hj⟩ := Finset.mem_map.mp (Finset.mem_sdiff.mp hn).1
    exact Finset.mem_map.mpr ⟨(c, some j), Finset.mem_univ _, by rw [← hj]; rfl⟩
  iintro ⟨#Hc, Hat⟩
  ihave #Hi := (ctx_at m ρ K hmem) $$ Hc
  icases Hi with ⟨Hi, -⟩
  iapply (Rounds.cell_close ER (rd m ρ) (Set.mem_univ (K (dCell c n))) (fun h => h) (R := 0) (duties_spare m ρ c n hn))
  isplitr; · iexact Hi
  iexact Hat

theorem exit_body : iprop(ctx m ρ K ∗ stop m ρ c ∗ aside m ρ c)
    ⊢ (|={Set.univ}=> iprop((∃ g, scratch c g) ∗ bigSep Finset.univ (fun k : Cx => semVal (kcell (c, k)) 0) ∗ held m ρ c (outB m ρ c)) : sProp 𝕄) := by
  unfold stop aside operands scratch held
  rw [cells_list c (fun g => semVal g 0), p_split, ← out_join, bigSepL_sep, bigSepL_sep, bigSepL_sep, bigSepL_sep, bigSepL_sep]
  iintro ⟨#Hc, ⟨⟨Hpl, Hr, Hg⟩, HzB, ⟨Hz1, Hyk, Hkept⟩, ⟨Hz2, Hland⟩, ⟨Hz3, Hlent⟩, Hz4, HlentO⟩, HpR, ⟨%f, HyR⟩, Hsp⟩
  imod (close_spare m ρ K c) $$ [Hsp] with Hz5
  · isplitr; · iexact Hc
    iexact Hsp
  imodintro
  isplitl [Hyk HyR]
  · iapply (y_join c (fun kh => yF m ρ c kh.1 (own c kh.1) kh.2) f)
    isplitl [Hyk]; · iexact Hyk
    iexact HyR
  isplitl [HzB Hz1 Hz2 Hz3 Hz4 Hz5]
  · isplitl [HzB]; · iexact HzB
    isplitr [Hz5]
    · isplitl [Hz1]
      · iapply (Entails.of_eq (ySends_list (F := F) c fun t => semVal (dCell c (semOf true t.slot)) 0).symm); iexact Hz1
      isplitl [Hz2]; · iexact Hz2
      isplitl [Hz3]; · iexact Hz3
      iexact Hz4
    iexact Hz5
  isplitl [Hpl Hlent HpR]
  · isplitl [Hpl]; · iexact Hpl
    isplitl [Hlent]; · iexact Hlent
    iexact HpR
  isplitl [Hr]; · iexact Hr
  isplitl [Hg]; · iexact Hg
  isplitl [Hkept HlentO]
  · have e : bigSepL (ySends c) (fun t => oPts c t.i t.h fullShare (oF m ρ c t.i t.h))
        = iprop(bigSepL (oSends c) (fun t => lent m ρ c t.slot) ∗ bigSepL khs (kept m ρ c)) := by
      unfold oSends
      rw [ySends_list, bigSepL_flatMap, ← bigSepL_sep]
      exact bigSepL_congr khs fun kh _ => chunk_shares m ρ c kh
    rw [e]
    isplitl [HlentO]; · iexact HlentO
    iexact Hkept
  iexact Hland

end Cert.KernelIdeal.Gather
-- ==== Proof.Same.lean ====
/-
# The printed body is the loops over the tables

On each of the sixteen devices the printed conditions and device numbers compute, and the printed body unfolds to the
loops of `body`.
-/
module

public import proofs.«01_k».proof.Proof.Prog
public import Idealize.ShloMosaic.Lib.Pipeline.Regions

@[expose] public section

noncomputable section

namespace Cert.KernelIdeal.Gather

open Cert.KernelIdeal Cert.KernelIdeal.Gen
open Idealize.ShloMosaic Idealize.ShloMosaic.TcCoe Idealize.SL.Sem

variable {F : FTy → Type} [FloatOps F]

/-- The body asks for its device first. -/
theorem printed_dev : printed (F := F) = .op .deviceId (fun c => onDev c (printed (F := F))) := by chain_rfl

set_option maxRecDepth 100000 in
/-- What follows is `body`. -/
theorem onDev_printed (c : Dev nD) : onDev c (printed (F := F)) = body c :=
  match c with
  | ⟨0, _⟩ => by chain_rfl
  | ⟨1, _⟩ => by chain_rfl
  | ⟨2, _⟩ => by chain_rfl
  | ⟨3, _⟩ => by chain_rfl
  | ⟨4, _⟩ => by chain_rfl
  | ⟨5, _⟩ => by chain_rfl
  | ⟨6, _⟩ => by chain_rfl
  | ⟨7, _⟩ => by chain_rfl
  | ⟨8, _⟩ => by chain_rfl
  | ⟨9, _⟩ => by chain_rfl
  | ⟨10, _⟩ => by chain_rfl
  | ⟨11, _⟩ => by chain_rfl
  | ⟨12, _⟩ => by chain_rfl
  | ⟨13, _⟩ => by chain_rfl
  | ⟨14, _⟩ => by chain_rfl
  | ⟨15, _⟩ => by chain_rfl
  | ⟨k + 16, h⟩ => absurd h (Nat.not_lt.2 (Nat.le_add_left 16 k))

end Cert.KernelIdeal.Gather
-- ==== Proof.Point.lean ====
/-
# The kernel's one grid point

The run of the body from the copied-in operands to the whole result, as the pipeline asks for it.
-/
module

public import proofs.«01_k».proof.Proof.Entry
public import proofs.«01_k».proof.Proof.Same
public import proofs.«01_k».proof.Proof.Gen.KernelIdeal.Points

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline is told -/

/-- What a device starts from, -/
def begun (c : Dev nD) : sProp 𝕄 := iprop((∃ K, ghost m ρ K c) ∗ counts c ∗ levAts L lv)
def Φ₀ (c : Dev nD) : sProp 𝕄 := iprop(begun m ρ c ∗ ∃ f, scratch c f)
/-- and what it ends with beside its arrays. -/
def Φ₁ (c : Dev nD) : sProp 𝕄 := iprop((∃ f, scratch (F := F) c f) ∗ bigSep Finset.univ fun k : Cx => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pBuf m ρ c
    | ⟨1, _⟩ => rBuf m ρ c
    | ⟨2, _⟩ => gBuf m ρ c
    | ⟨3, _⟩ => outB m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

/-- A whole buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ (F := F) c ∗ (dats m ρ 0 c).owesAt () t0_0.succ
    ∗ stg c cc0_stg0_0 (pBuf m ρ c) ∗ stg c cc0_stg1_0 (rBuf m ρ c) ∗ stg c cc0_stg2_0 (gBuf m ρ c) ∗ stg c cc0_stg3_0 (outB m ρ c))

theorem before_0 (c : Dev nD) (d) : (dats m ρ 0 c).before (0 : Fin 4) t0_0 d = pBuf m ρ c := by
  unfold Dat.before; rw [if_pos (fetch0_0 t0_0)]; rfl
theorem before_1 (c : Dev nD) (d) : (dats m ρ 0 c).before (1 : Fin 4) t0_0 d = rBuf m ρ c := by
  unfold Dat.before; rw [if_pos (fetch0_1 t0_0)]; rfl
theorem before_2 (c : Dev nD) (d) : (dats m ρ 0 c).before (2 : Fin 4) t0_0 d = gBuf m ρ c := by
  unfold Dat.before; rw [if_pos (fetch0_2 t0_0)]; rfl

theorem printed_run (c : Dev nD) (Q : PUnit → sProp 𝕄) : Run c (printed (F := F)) Q = Run c (body c) Q := by
  rw [printed_dev]
  unfold Run
  rw [wp_deviceId]
  exact congrArg (fun P => Run c P Q) (onDev_printed c)

theorem sound_body (c : Dev nD) : bodyPre m ρ c ⊢ Run c (printed (F := F)) (fun _ => bodyPost m ρ c) := by
  rw [printed_run]
  unfold bodyPre Φ₀ begun
  simp only [before_0, before_1, before_2]
  iintro ⟨⟨⟨⟨%K, Hg⟩, Hcnt, #HL⟩, ⟨%f, Hs⟩⟩, Ho, ⟨%d0, %g0, %h0, H0⟩, ⟨%d1, %g1, %h1, H1⟩, ⟨%d2, %g2, %h2, H2⟩, ⟨%d3, %g3, %h3, H3⟩⟩
  subst h0; subst h1; subst h2
  unfold Dat.owesAt Pipeline.owesWithin
  icases Ho with ⟨%W, %hW, HO⟩
  rw [show (dats m ρ 0 c).owed t0_0.castSucc = O₀ c from rfl]
  ihave ⟨#Hc, Hst, Has⟩ := (entry m ρ K c f g3) $$ [Hg Hcnt Hs H0 H1 H2 H3]
  · isplitl [Hg]; · iexact Hg
    isplitl [Hcnt]; · iexact Hcnt
    isplitl [Hs]; · iexact Hs
    unfold held
    isplitl [H0]; · iexact H0
    isplitl [H1]; · iexact H1
    isplitl [H2]; · iexact H2
    iexact H3
  iapply (wp_fupd _ _ _ (body c) (fun _ => bodyPost m ρ c))
  iapply (body_run m ρ K c (fun _ => iprop(|={Set.univ}=> bodyPost m ρ c)) W) $$ [HO Hst]
  · isplitr; · iexact Hc
    isplitr; · iexact HL
    isplitl [HO]; · iexact HO
    iexact Hst
  iintro ⟨⟨%W', HO⟩, Hst⟩
  imod (exit_body m ρ K c) $$ [Hst Has] with ⟨Hs, Hz, Hh⟩
  · isplitr; · iexact Hc
    isplitl [Hst]; · iexact Hst
    iexact Has
  unfold held
  icases Hh with ⟨H0, H1, H2, H3⟩
  unfold bodyPost Φ₁ Dat.owesAt Pipeline.owesWithin
  rw [show (dats m ρ 0 c).owed t0_0.succ = 0 from rfl]
  isplitl [Hs Hz]
  · isplitl [Hs]; · iexact Hs
    iexact Hz
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  exact sound_body m ρ c

end Cert.KernelIdeal.Gather
-- ==== Proof.Launch.lean ====
/-
# The run

The launch deals the semaphores and the tokens; from there every device's pipeline runs its one point to the end.
-/
module

public import proofs.«01_k».proof.Proof.Point
public import Idealize.ShloMosaic.Lib.Pipeline.CollectiveSegs

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at launch -/

def osem (j : Fin 112) : SemLoc sig := .dma (dsem j)

theorem ownSemFacts : Pipeline.OwnSemFacts cfg0.spec osem where
  isScoped := by decide +kernel
  inj a b h := by
    have h1 : dsem a = dsem b := by
      have h : (SemLoc.dma (dsem a) : SemLoc sig) = .dma (dsem b) := h
      injection h
    exact dsem_injective h1
  disj := by decide +kernel

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    (bigSep Finset.univ fun k : Cx => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, cells_split (F := F) c (fun g => semVal g 0)]
  unfold dSems; rw [bigSep_map]; rfl

/-! ## The protocol's state -/

def u₀ : UU :=
  (initOf (Pipeline.cells cfgs cellOf_inj) (Pipeline.launchToks cfgs cellOf_inj), initOf ringCells ringToks)

/-- What a device is dealt; -/
def G (c : Dev nD) : sProp 𝕄 :=
  iprop((bigSep Finset.univ fun k : Cx => roundState ER (rd m ρ) (kcell (c, k)) 0)
    ∗ (bigSep Finset.univ fun k : Cx => iprop(atPos ER (kcell (c, k)) 0 ∅ 0 ∗ reached ER (kcell (c, k)) 0)) ∗ mint c)
/-- once the cells are shared. -/
def G' (c : Dev nD) : sProp 𝕄 := iprop(∃ K, ghost m ρ K c)

omit [FloatOps F] in
theorem over_cells (Φ : GSem nD τ sig → sProp 𝕄) :
    bigSep ringCells Φ = bigSep Finset.univ fun c : Dev nD => bigSep Finset.univ fun k : Cx => Φ (kcell (c, k)) := by
  unfold ringCells; rw [bigSep_map, bigSep_univ_prod]; rfl

theorem fund_ring : BI.own (ER (initOf ringCells ringToks)) ⊢ (|==> bigSep Finset.univ (G m ρ) : sProp 𝕄) := by
  iintro HX
  imod (Rounds.fund ER (rd m ρ) ringCells ringToks) $$ HX with ⟨Hst, Hr, Hat, Htok⟩
  imodintro
  ihave Hst' := (Entails.of_eq (over_cells fun g => roundState ER (rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq mint_eq) $$ Htok
  unfold G; simp only [bigSep_sep']
  isplitl [Hst']; · iexact Hst'
  isplitl [Hat' Hr']
  · isplitl [Hat']; · iexact Hat'
    iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cx => iprop(∃ κ : ℕ, cellInv ER (rd m ρ) κ (kcell (c, k))))
          ∗ (bigSep Finset.univ fun k : Cx => iprop(atPos ER (kcell (c, k)) 0 ∅ 0 ∗ reached ER (kcell (c, k)) 0)) ∗ mint c) := by
  have hinv : iprop((bigSep Finset.univ fun k : Cx => semVal (kcell (c, k)) 0) ∗ bigSep Finset.univ fun k : Cx => roundState ER (rd m ρ) (kcell (c, k)) 0)
      ⊢ (|={Set.univ}=> bigSep Finset.univ fun k : Cx => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  rw [sems0_eq] at hinv
  unfold G
  iintro ⟨Hos, Hus, Hst, Hat, Htok⟩
  imod hinv $$ [Hos Hus Hst] with Hinv
  · isplitl [Hos Hus]
    · isplitl [Hus]; · iexact Hus
      iexact Hos
    iexact Hst
  imodintro
  isplitl [Hinv]; · iexact Hinv
  isplitl [Hat]; · iexact Hat
  iexact Htok

theorem regroup :
    (bigSep Finset.univ fun c : Dev nD => iprop((bigSep Finset.univ fun k : Cx => iprop(∃ κ : ℕ, cellInv ER (rd m ρ) κ (kcell (c, k))))
          ∗ (bigSep Finset.univ fun k : Cx => iprop(atPos ER (kcell (c, k)) 0 ∅ 0 ∗ reached ER (kcell (c, k)) 0)) ∗ mint c) : sProp 𝕄)
      ⊢ bigSep Finset.univ (G' m ρ) := by
  rw [bigSep_sep', bigSep_sep', ← over_cells (fun g => iprop(∃ κ : ℕ, cellInv ER (rd m ρ) κ g)),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← over_cells (fun g => (reached ER g 0 : sProp 𝕄))]
  iintro ⟨HI, ⟨Hat, #HR⟩, Htok⟩
  ihave HK := (BI.bigSep_exists_pi ringCells (fun (g : GSem nD τ sig) (κ : ℕ) => (cellInv ER (rd m ρ) κ g : sProp 𝕄))) $$ HI
  icases HK with ⟨%K, #HI⟩
  ihave Htk := (toks_around (F := F)) $$ Htok
  have hctx : iprop((bigSep ringCells fun g => cellInv ER (rd m ρ) (K g) g) ∗ bigSep ringCells fun g => reached ER g 0) ⊢ ctx m ρ K := by
    unfold ctx; rw [bigSep_sep']
  iapply (bigSep_with_persistent (R := ctx m ρ K) (Φ := fun c : Dev nD => iprop(bigSep Finset.univ (fun k : Cx => atPos ER (kcell (c, k)) 0 ∅ 0) ∗ payToks c))
    (Ψ := G' m ρ) fun c _ => by
      unfold G' ghost
      iintro ⟨Hc, Hl⟩
      iexists K
      isplitl [Hc]; · iexact Hc
      iexact Hl)
  isplitr
  · iapply hctx
    isplitr; · iexact HI
    iexact HR
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The pipeline's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begun m ρ c ∗ emp) := by
  iintro ⟨-, Hlev, Hcr, -, HG⟩
  ihave Hc := (counts_intro (F := F) c) $$ Hcr
  imodintro
  unfold begun G'
  isplitl
  · isplitl [HG]; · iexact HG
    isplitl [Hc]; · iexact Hc
    iexact Hlev
  · iempintro

theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), SemLoc.dma ((cfg0.win w).sem s)) () ≤ 0 := by revert c; fin_cases w <;> fin_cases s <;> decide
    rcases t with ⟨_ | _, ht⟩
    · exact mayWait c _ (O₀ c) 0 hl fun g u h => O₀_pos h
    · exact mayWait c _ 0 0 hl fun g u h => absurd h (Nat.lt_irrefl 0)

theorem share_eq (c : Dev nD) (w : Fin cfg0.W) : (dats m ρ 0 c).share w = fullShare := by unfold Dat.share; split <;> rfl

/-! ## The run -/

/-- What the arrays hold at the end. -/
def finalA (c : Dev nD) (w : Fin cfg0.W) : Buf (Elt F) ((cfg0.win w).arr.view.loc (c : Thread nD τ)) := (dats m ρ 0 c).arrAt w cfg0.N

def Ends (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- On sixteen devices, from any memory with the counters at zero, every fair run of @main ends, with the arrays as
    computed and the counters at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := begun m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KernelIdeal.Gather
-- ==== Proof.Frames.lean ====
/-
# The run leaves the arguments

The run over any floats, and the same for the kernel as printed: its text is the same.
-/
module

public import proofs.«01_k».proof.Proof.Launch
public import proofs.«01_k».proof.Proof.Gen.Kernel
public import proofs.«01_k».proof.Defs

@[expose] public section

noncomputable section

namespace Cert.KernelIdeal.Gather

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem finalA_0 (c : Dev nD) : finalA m ρ c (0 : Fin 4) = m ((c.tc : Thread nD τ).loc main_arg0) := (dats (F := F) m ρ 0 c).arrAt_in (0 : Fin 4) rfl _
theorem finalA_1 (c : Dev nD) : finalA m ρ c (1 : Fin 4) = m ((c.tc : Thread nD τ).loc main_arg1) := (dats (F := F) m ρ 0 c).arrAt_in (1 : Fin 4) rfl _
theorem finalA_2 (c : Dev nD) : finalA m ρ c (2 : Fin 4) = m ((c.tc : Thread nD τ).loc main_arg2) := (dats (F := F) m ρ 0 c).arrAt_in (2 : Fin 4) rfl _

/-- The result, the arguments and the counters at the end of the run. -/
theorem run_arrays : θ_run defs (onTc (τ := τ) (main (F := F))) ⟨m, fun _ => 0, ρ⟩ (fun r => (∀ c : Dev nD,
      r.2.mem ((c.tc : Thread nD τ).loc main_v1) = finalA m ρ c (3 : Fin 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨h.1 c (3 : Fin 4), (h.1 c (0 : Fin 4)).trans (finalA_0 m ρ c),
    (h.1 c (1 : Fin 4)).trans (finalA_1 m ρ c), (h.1 c (2 : Fin 4)).trans (finalA_2 m ρ c)⟩, h.2⟩) (run_main m ρ)

/-- The arguments and the counters alone. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_arrays m ρ)

theorem frame_ideal : Cert.quiescent_KernelIdeal (hKernelIdeal := Cert.KernelIdeal.Gen.facts) := fun m ρ _ => run_args (F := Ideal) m ρ

section Same
attribute [local instance] Cert.Kernel.Gen.facts

/-- The two texts' body tables agree label by label. -/
theorem tables_eq : Cert.Kernel.defs₀ (F := F) = Cert.KernelIdeal.defs₀ (F := F) := by
  refine congrArg Defs.onTc (funext fun l => funext fun a => ?_)
  match l, a with
  | 0, (t, s) => rfl

theorem defs_eq : Cert.Kernel.defs (F := F) = Cert.KernelIdeal.defs (F := F) := congrArg (Pipeline.defs Cert.KernelIdeal.pcfgs) tables_eq

/-- The printed text makes the same run. -/
theorem run_printed (m : (ℓ : Loc Cert.Kernel.nD Cert.Kernel.τ Cert.Kernel.sig) → Buf (Elt F) ℓ) (ρ : Dev Cert.Kernel.nD → PrngReg)
    (Q : _ → Prop) (h : θ_run Cert.KernelIdeal.defs (onTc (τ := Cert.KernelIdeal.τ) (Cert.KernelIdeal.main (F := F))) ⟨m, fun _ => 0, ρ⟩ Q) :
    θ_run Cert.Kernel.defs (onTc (τ := Cert.Kernel.τ) (Cert.Kernel.main (F := F))) ⟨m, fun _ => 0, ρ⟩ Q := by
  rw [defs_eq]; exact h
end Same

theorem frame_printed : Cert.quiescent_Kernel (hKernel := Cert.Kernel.Gen.facts) := fun m ρ _ => run_printed (F := Bits) m ρ _ (run_args (F := Bits) m ρ)

end Cert.KernelIdeal.Gather
-- ==== Proof.RefRun.lean ====
/-
# The reference's run

The reference has no semaphore, so its run's end has every counter at zero.
-/
module

public import proofs.«01_k».proof.Defs
public import proofs.«01_k».proof.Proof.Gen.ReferenceIdeal.Run
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.SL.Sem

/-- The reference ends, leaves its arguments as they were and has no counter above zero. -/
theorem frame_ref : Cert.quiescent_ReferenceIdeal (hReferenceIdeal := Cert.ReferenceIdeal.Gen.facts) := fun m ρ _ =>
  (θ_run defs _ _).mono (fun r h => ⟨fun c => (h c).2, sem_eq_zero_of_no_sems rfl r.2⟩) (run (F := Ideal) m ρ)

end Cert.ReferenceIdeal.Value
-- ==== Proof.Row.lean ====
/-
# One row, over the extended reals

Both programs normalise a row in the same way: each entry is divided by the row's root mean square and scaled. Here
the kernel's chunk is read at an entry as that formula.
-/
module

public import proofs.«01_k».proof.Proof.Prog
public import Idealize.ShloMosaic.Lib.Pointwise

@[expose] public section

noncomputable section

namespace Cert.KernelIdeal.Gather

open Cert.KernelIdeal Cert.KernelIdeal.Gen
open Idealize.ShloMosaic Idealize.SL.Sem
open scoped BigOperators

/-- A row's root mean square: the root of the mean of the squares plus a small constant. -/
def rowRms (y : Fin 1024 → EReal) : EReal :=
  Ideal.sqrt (Ideal.div (∑ k, y k * y k) (Ideal.ofBits .f32 0x44800000#32) + Ideal.ofBits .f32 0x358637BD#32)

/-- The row's entry `j`, normalised and scaled by `g`. -/
def rowOut (y : Fin 1024 → EReal) (g : EReal) (j : Fin 1024) : EReal := Ideal.div (y j) (rowRms y) * g

set_option maxRecDepth 16384 in
/-- A chunk's result at an entry. -/
theorem pay_apply {n : ℕ} (hn : Ok n) (p y r : Vec Ideal (sh n) .f32) (g : Vec Ideal S1024 .f32) (a : Fin n) (j : Fin 1024) :
    pay (F := Ideal) hn p y r g (ix2 a j) = rowOut (fun k => p (ix2 a k) + y (ix2 a k) + r (ix2 a k)) (g (ix1 j)) j := by
  rcases hn with rfl | rfl <;> pointwise [pay, sum3, rms, rowOut, rowRms]

end Cert.KernelIdeal.Gather
-- ==== Proof.Arrays.lean ====
/-
# What the arrays hold

Each window's one block is its whole array, so what the kernel reads of an operand is the operand, and what it leaves
in its result's buffer is the result.
-/
module

public import proofs.«01_k».proof.Proof.Frames
public import proofs.«01_k».proof.Proof.Row
public import Idealize.ShloMosaic.Lib.Pipeline.Value

@[expose] public section

noncomputable section

namespace Cert.KernelIdeal.Gather

open Cert.KernelIdeal Cert.KernelIdeal.Gen
open Idealize.ShloMosaic Idealize.ShloMosaic.TcCoe Idealize.SL.Sem

/-! ## Blocks are whole arrays -/

theorem blk0_emb (t : Fin cfg0.N) (i : S1x1024x1024.Idx) : (win0_0.blk t).view.emb i = i := by
  obtain rfl := fin_N0 t
  funext a
  match a with
  | ⟨0, _⟩ => exact Fin.ext (by show 0 * 1 + 1 * (i 0).val = (i 0).val; omega)
  | ⟨1, _⟩ => exact Fin.ext (by show 0 * 1024 + 1 * (i 1).val = (i 1).val; omega)
  | ⟨2, _⟩ => exact Fin.ext (by show 0 * 1024 + 1 * (i 2).val = (i 2).val; omega)

theorem blk1_emb (t : Fin cfg0.N) (i : S1024x1024.Idx) : (win0_1.blk t).view.emb i = i := by
  obtain rfl := fin_N0 t
  funext a
  match a with
  | ⟨0, _⟩ => exact Fin.ext (by show 0 * 1024 + 1 * (i 0).val = (i 0).val; omega)
  | ⟨1, _⟩ => exact Fin.ext (by show 0 * 1024 + 1 * (i 1).val = (i 1).val; omega)

theorem blk2_emb (t : Fin cfg0.N) (i : S1024.Idx) : (win0_2.blk t).view.emb i = i := by
  obtain rfl := fin_N0 t
  funext a
  match a with
  | ⟨0, _⟩ => exact Fin.ext (by show 0 * 1024 + 1 * (i 0).val = (i 0).val; omega)

theorem blk3_emb (t : Fin cfg0.N) (i : S1024x1024.Idx) : (win0_3.blk t).view.emb i = i := by
  obtain rfl := fin_N0 t
  funext a
  match a with
  | ⟨0, _⟩ => exact Fin.ext (by show 0 * 1024 + 1 * (i 0).val = (i 0).val; omega)
  | ⟨1, _⟩ => exact Fin.ext (by show 0 * 1024 + 1 * (i 1).val = (i 1).val; omega)

section
variable {F : FTy → Type} [FloatOps F]
variable (m : (ℓ : Loc nD τ sig) → Buf (Elt F) ℓ) (ρ : Dev nD → PrngReg) (c : Dev nD)

theorem pBuf_eq : pBuf m ρ c = m ((c.tc : Thread nD τ).loc main_arg0) := funext fun i => congrArg (m ((c.tc : Thread nD τ).loc main_arg0)) (blk0_emb t0_0 i)
theorem rBuf_eq : rBuf m ρ c = m ((c.tc : Thread nD τ).loc main_arg1) := funext fun i => congrArg (m ((c.tc : Thread nD τ).loc main_arg1)) (blk1_emb t0_0 i)
theorem gBuf_eq : gBuf m ρ c = m ((c.tc : Thread nD τ).loc main_arg2) := funext fun i => congrArg (m ((c.tc : Thread nD τ).loc main_arg2)) (blk2_emb t0_0 i)

theorem cover (i : S1024x1024.Idx) : ∃ t : Fin cfg0.N, (cfg0.win 3).flush t = true ∧ i ∈ ((cfg0.win 3).blk t).view.set :=
  ⟨t0_0, flush0_3 _, Finset.mem_map.mpr ⟨i, Finset.mem_univ _, blk3_emb t0_0 i⟩⟩

/-- The result array ends as what the body leaves in its buffer. -/
theorem finalA_3 : finalA m ρ c (3 : Fin 4) = outB m ρ c := by
  refine (dats m ρ 0 c).arrAt_eq_of_cover (3 : Fin 4) (outB m ρ c) (fun t _ => ?_) cover
  show outB m ρ c = _
  exact funext fun i => congrArg (outB m ρ c) (blk3_emb t i).symm

/-! ## The chunks' rows -/

theorem oC_emb (i : Fin 5) (h : Fin 8) (a : Fin (cN i h)) (j r : Fin 1024) (e : r.val = cLo i h + a.val) :
    (oC i h).view.emb (ix2 a j) = ix2 r j := by
  funext ax
  match ax with
  | ⟨0, _⟩ => exact Fin.ext (by show cLo i h + 1 * a.val = r.val; omega)
  | ⟨1, _⟩ => exact Fin.ext (by show 0 + 1 * j.val = j.val; omega)

theorem pC_emb (i : Fin 5) (h : Fin 8) (a : Fin (cN i h)) (j r : Fin 1024) (e : r.val = cLo i h + a.val) :
    (pC i h).view.emb (ix2 a j) = ix3 0 r j := by
  show (pM.view.emb ((oR i h).emb (ix2 a j))) = _
  have e1 : (oR i h).emb (ix2 a j) = (ix2 r j : S1024x1024.Idx) := oC_emb i h a j r e
  rw [e1]
  have e2 : Shape.reshapeEquiv squeezes_S1x1024x1024_S1024x1024.numel_eq (ix2 r j : S1024x1024.Idx) = (ix3 0 r j : S1x1024x1024.Idx) := by pointwise
  show (p3M.slice (Rect.unit (s := S1x1024x1024) ![0, 0, 0] S1x1024x1024.size inb_S1x1024x1024_S1x1024x1024_0_0_0) (fun _ => rfl)).view.emb
    (Shape.reshapeEquiv squeezes_S1x1024x1024_S1024x1024.numel_eq (ix2 r j : S1024x1024.Idx)) = _
  rw [e2]
  funext ax
  match ax with
  | ⟨0, _⟩ => rfl
  | ⟨1, _⟩ => exact Fin.ext (by show 0 + 1 * r.val = r.val; omega)
  | ⟨2, _⟩ => exact Fin.ext (by show 0 + 1 * j.val = j.val; omega)

/-- A chunk's result is device `s`'s payload at the row's place in the chunk. -/
theorem oF_apply (s : Dev nD) (i : Fin 5) (h : Fin 8) (a : Fin (cN i h)) (j r : Fin 1024) (e : r.val = cLo i h + a.val) :
    oF m ρ s i h (ix2 r j) = val m ρ s i h (ix2 a j) := by
  unfold oF
  rw [← oC_emb i h a j r e, View.write_emb_of_mem _ _ (Finset.mem_univ _)]
  rfl

theorem pRows_apply (s : Dev nD) (i : Fin 5) (h : Fin 8) (a : Fin (cN i h)) (j r : Fin 1024) (e : r.val = cLo i h + a.val) :
    pRows m ρ s i h (ix2 a j) = (m ((s.tc : Thread nD τ).loc main_arg0) : Vec F S1x1024x1024 .f32) (ix3 0 r j) := by
  unfold pRows
  rw [pBuf_eq]
  exact congrArg _ (pC_emb i h a j r e)

theorem rRows_apply (s : Dev nD) (i : Fin 5) (h : Fin 8) (a : Fin (cN i h)) (j r : Fin 1024) (e : r.val = cLo i h + a.val) :
    rM.view.readAt (Elt F) (oR i h).toLoadRect (rBuf m ρ s) (ix2 a j) = (m ((s.tc : Thread nD τ).loc main_arg1) : Vec F S1024x1024 .f32) (ix2 r j) := by
  rw [rBuf_eq]
  exact congrArg _ (oC_emb i h a j r e)

theorem gRow_apply (s : Dev nD) (j : Fin 1024) :
    gM.view.readAt (Elt F) gR.toLoadRect (gBuf m ρ s) (ix1 j) = (m ((s.tc : Thread nD τ).loc main_arg2) : Vec F S1024 .f32) (ix1 j) := by
  rw [gBuf_eq]
  refine congrArg (m ((s.tc : Thread nD τ).loc main_arg2) : Vec F S1024 .f32) (funext fun ax => ?_)
  match ax with
  | ⟨0, _⟩ => exact Fin.ext (by show 0 + 1 * j.val = j.val; omega)

end

end Cert.KernelIdeal.Gather
-- ==== Proof.RefValue.lean ====
/-
# What the reference computes

The reference's result as one function of its three arguments, and its entry in row `r` and column `j`.
-/
module

public import proofs.«01_k».proof.Proof.Row
public import proofs.«01_k».proof.Proof.RefRun

@[expose] public section

noncomputable section

namespace Cert.ReferenceIdeal.Value

open Cert.ReferenceIdeal Cert.ReferenceIdeal.Gen
open Idealize.ShloMosaic Idealize.ShloMosaic.TcCoe Idealize.SL.Sem
open Cert.KernelIdeal.Gather (rowOut rowRms)

/-- The sum of the two halves and the residual. -/
def total (A0 : FVec Ideal S2x1024x1024 .f32) (A1 : FVec Ideal S1024x1024 .f32) : FVec Ideal S1024x1024 .f32 :=
  addf (Host.reduceAdd A0 (constant S_ .f32 0x00000000#32) reducesTo_S2x1024x1024_S1024x1024_d0 h_S_) A1

/-- The whole result. -/
def result (A0 : FVec Ideal S2x1024x1024 .f32) (A1 : FVec Ideal S1024x1024 .f32) (A2 : FVec Ideal S1024 .f32) : FVec Ideal S1024x1024 .f32 :=
  mulf (Host.divf (total A0 A1) (broadcastInDim S1024x1024 ![0, 1] bcast_S1024x1_S1024x1024_0_1 (Host.sqrt (addf (Host.divf
    (broadcastInDim S1024x1 ![0] bcast_S1024_S1024x1_0 (Host.reduceAdd (mulf (total A0 A1) (total A0 A1)) (constant S_ .f32 0x00000000#32) reducesTo_S1024x1024_S1024_d1 h_S_))
    (broadcastInDim S1024x1 ![] bcast_S_S1024x1 (constant S_ .f32 0x44800000#32))) (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 A2))

set_option maxRecDepth 16384 in
/-- The result in row `r` and column `j`: the row's two halves and residual summed, normalised and scaled. -/
theorem result_apply (A0 : FVec Ideal S2x1024x1024 .f32) (A1 : FVec Ideal S1024x1024 .f32) (A2 : FVec Ideal S1024 .f32) (r j : Fin 1024) :
    result A0 A1 A2 (ix2 r j) = rowOut (fun k => A0 (ix3 0 r k) + A0 (ix3 1 r k) + A1 (ix2 r k)) (A2 (ix1 j)) j := by
  pointwise [result, total, rowOut, rowRms]
  simp only [Fin.sum_univ_two]

/-- The reference ends with that result and its arguments unchanged. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run (F := Ideal) m ρ

end Cert.ReferenceIdeal.Value
-- ==== Proof.Value.lean ====
/-
# The kernel's result is the reference's

On every device, row `r` of the result was computed by some device, from its own half of the sum and its partner's:
these are the reference's two halves in one order or the other, so the row is the reference's.
-/
module

public import proofs.«01_k».proof.Proof.Arrays
public import proofs.«01_k».proof.Proof.RefValue

@[expose] public section

noncomputable section

namespace Cert.KernelIdeal.Gather

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A device's three arguments. -/
abbrev argP (c : Dev nD) : FVec Ideal S1x1024x1024 .f32 := m ((c.tc : Thread nD τ).loc main_arg0)
abbrev argR (c : Dev nD) : FVec Ideal S1024x1024 .f32 := m ((c.tc : Thread nD τ).loc main_arg1)
abbrev argG (c : Dev nD) : FVec Ideal S1024 .f32 := m ((c.tc : Thread nD τ).loc main_arg2)

/-- What device `s` computes for row `r`. -/
theorem val_apply (s : Dev nD) (i : Fin 5) (h : Fin 8) (a : Fin (cN i h)) (j r : Fin 1024) (e : r.val = cLo i h + a.val) :
    val m ρ s i h (ix2 a j)
      = rowOut (fun k => argP m s (ix3 0 r k) + argP m (nb .y s) (ix3 0 r k) + argR m s (ix2 r k)) (argG m s (ix1 j)) j := by
  unfold val
  rw [pay_apply, gRow_apply]
  congr 1
  funext k
  rw [pRows_apply m ρ s i h a k r e, pRows_apply m ρ (nb .y s) i h a k r e, rRows_apply m ρ s i h a k r e]

/-- The device whose work row `r` of device `c`'s result is. -/
def rowSrc (c : Dev nD) (r : Fin 1024) : Dev nD := srcOf c (rowOf r).1

/-- Row `r` of the result on device `c`. -/
theorem outB_apply (c : Dev nD) (r j : Fin 1024) :
    (outB m ρ c : FVec Ideal S1024x1024 .f32) (ix2 r j)
      = rowOut (fun k => argP m (rowSrc c r) (ix3 0 r k) + argP m (nb .y (rowSrc c r)) (ix3 0 r k) + argR m (rowSrc c r) (ix2 r k))
          (argG m (rowSrc c r) (ix1 j)) j := by
  have hr : cLo (rowOf r).1 (rowOf r).2 ≤ r.val ∧ r.val < cLo (rowOf r).1 (rowOf r).2 + cN (rowOf r).1 (rowOf r).2 := (row_chunk r).choose_spec
  have e : r.val = cLo (rowOf r).1 (rowOf r).2 + (⟨r.val - cLo (rowOf r).1 (rowOf r).2, by omega⟩ : Fin (cN (rowOf r).1 (rowOf r).2)).val := by
    show r.val = _ + (r.val - _); omega
  show oF m ρ (rowSrc c r) (rowOf r).1 (rowOf r).2 (ix2 r j) = _
  rw [oF_apply m ρ _ _ _ _ j r e, val_apply m ρ _ _ _ _ j r e]

/-! ## The reference's halves -/

/-- A device's place across `y`. -/
def yOf (c : Dev nD) : Fin 2 := ⟨c.val / 4 % 2, Nat.mod_lt _ (by decide)⟩

theorem yOf_nb (c : Dev nD) : yOf (nb .y c) = 1 - yOf c := by revert c; decide

/-- The half that a device holds, at an entry. -/
theorem half_apply (A : FVec Ideal ⟨3, ![2, 1024, 1024]⟩ .f32) (c : Dev nD) (r k : Fin 1024) :
    (Layout.blockN ⟨3, ![1, 1024, 1024]⟩ ⟨3, ![2, 1024, 1024]⟩ (Layout.meshBlock [2, 2, 4] ![[1], [], []] c) A
      : FVec Ideal S1x1024x1024 .f32) (ix3 0 r k) = A (ix3 (yOf c) r k) := by
  refine congrArg A (funext fun ax => Fin.ext ?_)
  match ax with
  | ⟨0, _⟩ => show (c.val / 4 % 2 * 1 + 0) * 1 + 0 = c.val / 4 % 2; omega
  | ⟨1, _⟩ => show 0 * 1024 + r.val = r.val; omega
  | ⟨2, _⟩ => show 0 * 1024 + k.val = k.val; omega

/-- Two partners' halves sum to the reference's. -/
theorem halves (A : Fin 2 → EReal) (c : Dev nD) : A (yOf c) + A (yOf (nb .y c)) = A 0 + A 1 := by
  rw [yOf_nb]
  generalize yOf c = y
  match y with
  | 0 => rfl
  | 1 => exact add_comm _ _

/-- Every device's result is the reference's. -/
theorem outB_eq (A0 : FVec Ideal ⟨3, ![2, 1024, 1024]⟩ .f32) (A1 : FVec Ideal S1024x1024 .f32) (A2 : FVec Ideal S1024 .f32)
    (h : ∀ c : Dev nD, argP m c = Layout.blockN ⟨3, ![1, 1024, 1024]⟩ ⟨3, ![2, 1024, 1024]⟩ (Layout.meshBlock [2, 2, 4] ![[1], [], []] c) A0
      ∧ argR m c = A1 ∧ argG m c = A2) (c : Dev nD) :
    (outB m ρ c : FVec Ideal S1024x1024 .f32) = Cert.ReferenceIdeal.Value.result A0 A1 A2 := by
  funext x
  obtain ⟨r, j, rfl⟩ : ∃ (r j : Fin 1024), x = ix2 r j := ⟨x 0, x 1, eq_ix2 x⟩
  rw [outB_apply, Cert.ReferenceIdeal.Value.result_apply, (h (rowSrc c r)).2.1, (h (rowSrc c r)).2.2]
  congr 1
  funext k
  rw [(h (rowSrc c r)).1, (h (nb .y (rowSrc c r))).1, half_apply, half_apply, halves (fun y => A0 (ix3 y r k))]

/-- The kernel's results and the reference's are equal. -/
theorem algebraic : Cert.algebraic_KernelIdeal_ReferenceIdeal (hKernelIdeal := Cert.KernelIdeal.Gen.facts)
    (hReferenceIdeal := Cert.ReferenceIdeal.Gen.facts) := fun m ρ m' ρ' _ h =>
  ⟨_, (θ_run defs _ _).mono (fun r hr c => ⟨(hr.1 c).1.trans ((finalA_3 m ρ c).trans (outB_eq m ρ _ _ _ h c)), (hr.1 c).2⟩) (run_arrays (F := Ideal) m ρ),
    (θ_run Cert.ReferenceIdeal.defs _ _).mono (fun r hr => hr 0) (Cert.ReferenceIdeal.Value.run_result m' ρ')⟩

end Cert.KernelIdeal.Gather
-- ==== Proof.lean ====
/- The claims, assembled. -/
module

public import proofs.«01_k».proof.Defs
public import proofs.«01_k».proof.Proof.Frames
public import proofs.«01_k».proof.Proof.RefRun
public import proofs.«01_k».proof.Proof.Value

@[expose] public section

noncomputable section

namespace Cert.Proof

open Cert.KernelIdeal.Gather Cert.ReferenceIdeal.Value

/-- Both texts of the kernel and the reference end with their arguments unchanged and every counter at zero, and on
    every device the kernel's result, over the extended reals, is the reference's. -/
theorem claim : Cert.Claim := ⟨Cert.Kernel.Gen.facts, Cert.KernelIdeal.Gen.facts, Cert.ReferenceIdeal.Gen.facts,
  frame_printed, frame_ideal, frame_ref, trivial, algebraic⟩

end Cert.Proof

end
